-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v591) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S4096x471 : Shape := ⟨2, ![4096, 471]⟩
abbrev S64x471 : Shape := ⟨2, ![64, 471]⟩
abbrev S471 : Shape := ⟨1, ![471]⟩
abbrev S1 : Shape := ⟨1, ![1]⟩
abbrev S471x471 : Shape := ⟨2, ![471, 471]⟩
abbrev S471x64 : Shape := ⟨2, ![471, 64]⟩
abbrev S64x64 : Shape := ⟨2, ![64, 64]⟩
abbrev S_ : Shape := ⟨0, ![]⟩
abbrev S64 : Shape := ⟨1, ![64]⟩
abbrev S1x471 : Shape := ⟨2, ![1, 471]⟩
abbrev S51 : Shape := ⟨1, ![51]⟩
abbrev S50 : Shape := ⟨1, ![50]⟩
abbrev S50x1 : Shape := ⟨2, ![50, 1]⟩

class Facts : Prop where
  transposes_S64x471_S471x64_1_0 : S64x471.Transposes [1, 0] S471x64
  reducesTo_S64x64_S64_d1 : S64x64.ReducesTo [1] S64
  h_S_ : 0 < S_.numel
  reducesTo_S64_S_d0 : S64.ReducesTo [0] S_
  bcast_S_S64x64 : S_.BroadcastsInDim S64x64 (![] : Fin 0 → Fin S64x64.rank)
  transposes_S471x471_S471x471_1_0 : S471x471.Transposes [1, 0] S471x471
  bcast_S471_S1x471_1 : S471.BroadcastsInDim S1x471 (![1] : Fin 1 → Fin S1x471.rank)
  bcast_S1x471_S4096x471_0_1 : S1x471.BroadcastsInDim S4096x471 (![0, 1] : Fin 2 → Fin S4096x471.rank)
  reducesTo_S4096x471_S471_d0 : S4096x471.ReducesTo [0] S471
  bcast_S_S471 : S_.BroadcastsInDim S471 (![] : Fin 0 → Fin S471.rank)
  bcast_S1_S471_0 : S1.BroadcastsInDim S471 (![0] : Fin 1 → Fin S471.rank)
  bcast_S1_S64_0 : S1.BroadcastsInDim S64 (![0] : Fin 1 → Fin S64.rank)
  bcast_S_S1 : S_.BroadcastsInDim S1 (![] : Fin 0 → Fin S1.rank)
  reducesTo_S471_S_d0 : S471.ReducesTo [0] S_
  sliceFits_S471_S51 : S471.Slices (fun _ => 0) S51
  slices_S51_S1_49 : S51.Slices ![49] S1
  shapeCasts_S1_S_ : S1.ShapeCasts S_
  slices_S51_S1_50 : S51.Slices ![50] S1
  sliceFits_S471_S50 : S471.Slices (fun _ => 0) S50
  bcast_S_S50 : S_.BroadcastsInDim S50 (![] : Fin 0 → Fin S50.rank)
  bcast_S50_S50x1_0 : S50.BroadcastsInDim S50x1 (![0] : Fin 1 → Fin S50x1.rank)
  bcast_S_S4096x471 : S_.BroadcastsInDim S4096x471 (![] : Fin 0 → Fin S4096x471.rank)
  bcast_S_S64x471 : S_.BroadcastsInDim S64x471 (![] : Fin 0 → Fin S64x471.rank)
  bcast_S_S471x471 : S_.BroadcastsInDim S471x471 (![] : Fin 0 → Fin S471x471.rank)
  dot_S64x471_S471x64_S64x64_1_0_0_1_n_n_wf : DotDims.WF S64x471 S471x64 S64x64 [1] [0] [0] [1] [] []
  dot_S64x64_S64x64_S64x64_1_0_0_1_n_n_wf : DotDims.WF S64x64 S64x64 S64x64 [1] [0] [0] [1] [] []
  dot_S4096x471_S471x471_S4096x471_1_0_0_1_n_n_wf : DotDims.WF S4096x471 S471x471 S4096x471 [1] [0] [0] [1] [] []
  dot_S64x471_S471_S64_1_0_0_n_n_n_wf : DotDims.WF S64x471 S471 S64 [1] [0] [0] [] [] []
  dot_S64x64_S64_S64_1_0_0_n_n_n_wf : DotDims.WF S64x64 S64 S64 [1] [0] [0] [] [] []
  dot_S471x64_S64_S471_1_0_0_n_n_n_wf : DotDims.WF S471x64 S64 S471 [1] [0] [0] [] [] []
  scatter_S471_S50x1_S50_n_0_0_1_wf : ScatterDims.WF S471 S50x1 S50 [] [0] [0] 1

variable [Facts]

def dot_S64x471_S471x64_S64x64_1_0_0_1_n_n : DotDims S64x471 S471x64 S64x64 where
  lhsContracting := [1]
  rhsContracting := [0]
  lhsNonContracting := [0]
  rhsNonContracting := [1]
  lhsBatch := []
  rhsBatch := []
  wf := dot_S64x471_S471x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S4096x471_S471x471_S4096x471_1_0_0_1_n_n : DotDims S4096x471 S471x471 S4096x471 where
  lhsContracting := [1]
  rhsContracting := [0]
  lhsNonContracting := [0]
  rhsNonContracting := [1]
  lhsBatch := []
  rhsBatch := []
  wf := dot_S4096x471_S471x471_S4096x471_1_0_0_1_n_n_wf
def dot_S64x471_S471_S64_1_0_0_n_n_n : DotDims S64x471 S471 S64 where
  lhsContracting := [1]
  rhsContracting := [0]
  lhsNonContracting := [0]
  rhsNonContracting := []
  lhsBatch := []
  rhsBatch := []
  wf := dot_S64x471_S471_S64_1_0_0_n_n_n_wf
def dot_S64x64_S64_S64_1_0_0_n_n_n : DotDims S64x64 S64 S64 where
  lhsContracting := [1]
  rhsContracting := [0]
  lhsNonContracting := [0]
  rhsNonContracting := []
  lhsBatch := []
  rhsBatch := []
  wf := dot_S64x64_S64_S64_1_0_0_n_n_n_wf
def dot_S471x64_S64_S471_1_0_0_n_n_n : DotDims S471x64 S64 S471 where
  lhsContracting := [1]
  rhsContracting := [0]
  lhsNonContracting := [0]
  rhsNonContracting := []
  lhsBatch := []
  rhsBatch := []
  wf := dot_S471x64_S64_S471_1_0_0_n_n_n_wf
def scatter_S471_S50x1_S50_n_0_0_1 : ScatterDims S471 S50x1 S50 where
  updateWindowDims := []
  insertedWindowDims := [0]
  scatterDimsToOperandDims := [0]
  indexVectorDim := 1
  wf := scatter_S471_S50x1_S50_n_0_0_1_wf
def fn_part39 {F : FTy → Type} [FloatOps F] (main_arg7 : FVec F S1 .f32) (main_arg8 : FVec F S471x471 .f32) (main_arg9 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v583 : IVec S_ 1) (main_v649 : IVec S_ 1) (main_v715 : IVec S_ 1) (main_v737 : IVec S4096x471 1) (main_v740 : IVec S64x471 1) (main_v743 : IVec S471 1) (main_v746 : IVec S1 1) (main_v749 : IVec S1 1) (main_v750 : FVec F S1 .f32) (main_v751 : FVec F S1 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v752 : IVec S1 1 := cmpf .olt main_v750 main_v751
  let main_v753 : FVec F S1 .f32 := Host.absf main_arg7
  let main_cst_180 : FVec F S_ .f32 := constant S_ .f32 0x7F800000#32
  let main_v754 : FVec F S1 .f32 := broadcastInDim S1 ![] bcast_S_S1 main_cst_180
  let main_v755 : IVec S1 1 := cmpf .olt main_v753 main_v754
  let main_v756 : FVec F S471x471 .f32 := Host.absf main_arg8
  let main_cst_181 : FVec F S_ .f32 := constant S_ .f32 0x7F800000#32
  let main_v757 : FVec F S471x471 .f32 := broadcastInDim S471x471 ![] bcast_S_S471x471 main_cst_181
  let main_v758 : IVec S471x471 1 := cmpf .olt main_v756 main_v757
  let main_v759 : FVec F S471 .f32 := Host.absf main_arg9
  let main_cst_182 : FVec F S_ .f32 := constant S_ .f32 0x7F800000#32
  let main_v760 : FVec F S471 .f32 := broadcastInDim S471 ![] bcast_S_S471 main_cst_182
  let main_v761 : IVec S471 1 := cmpf .olt main_v759 main_v760
  (main_v737, main_v740, main_v743, main_v746, main_v749, main_v752, main_v755, main_v758, main_v761, main_v121, main_v187, main_v253, main_v319, main_v385, main_v451, main_v517, main_v583, main_v649, main_v715)

def fn_part38 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v583 : IVec S_ 1) (main_v649 : IVec S_ 1) (main_v668 : FVec F S471 .f32) (main_v715 : IVec S_ 1) (main_v733 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v734 : FVec F S471 .f32 := addf main_v668 main_v733
  let main_v735 : FVec F S4096x471 .f32 := Host.absf main_arg0
  let main_cst_174 : FVec F S_ .f32 := constant S_ .f32 0x7F800000#32
  let main_v736 : FVec F S4096x471 .f32 := broadcastInDim S4096x471 ![] bcast_S_S4096x471 main_cst_174
  let main_v737 : IVec S4096x471 1 := cmpf .olt main_v735 main_v736
  let main_v738 : FVec F S64x471 .f32 := Host.absf main_arg1
  let main_cst_175 : FVec F S_ .f32 := constant S_ .f32 0x7F800000#32
  let main_v739 : FVec F S64x471 .f32 := broadcastInDim S64x471 ![] bcast_S_S64x471 main_cst_175
  let main_v740 : IVec S64x471 1 := cmpf .olt main_v738 main_v739
  let main_v741 : FVec F S471 .f32 := Host.absf main_arg2
  let main_cst_176 : FVec F S_ .f32 := constant S_ .f32 0x7F800000#32
  let main_v742 : FVec F S471 .f32 := broadcastInDim S471 ![] bcast_S_S471 main_cst_176
  let main_v743 : IVec S471 1 := cmpf .olt main_v741 main_v742
  let main_v744 : FVec F S1 .f32 := Host.absf main_arg4
  let main_cst_177 : FVec F S_ .f32 := constant S_ .f32 0x7F800000#32
  let main_v745 : FVec F S1 .f32 := broadcastInDim S1 ![] bcast_S_S1 main_cst_177
  let main_v746 : IVec S1 1 := cmpf .olt main_v744 main_v745
  let main_v747 : FVec F S1 .f32 := Host.absf main_arg5
  let main_cst_178 : FVec F S_ .f32 := constant S_ .f32 0x7F800000#32
  let main_v748 : FVec F S1 .f32 := broadcastInDim S1 ![] bcast_S_S1 main_cst_178
  let main_v749 : IVec S1 1 := cmpf .olt main_v747 main_v748
  let main_v750 : FVec F S1 .f32 := Host.absf main_arg6
  let main_cst_179 : FVec F S_ .f32 := constant S_ .f32 0x7F800000#32
  let main_v751 : FVec F S1 .f32 := broadcastInDim S1 ![] bcast_S_S1 main_cst_179
  fn_part39 (F := F) main_arg7 main_arg8 main_arg9 main_v121 main_v187 main_v253 main_v319 main_v385 main_v451 main_v517 main_v583 main_v649 main_v715 main_v737 main_v740 main_v743 main_v746 main_v749 main_v750 main_v751

def fn_part37 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v583 : IVec S_ 1) (main_v649 : IVec S_ 1) (main_v668 : FVec F S471 .f32) (main_v676 : FVec F S64 .f32) (main_v706 : FVec F S471 .f32) (main_v715 : IVec S_ 1) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_indices_168 : IVec S50 32 := (fun x => (Host.topK S50 0 (FloatOps.cmpfTotal .gt) x sliceFits_S471_S50).2) main_v706
  let main_cst_169 : FVec F S_ .f32 := constant S_ .f32 0x00000000#32
  let main_v716 : FVec F S471 .f32 := broadcastInDim S471 ![] bcast_S_S471 main_cst_169
  let main_c_170 : IVec S_ 32 := constantI S_ 32 0#32
  let main_v717 : IVec S50 32 := broadcastInDim S50 ![] bcast_S_S50 main_c_170
  let main_v718 : IVec S50 1 := cmpi .slt main_indices_168 main_v717
  let main_c_171 : IVec S_ 32 := constantI S_ 32 471#32
  let main_v719 : IVec S50 32 := broadcastInDim S50 ![] bcast_S_S50 main_c_171
  let main_v720 : IVec S50 32 := addi main_indices_168 main_v719
  let main_v721 : IVec S50 32 := select main_v718 main_v720 main_indices_168
  let main_v722 : IVec S50x1 32 := broadcastInDim S50x1 ![0] bcast_S50_S50x1_0 main_v721
  let main_cst_172 : FVec F S_ .f32 := constant S_ .f32 0x3F800000#32
  let main_v723 : FVec F S50 .f32 := broadcastInDim S50 ![] bcast_S_S50 main_cst_172
  let main_v724 : FVec F S471 .f32 := (fun x i u => Host.scatter scatter_S471_S50x1_S50_n_0_0_1 (fun _ b => b) x i u) main_v716 main_v722 main_v723
  let main_v725 : FVec F S471 .f32 := mulf main_v706 main_v724
  let main_v726 : FVec F S471x64 .f32 := (transpose S471x64 [1, 0] · transposes_S64x471_S471x64_1_0) main_arg1
  let main_v727 : FVec F S471 .f32 := (fun l r => Host.dotGeneral dot_S471x64_S64_S471_1_0_0_n_n_n none l r) main_v726 main_v676
  let main_cst_173 : FVec F S_ .f32 := constant S_ .f32 0x3B0B246B#32
  let main_v728 : FVec F S471 .f32 := broadcastInDim S471 ![] bcast_S_S471 main_cst_173
  let main_v729 : FVec F S471 .f32 := mulf main_v728 main_v727
  let main_v730 : FVec F S471 .f32 := addf main_arg2 main_v729
  let main_v731 : FVec F S471 .f32 := subf main_v725 main_v730
  let main_v732 : FVec F S471 .f32 := broadcastInDim S471 ![0] bcast_S1_S471_0 main_arg6
  let main_v733 : FVec F S471 .f32 := mulf main_v732 main_v731
  fn_part38 (F := F) main_arg0 main_arg1 main_arg2 main_arg4 main_arg5 main_arg6 main_arg7 main_arg8 main_arg9 main_v121 main_v187 main_v253 main_v319 main_v385 main_v451 main_v517 main_v583 main_v649 main_v668 main_v715 main_v733

def fn_part36 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v583 : IVec S_ 1) (main_v649 : IVec S_ 1) (main_v659 : FVec F S471 .f32) (main_v668 : FVec F S471 .f32) (main_v676 : FVec F S64 .f32) (main_v686 : FVec F S471 .f32) (main_v692 : FVec F S1 .f32) (main_v694 : FVec F S1 .f32) (main_v696 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v697 : FVec F S471 .f32 := broadcastInDim S471 ![0] bcast_S1_S471_0 main_v694
  let main_v698 : FVec F S471 .f32 := mulf main_v697 main_v696
  let main_v699 : FVec F S471 .f32 := broadcastInDim S471 ![0] bcast_S1_S471_0 main_v692
  let main_v700 : FVec F S471 .f32 := addf main_v686 main_v699
  let main_v701 : FVec F S471 .f32 := addf main_v700 main_v698
  let main_v702 : FVec F S471 .f32 := broadcastInDim S471 ![0] bcast_S1_S471_0 main_arg7
  let main_v703 : FVec F S471 .f32 := mulf main_v702 main_v701
  let main_v704 : FVec F S471 .f32 := subf main_v659 main_v703
  let main_cst_163 : FVec F S_ .f32 := constant S_ .f32 0x00000000#32
  let main_v705 : FVec F S471 .f32 := broadcastInDim S471 ![] bcast_S_S471 main_cst_163
  let main_v706 : FVec F S471 .f32 := maximumf main_v704 main_v705
  let main_values_164 : FVec F S51 .f32 := (fun x => (Host.topK S51 0 (FloatOps.cmpfTotal .gt) x sliceFits_S471_S51).1) main_v706
  let main_indices_165 : IVec S51 32 := (fun x => (Host.topK S51 0 (FloatOps.cmpfTotal .gt) x sliceFits_S471_S51).2) main_v706
  let main_v707 : FVec F S1 .f32 := (extractStridedSlice S1 ![49] · slices_S51_S1_49) main_values_164
  let main_v708 : FVec F S_ .f32 := shapeCast S_ main_v707 shapeCasts_S1_S_
  let main_v709 : FVec F S1 .f32 := (extractStridedSlice S1 ![50] · slices_S51_S1_50) main_values_164
  let main_v710 : FVec F S_ .f32 := shapeCast S_ main_v709 shapeCasts_S1_S_
  let main_v711 : IVec S_ 1 := cmpf .ogt main_v708 main_v710
  let main_v712 : FVec F S1 .f32 := (extractStridedSlice S1 ![50] · slices_S51_S1_50) main_values_164
  let main_v713 : FVec F S_ .f32 := shapeCast S_ main_v712 shapeCasts_S1_S_
  let main_cst_166 : FVec F S_ .f32 := constant S_ .f32 0x00000000#32
  let main_v714 : IVec S_ 1 := cmpf .ole main_v713 main_cst_166
  let main_v715 : IVec S_ 1 := ori main_v711 main_v714
  let main_values_167 : FVec F S50 .f32 := (fun x => (Host.topK S50 0 (FloatOps.cmpfTotal .gt) x sliceFits_S471_S50).1) main_v706
  fn_part37 (F := F) main_arg0 main_arg1 main_arg2 main_arg4 main_arg5 main_arg6 main_arg7 main_arg8 main_arg9 main_v121 main_v187 main_v253 main_v319 main_v385 main_v451 main_v517 main_v583 main_v649 main_v668 main_v676 main_v706 main_v715

def fn_part35 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v72 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v583 : IVec S_ 1) (main_v649 : IVec S_ 1) (main_v659 : FVec F S471 .f32) (main_v668 : FVec F S471 .f32) (main_v676 : FVec F S64 .f32) (main_v678 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_cst_157 : FVec F S_ .f32 := constant S_ .f32 0x3B0B246B#32
  let main_v679 : FVec F S471 .f32 := broadcastInDim S471 ![] bcast_S_S471 main_cst_157
  let main_v680 : FVec F S471 .f32 := mulf main_v679 main_v678
  let main_v681 : FVec F S471 .f32 := addf main_arg2 main_v680
  let main_v682 : FVec F S471 .f32 := subf main_v659 main_v681
  let main_v683 : FVec F S471 .f32 := broadcastInDim S471 ![0] bcast_S1_S471_0 main_arg6
  let main_v684 : FVec F S471 .f32 := mulf main_v683 main_v682
  let main_v685 : FVec F S471 .f32 := addf main_v72 main_v684
  let main_v686 : FVec F S471 .f32 := addf main_v685 main_v668
  let main_cst_158 : FVec F S_ .f32 := constant S_ .f32 0x40000000#32
  let main_v687 : FVec F S1 .f32 := broadcastInDim S1 ![] bcast_S_S1 main_cst_158
  let main_v688 : FVec F S1 .f32 := mulf main_v687 main_arg5
  let main_cst_159 : FVec F S_ .f32 := constant S_ .f32 0x00000000#32
  let main_v689 : FVec F S_ .f32 := (fun x v => Host.reduceAdd x v reducesTo_S471_S_d0 h_S_) main_v659 main_cst_159
  let main_cst_160 : FVec F S_ .f32 := constant S_ .f32 0x3F800000#32
  let main_v690 : FVec F S_ .f32 := subf main_v689 main_cst_160
  let main_v691 : FVec F S1 .f32 := broadcastInDim S1 ![] bcast_S_S1 main_v690
  let main_v692 : FVec F S1 .f32 := mulf main_v688 main_v691
  let main_cst_161 : FVec F S_ .f32 := constant S_ .f32 0x40000000#32
  let main_v693 : FVec F S1 .f32 := broadcastInDim S1 ![] bcast_S_S1 main_cst_161
  let main_v694 : FVec F S1 .f32 := mulf main_v693 main_arg5
  let main_cst_162 : FVec F S_ .f32 := constant S_ .f32 0x00000000#32
  let main_v695 : FVec F S471 .f32 := broadcastInDim S471 ![] bcast_S_S471 main_cst_162
  let main_v696 : FVec F S471 .f32 := minimumf main_v695 main_v659
  fn_part36 (F := F) main_arg0 main_arg1 main_arg2 main_arg4 main_arg5 main_arg6 main_arg7 main_arg8 main_arg9 main_v121 main_v187 main_v253 main_v319 main_v385 main_v451 main_v517 main_v583 main_v649 main_v659 main_v668 main_v676 main_v686 main_v692 main_v694 main_v696

def fn_part34 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v583 : IVec S_ 1) (main_v602 : FVec F S471 .f32) (main_v610 : FVec F S64 .f32) (main_v640 : FVec F S471 .f32) (main_v649 : IVec S_ 1) (main_v650 : FVec F S471 .f32) (main_v656 : IVec S50x1 32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_cst_155 : FVec F S_ .f32 := constant S_ .f32 0x3F800000#32
  let main_v657 : FVec F S50 .f32 := broadcastInDim S50 ![] bcast_S_S50 main_cst_155
  let main_v658 : FVec F S471 .f32 := (fun x i u => Host.scatter scatter_S471_S50x1_S50_n_0_0_1 (fun _ b => b) x i u) main_v650 main_v656 main_v657
  let main_v659 : FVec F S471 .f32 := mulf main_v640 main_v658
  let main_v660 : FVec F S471x64 .f32 := (transpose S471x64 [1, 0] · transposes_S64x471_S471x64_1_0) main_arg1
  let main_v661 : FVec F S471 .f32 := (fun l r => Host.dotGeneral dot_S471x64_S64_S471_1_0_0_n_n_n none l r) main_v660 main_v610
  let main_cst_156 : FVec F S_ .f32 := constant S_ .f32 0x3B0B246B#32
  let main_v662 : FVec F S471 .f32 := broadcastInDim S471 ![] bcast_S_S471 main_cst_156
  let main_v663 : FVec F S471 .f32 := mulf main_v662 main_v661
  let main_v664 : FVec F S471 .f32 := addf main_arg2 main_v663
  let main_v665 : FVec F S471 .f32 := subf main_v659 main_v664
  let main_v666 : FVec F S471 .f32 := broadcastInDim S471 ![0] bcast_S1_S471_0 main_arg6
  let main_v667 : FVec F S471 .f32 := mulf main_v666 main_v665
  let main_v668 : FVec F S471 .f32 := addf main_v602 main_v667
  let main_v669 : FVec F S471 .f32 := subf main_v659 main_arg2
  let main_v670 : FVec F S471 .f32 := broadcastInDim S471 ![0] bcast_S1_S471_0 main_arg6
  let main_v671 : FVec F S471 .f32 := mulf main_v670 main_v669
  let main_v672 : FVec F S471 .f32 := subf main_v668 main_v671
  let main_v673 : FVec F S64 .f32 := (fun l r => Host.dotGeneral dot_S64x471_S471_S64_1_0_0_n_n_n none l r) main_arg1 main_v672
  let main_v674 : FVec F S64 .f32 := (fun l r => Host.dotGeneral dot_S64x64_S64_S64_1_0_0_n_n_n none l r) main_v63 main_v673
  let main_v675 : FVec F S64 .f32 := broadcastInDim S64 ![0] bcast_S1_S64_0 main_arg4
  let main_v676 : FVec F S64 .f32 := mulf main_v675 main_v674
  let main_v677 : FVec F S471x64 .f32 := (transpose S471x64 [1, 0] · transposes_S64x471_S471x64_1_0) main_arg1
  let main_v678 : FVec F S471 .f32 := (fun l r => Host.dotGeneral dot_S471x64_S64_S471_1_0_0_n_n_n none l r) main_v677 main_v676
  fn_part35 (F := F) main_arg0 main_arg1 main_arg2 main_arg4 main_arg5 main_arg6 main_arg7 main_arg8 main_arg9 main_v72 main_v121 main_v187 main_v253 main_v319 main_v385 main_v451 main_v517 main_v583 main_v649 main_v659 main_v668 main_v676 main_v678

def fn_part33 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v583 : IVec S_ 1) (main_v602 : FVec F S471 .f32) (main_v610 : FVec F S64 .f32) (main_v640 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_values_147 : FVec F S51 .f32 := (fun x => (Host.topK S51 0 (FloatOps.cmpfTotal .gt) x sliceFits_S471_S51).1) main_v640
  let main_indices_148 : IVec S51 32 := (fun x => (Host.topK S51 0 (FloatOps.cmpfTotal .gt) x sliceFits_S471_S51).2) main_v640
  let main_v641 : FVec F S1 .f32 := (extractStridedSlice S1 ![49] · slices_S51_S1_49) main_values_147
  let main_v642 : FVec F S_ .f32 := shapeCast S_ main_v641 shapeCasts_S1_S_
  let main_v643 : FVec F S1 .f32 := (extractStridedSlice S1 ![50] · slices_S51_S1_50) main_values_147
  let main_v644 : FVec F S_ .f32 := shapeCast S_ main_v643 shapeCasts_S1_S_
  let main_v645 : IVec S_ 1 := cmpf .ogt main_v642 main_v644
  let main_v646 : FVec F S1 .f32 := (extractStridedSlice S1 ![50] · slices_S51_S1_50) main_values_147
  let main_v647 : FVec F S_ .f32 := shapeCast S_ main_v646 shapeCasts_S1_S_
  let main_cst_149 : FVec F S_ .f32 := constant S_ .f32 0x00000000#32
  let main_v648 : IVec S_ 1 := cmpf .ole main_v647 main_cst_149
  let main_v649 : IVec S_ 1 := ori main_v645 main_v648
  let main_values_150 : FVec F S50 .f32 := (fun x => (Host.topK S50 0 (FloatOps.cmpfTotal .gt) x sliceFits_S471_S50).1) main_v640
  let main_indices_151 : IVec S50 32 := (fun x => (Host.topK S50 0 (FloatOps.cmpfTotal .gt) x sliceFits_S471_S50).2) main_v640
  let main_cst_152 : FVec F S_ .f32 := constant S_ .f32 0x00000000#32
  let main_v650 : FVec F S471 .f32 := broadcastInDim S471 ![] bcast_S_S471 main_cst_152
  let main_c_153 : IVec S_ 32 := constantI S_ 32 0#32
  let main_v651 : IVec S50 32 := broadcastInDim S50 ![] bcast_S_S50 main_c_153
  let main_v652 : IVec S50 1 := cmpi .slt main_indices_151 main_v651
  let main_c_154 : IVec S_ 32 := constantI S_ 32 471#32
  let main_v653 : IVec S50 32 := broadcastInDim S50 ![] bcast_S_S50 main_c_154
  let main_v654 : IVec S50 32 := addi main_indices_151 main_v653
  let main_v655 : IVec S50 32 := select main_v652 main_v654 main_indices_151
  let main_v656 : IVec S50x1 32 := broadcastInDim S50x1 ![0] bcast_S50_S50x1_0 main_v655
  fn_part34 (F := F) main_arg0 main_arg1 main_arg2 main_arg4 main_arg5 main_arg6 main_arg7 main_arg8 main_arg9 main_v63 main_v72 main_v121 main_v187 main_v253 main_v319 main_v385 main_v451 main_v517 main_v583 main_v602 main_v610 main_v640 main_v649 main_v650 main_v656

def fn_part32 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v583 : IVec S_ 1) (main_v593 : FVec F S471 .f32) (main_v602 : FVec F S471 .f32) (main_v610 : FVec F S64 .f32) (main_v620 : FVec F S471 .f32) (main_v621 : FVec F S1 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v622 : FVec F S1 .f32 := mulf main_v621 main_arg5
  let main_cst_142 : FVec F S_ .f32 := constant S_ .f32 0x00000000#32
  let main_v623 : FVec F S_ .f32 := (fun x v => Host.reduceAdd x v reducesTo_S471_S_d0 h_S_) main_v593 main_cst_142
  let main_cst_143 : FVec F S_ .f32 := constant S_ .f32 0x3F800000#32
  let main_v624 : FVec F S_ .f32 := subf main_v623 main_cst_143
  let main_v625 : FVec F S1 .f32 := broadcastInDim S1 ![] bcast_S_S1 main_v624
  let main_v626 : FVec F S1 .f32 := mulf main_v622 main_v625
  let main_cst_144 : FVec F S_ .f32 := constant S_ .f32 0x40000000#32
  let main_v627 : FVec F S1 .f32 := broadcastInDim S1 ![] bcast_S_S1 main_cst_144
  let main_v628 : FVec F S1 .f32 := mulf main_v627 main_arg5
  let main_cst_145 : FVec F S_ .f32 := constant S_ .f32 0x00000000#32
  let main_v629 : FVec F S471 .f32 := broadcastInDim S471 ![] bcast_S_S471 main_cst_145
  let main_v630 : FVec F S471 .f32 := minimumf main_v629 main_v593
  let main_v631 : FVec F S471 .f32 := broadcastInDim S471 ![0] bcast_S1_S471_0 main_v628
  let main_v632 : FVec F S471 .f32 := mulf main_v631 main_v630
  let main_v633 : FVec F S471 .f32 := broadcastInDim S471 ![0] bcast_S1_S471_0 main_v626
  let main_v634 : FVec F S471 .f32 := addf main_v620 main_v633
  let main_v635 : FVec F S471 .f32 := addf main_v634 main_v632
  let main_v636 : FVec F S471 .f32 := broadcastInDim S471 ![0] bcast_S1_S471_0 main_arg7
  let main_v637 : FVec F S471 .f32 := mulf main_v636 main_v635
  let main_v638 : FVec F S471 .f32 := subf main_v593 main_v637
  let main_cst_146 : FVec F S_ .f32 := constant S_ .f32 0x00000000#32
  let main_v639 : FVec F S471 .f32 := broadcastInDim S471 ![] bcast_S_S471 main_cst_146
  let main_v640 : FVec F S471 .f32 := maximumf main_v638 main_v639
  fn_part33 (F := F) main_arg0 main_arg1 main_arg2 main_arg4 main_arg5 main_arg6 main_arg7 main_arg8 main_arg9 main_v63 main_v72 main_v121 main_v187 main_v253 main_v319 main_v385 main_v451 main_v517 main_v583 main_v602 main_v610 main_v640

def fn_part31 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v536 : FVec F S471 .f32) (main_v583 : IVec S_ 1) (main_v593 : FVec F S471 .f32) (main_v599 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v600 : FVec F S471 .f32 := broadcastInDim S471 ![0] bcast_S1_S471_0 main_arg6
  let main_v601 : FVec F S471 .f32 := mulf main_v600 main_v599
  let main_v602 : FVec F S471 .f32 := addf main_v536 main_v601
  let main_v603 : FVec F S471 .f32 := subf main_v593 main_arg2
  let main_v604 : FVec F S471 .f32 := broadcastInDim S471 ![0] bcast_S1_S471_0 main_arg6
  let main_v605 : FVec F S471 .f32 := mulf main_v604 main_v603
  let main_v606 : FVec F S471 .f32 := subf main_v602 main_v605
  let main_v607 : FVec F S64 .f32 := (fun l r => Host.dotGeneral dot_S64x471_S471_S64_1_0_0_n_n_n none l r) main_arg1 main_v606
  let main_v608 : FVec F S64 .f32 := (fun l r => Host.dotGeneral dot_S64x64_S64_S64_1_0_0_n_n_n none l r) main_v63 main_v607
  let main_v609 : FVec F S64 .f32 := broadcastInDim S64 ![0] bcast_S1_S64_0 main_arg4
  let main_v610 : FVec F S64 .f32 := mulf main_v609 main_v608
  let main_v611 : FVec F S471x64 .f32 := (transpose S471x64 [1, 0] · transposes_S64x471_S471x64_1_0) main_arg1
  let main_v612 : FVec F S471 .f32 := (fun l r => Host.dotGeneral dot_S471x64_S64_S471_1_0_0_n_n_n none l r) main_v611 main_v610
  let main_cst_140 : FVec F S_ .f32 := constant S_ .f32 0x3B0B246B#32
  let main_v613 : FVec F S471 .f32 := broadcastInDim S471 ![] bcast_S_S471 main_cst_140
  let main_v614 : FVec F S471 .f32 := mulf main_v613 main_v612
  let main_v615 : FVec F S471 .f32 := addf main_arg2 main_v614
  let main_v616 : FVec F S471 .f32 := subf main_v593 main_v615
  let main_v617 : FVec F S471 .f32 := broadcastInDim S471 ![0] bcast_S1_S471_0 main_arg6
  let main_v618 : FVec F S471 .f32 := mulf main_v617 main_v616
  let main_v619 : FVec F S471 .f32 := addf main_v72 main_v618
  let main_v620 : FVec F S471 .f32 := addf main_v619 main_v602
  let main_cst_141 : FVec F S_ .f32 := constant S_ .f32 0x40000000#32
  let main_v621 : FVec F S1 .f32 := broadcastInDim S1 ![] bcast_S_S1 main_cst_141
  fn_part32 (F := F) main_arg0 main_arg1 main_arg2 main_arg4 main_arg5 main_arg6 main_arg7 main_arg8 main_arg9 main_v63 main_v72 main_v121 main_v187 main_v253 main_v319 main_v385 main_v451 main_v517 main_v583 main_v593 main_v602 main_v610 main_v620 main_v621

def fn_part30 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v536 : FVec F S471 .f32) (main_v544 : FVec F S64 .f32) (main_v574 : FVec F S471 .f32) (main_v579 : IVec S_ 1) (main_v582 : IVec S_ 1) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v583 : IVec S_ 1 := ori main_v579 main_v582
  let main_values_133 : FVec F S50 .f32 := (fun x => (Host.topK S50 0 (FloatOps.cmpfTotal .gt) x sliceFits_S471_S50).1) main_v574
  let main_indices_134 : IVec S50 32 := (fun x => (Host.topK S50 0 (FloatOps.cmpfTotal .gt) x sliceFits_S471_S50).2) main_v574
  let main_cst_135 : FVec F S_ .f32 := constant S_ .f32 0x00000000#32
  let main_v584 : FVec F S471 .f32 := broadcastInDim S471 ![] bcast_S_S471 main_cst_135
  let main_c_136 : IVec S_ 32 := constantI S_ 32 0#32
  let main_v585 : IVec S50 32 := broadcastInDim S50 ![] bcast_S_S50 main_c_136
  let main_v586 : IVec S50 1 := cmpi .slt main_indices_134 main_v585
  let main_c_137 : IVec S_ 32 := constantI S_ 32 471#32
  let main_v587 : IVec S50 32 := broadcastInDim S50 ![] bcast_S_S50 main_c_137
  let main_v588 : IVec S50 32 := addi main_indices_134 main_v587
  let main_v589 : IVec S50 32 := select main_v586 main_v588 main_indices_134
  let main_v590 : IVec S50x1 32 := broadcastInDim S50x1 ![0] bcast_S50_S50x1_0 main_v589
  let main_cst_138 : FVec F S_ .f32 := constant S_ .f32 0x3F800000#32
  let main_v591 : FVec F S50 .f32 := broadcastInDim S50 ![] bcast_S_S50 main_cst_138
  let main_v592 : FVec F S471 .f32 := (fun x i u => Host.scatter scatter_S471_S50x1_S50_n_0_0_1 (fun _ b => b) x i u) main_v584 main_v590 main_v591
  let main_v593 : FVec F S471 .f32 := mulf main_v574 main_v592
  let main_v594 : FVec F S471x64 .f32 := (transpose S471x64 [1, 0] · transposes_S64x471_S471x64_1_0) main_arg1
  let main_v595 : FVec F S471 .f32 := (fun l r => Host.dotGeneral dot_S471x64_S64_S471_1_0_0_n_n_n none l r) main_v594 main_v544
  let main_cst_139 : FVec F S_ .f32 := constant S_ .f32 0x3B0B246B#32
  let main_v596 : FVec F S471 .f32 := broadcastInDim S471 ![] bcast_S_S471 main_cst_139
  let main_v597 : FVec F S471 .f32 := mulf main_v596 main_v595
  let main_v598 : FVec F S471 .f32 := addf main_arg2 main_v597
  let main_v599 : FVec F S471 .f32 := subf main_v593 main_v598
  fn_part31 (F := F) main_arg0 main_arg1 main_arg2 main_arg4 main_arg5 main_arg6 main_arg7 main_arg8 main_arg9 main_v63 main_v72 main_v121 main_v187 main_v253 main_v319 main_v385 main_v451 main_v517 main_v536 main_v583 main_v593 main_v599

def fn_part29 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v527 : FVec F S471 .f32) (main_v536 : FVec F S471 .f32) (main_v544 : FVec F S64 .f32) (main_v554 : FVec F S471 .f32) (main_v560 : FVec F S1 .f32) (main_v562 : FVec F S1 .f32) (main_cst_128 : FVec F S_ .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v563 : FVec F S471 .f32 := broadcastInDim S471 ![] bcast_S_S471 main_cst_128
  let main_v564 : FVec F S471 .f32 := minimumf main_v563 main_v527
  let main_v565 : FVec F S471 .f32 := broadcastInDim S471 ![0] bcast_S1_S471_0 main_v562
  let main_v566 : FVec F S471 .f32 := mulf main_v565 main_v564
  let main_v567 : FVec F S471 .f32 := broadcastInDim S471 ![0] bcast_S1_S471_0 main_v560
  let main_v568 : FVec F S471 .f32 := addf main_v554 main_v567
  let main_v569 : FVec F S471 .f32 := addf main_v568 main_v566
  let main_v570 : FVec F S471 .f32 := broadcastInDim S471 ![0] bcast_S1_S471_0 main_arg7
  let main_v571 : FVec F S471 .f32 := mulf main_v570 main_v569
  let main_v572 : FVec F S471 .f32 := subf main_v527 main_v571
  let main_cst_129 : FVec F S_ .f32 := constant S_ .f32 0x00000000#32
  let main_v573 : FVec F S471 .f32 := broadcastInDim S471 ![] bcast_S_S471 main_cst_129
  let main_v574 : FVec F S471 .f32 := maximumf main_v572 main_v573
  let main_values_130 : FVec F S51 .f32 := (fun x => (Host.topK S51 0 (FloatOps.cmpfTotal .gt) x sliceFits_S471_S51).1) main_v574
  let main_indices_131 : IVec S51 32 := (fun x => (Host.topK S51 0 (FloatOps.cmpfTotal .gt) x sliceFits_S471_S51).2) main_v574
  let main_v575 : FVec F S1 .f32 := (extractStridedSlice S1 ![49] · slices_S51_S1_49) main_values_130
  let main_v576 : FVec F S_ .f32 := shapeCast S_ main_v575 shapeCasts_S1_S_
  let main_v577 : FVec F S1 .f32 := (extractStridedSlice S1 ![50] · slices_S51_S1_50) main_values_130
  let main_v578 : FVec F S_ .f32 := shapeCast S_ main_v577 shapeCasts_S1_S_
  let main_v579 : IVec S_ 1 := cmpf .ogt main_v576 main_v578
  let main_v580 : FVec F S1 .f32 := (extractStridedSlice S1 ![50] · slices_S51_S1_50) main_values_130
  let main_v581 : FVec F S_ .f32 := shapeCast S_ main_v580 shapeCasts_S1_S_
  let main_cst_132 : FVec F S_ .f32 := constant S_ .f32 0x00000000#32
  let main_v582 : IVec S_ 1 := cmpf .ole main_v581 main_cst_132
  fn_part30 (F := F) main_arg0 main_arg1 main_arg2 main_arg4 main_arg5 main_arg6 main_arg7 main_arg8 main_arg9 main_v63 main_v72 main_v121 main_v187 main_v253 main_v319 main_v385 main_v451 main_v517 main_v536 main_v544 main_v574 main_v579 main_v582

def fn_part28 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v517 : IVec S_ 1) (main_v527 : FVec F S471 .f32) (main_v536 : FVec F S471 .f32) (main_v544 : FVec F S64 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v545 : FVec F S471x64 .f32 := (transpose S471x64 [1, 0] · transposes_S64x471_S471x64_1_0) main_arg1
  let main_v546 : FVec F S471 .f32 := (fun l r => Host.dotGeneral dot_S471x64_S64_S471_1_0_0_n_n_n none l r) main_v545 main_v544
  let main_cst_123 : FVec F S_ .f32 := constant S_ .f32 0x3B0B246B#32
  let main_v547 : FVec F S471 .f32 := broadcastInDim S471 ![] bcast_S_S471 main_cst_123
  let main_v548 : FVec F S471 .f32 := mulf main_v547 main_v546
  let main_v549 : FVec F S471 .f32 := addf main_arg2 main_v548
  let main_v550 : FVec F S471 .f32 := subf main_v527 main_v549
  let main_v551 : FVec F S471 .f32 := broadcastInDim S471 ![0] bcast_S1_S471_0 main_arg6
  let main_v552 : FVec F S471 .f32 := mulf main_v551 main_v550
  let main_v553 : FVec F S471 .f32 := addf main_v72 main_v552
  let main_v554 : FVec F S471 .f32 := addf main_v553 main_v536
  let main_cst_124 : FVec F S_ .f32 := constant S_ .f32 0x40000000#32
  let main_v555 : FVec F S1 .f32 := broadcastInDim S1 ![] bcast_S_S1 main_cst_124
  let main_v556 : FVec F S1 .f32 := mulf main_v555 main_arg5
  let main_cst_125 : FVec F S_ .f32 := constant S_ .f32 0x00000000#32
  let main_v557 : FVec F S_ .f32 := (fun x v => Host.reduceAdd x v reducesTo_S471_S_d0 h_S_) main_v527 main_cst_125
  let main_cst_126 : FVec F S_ .f32 := constant S_ .f32 0x3F800000#32
  let main_v558 : FVec F S_ .f32 := subf main_v557 main_cst_126
  let main_v559 : FVec F S1 .f32 := broadcastInDim S1 ![] bcast_S_S1 main_v558
  let main_v560 : FVec F S1 .f32 := mulf main_v556 main_v559
  let main_cst_127 : FVec F S_ .f32 := constant S_ .f32 0x40000000#32
  let main_v561 : FVec F S1 .f32 := broadcastInDim S1 ![] bcast_S_S1 main_cst_127
  let main_v562 : FVec F S1 .f32 := mulf main_v561 main_arg5
  let main_cst_128 : FVec F S_ .f32 := constant S_ .f32 0x00000000#32
  fn_part29 (F := F) main_arg0 main_arg1 main_arg2 main_arg4 main_arg5 main_arg6 main_arg7 main_arg8 main_arg9 main_v63 main_v72 main_v121 main_v187 main_v253 main_v319 main_v385 main_v451 main_v517 main_v527 main_v536 main_v544 main_v554 main_v560 main_v562 main_cst_128

def fn_part27 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v470 : FVec F S471 .f32) (main_v478 : FVec F S64 .f32) (main_v508 : FVec F S471 .f32) (main_v517 : IVec S_ 1) (main_indices_117 : IVec S50 32) (main_v518 : FVec F S471 .f32) (main_v520 : IVec S50 1) (main_v522 : IVec S50 32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v523 : IVec S50 32 := select main_v520 main_v522 main_indices_117
  let main_v524 : IVec S50x1 32 := broadcastInDim S50x1 ![0] bcast_S50_S50x1_0 main_v523
  let main_cst_121 : FVec F S_ .f32 := constant S_ .f32 0x3F800000#32
  let main_v525 : FVec F S50 .f32 := broadcastInDim S50 ![] bcast_S_S50 main_cst_121
  let main_v526 : FVec F S471 .f32 := (fun x i u => Host.scatter scatter_S471_S50x1_S50_n_0_0_1 (fun _ b => b) x i u) main_v518 main_v524 main_v525
  let main_v527 : FVec F S471 .f32 := mulf main_v508 main_v526
  let main_v528 : FVec F S471x64 .f32 := (transpose S471x64 [1, 0] · transposes_S64x471_S471x64_1_0) main_arg1
  let main_v529 : FVec F S471 .f32 := (fun l r => Host.dotGeneral dot_S471x64_S64_S471_1_0_0_n_n_n none l r) main_v528 main_v478
  let main_cst_122 : FVec F S_ .f32 := constant S_ .f32 0x3B0B246B#32
  let main_v530 : FVec F S471 .f32 := broadcastInDim S471 ![] bcast_S_S471 main_cst_122
  let main_v531 : FVec F S471 .f32 := mulf main_v530 main_v529
  let main_v532 : FVec F S471 .f32 := addf main_arg2 main_v531
  let main_v533 : FVec F S471 .f32 := subf main_v527 main_v532
  let main_v534 : FVec F S471 .f32 := broadcastInDim S471 ![0] bcast_S1_S471_0 main_arg6
  let main_v535 : FVec F S471 .f32 := mulf main_v534 main_v533
  let main_v536 : FVec F S471 .f32 := addf main_v470 main_v535
  let main_v537 : FVec F S471 .f32 := subf main_v527 main_arg2
  let main_v538 : FVec F S471 .f32 := broadcastInDim S471 ![0] bcast_S1_S471_0 main_arg6
  let main_v539 : FVec F S471 .f32 := mulf main_v538 main_v537
  let main_v540 : FVec F S471 .f32 := subf main_v536 main_v539
  let main_v541 : FVec F S64 .f32 := (fun l r => Host.dotGeneral dot_S64x471_S471_S64_1_0_0_n_n_n none l r) main_arg1 main_v540
  let main_v542 : FVec F S64 .f32 := (fun l r => Host.dotGeneral dot_S64x64_S64_S64_1_0_0_n_n_n none l r) main_v63 main_v541
  let main_v543 : FVec F S64 .f32 := broadcastInDim S64 ![0] bcast_S1_S64_0 main_arg4
  let main_v544 : FVec F S64 .f32 := mulf main_v543 main_v542
  fn_part28 (F := F) main_arg0 main_arg1 main_arg2 main_arg4 main_arg5 main_arg6 main_arg7 main_arg8 main_arg9 main_v63 main_v72 main_v121 main_v187 main_v253 main_v319 main_v385 main_v451 main_v517 main_v527 main_v536 main_v544

def fn_part26 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v470 : FVec F S471 .f32) (main_v478 : FVec F S64 .f32) (main_v506 : FVec F S471 .f32) (main_cst_112 : FVec F S_ .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v507 : FVec F S471 .f32 := broadcastInDim S471 ![] bcast_S_S471 main_cst_112
  let main_v508 : FVec F S471 .f32 := maximumf main_v506 main_v507
  let main_values_113 : FVec F S51 .f32 := (fun x => (Host.topK S51 0 (FloatOps.cmpfTotal .gt) x sliceFits_S471_S51).1) main_v508
  let main_indices_114 : IVec S51 32 := (fun x => (Host.topK S51 0 (FloatOps.cmpfTotal .gt) x sliceFits_S471_S51).2) main_v508
  let main_v509 : FVec F S1 .f32 := (extractStridedSlice S1 ![49] · slices_S51_S1_49) main_values_113
  let main_v510 : FVec F S_ .f32 := shapeCast S_ main_v509 shapeCasts_S1_S_
  let main_v511 : FVec F S1 .f32 := (extractStridedSlice S1 ![50] · slices_S51_S1_50) main_values_113
  let main_v512 : FVec F S_ .f32 := shapeCast S_ main_v511 shapeCasts_S1_S_
  let main_v513 : IVec S_ 1 := cmpf .ogt main_v510 main_v512
  let main_v514 : FVec F S1 .f32 := (extractStridedSlice S1 ![50] · slices_S51_S1_50) main_values_113
  let main_v515 : FVec F S_ .f32 := shapeCast S_ main_v514 shapeCasts_S1_S_
  let main_cst_115 : FVec F S_ .f32 := constant S_ .f32 0x00000000#32
  let main_v516 : IVec S_ 1 := cmpf .ole main_v515 main_cst_115
  let main_v517 : IVec S_ 1 := ori main_v513 main_v516
  let main_values_116 : FVec F S50 .f32 := (fun x => (Host.topK S50 0 (FloatOps.cmpfTotal .gt) x sliceFits_S471_S50).1) main_v508
  let main_indices_117 : IVec S50 32 := (fun x => (Host.topK S50 0 (FloatOps.cmpfTotal .gt) x sliceFits_S471_S50).2) main_v508
  let main_cst_118 : FVec F S_ .f32 := constant S_ .f32 0x00000000#32
  let main_v518 : FVec F S471 .f32 := broadcastInDim S471 ![] bcast_S_S471 main_cst_118
  let main_c_119 : IVec S_ 32 := constantI S_ 32 0#32
  let main_v519 : IVec S50 32 := broadcastInDim S50 ![] bcast_S_S50 main_c_119
  let main_v520 : IVec S50 1 := cmpi .slt main_indices_117 main_v519
  let main_c_120 : IVec S_ 32 := constantI S_ 32 471#32
  let main_v521 : IVec S50 32 := broadcastInDim S50 ![] bcast_S_S50 main_c_120
  let main_v522 : IVec S50 32 := addi main_indices_117 main_v521
  fn_part27 (F := F) main_arg0 main_arg1 main_arg2 main_arg4 main_arg5 main_arg6 main_arg7 main_arg8 main_arg9 main_v63 main_v72 main_v121 main_v187 main_v253 main_v319 main_v385 main_v451 main_v470 main_v478 main_v508 main_v517 main_indices_117 main_v518 main_v520 main_v522

def fn_part25 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v451 : IVec S_ 1) (main_v461 : FVec F S471 .f32) (main_v470 : FVec F S471 .f32) (main_v478 : FVec F S64 .f32) (main_v488 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_cst_107 : FVec F S_ .f32 := constant S_ .f32 0x40000000#32
  let main_v489 : FVec F S1 .f32 := broadcastInDim S1 ![] bcast_S_S1 main_cst_107
  let main_v490 : FVec F S1 .f32 := mulf main_v489 main_arg5
  let main_cst_108 : FVec F S_ .f32 := constant S_ .f32 0x00000000#32
  let main_v491 : FVec F S_ .f32 := (fun x v => Host.reduceAdd x v reducesTo_S471_S_d0 h_S_) main_v461 main_cst_108
  let main_cst_109 : FVec F S_ .f32 := constant S_ .f32 0x3F800000#32
  let main_v492 : FVec F S_ .f32 := subf main_v491 main_cst_109
  let main_v493 : FVec F S1 .f32 := broadcastInDim S1 ![] bcast_S_S1 main_v492
  let main_v494 : FVec F S1 .f32 := mulf main_v490 main_v493
  let main_cst_110 : FVec F S_ .f32 := constant S_ .f32 0x40000000#32
  let main_v495 : FVec F S1 .f32 := broadcastInDim S1 ![] bcast_S_S1 main_cst_110
  let main_v496 : FVec F S1 .f32 := mulf main_v495 main_arg5
  let main_cst_111 : FVec F S_ .f32 := constant S_ .f32 0x00000000#32
  let main_v497 : FVec F S471 .f32 := broadcastInDim S471 ![] bcast_S_S471 main_cst_111
  let main_v498 : FVec F S471 .f32 := minimumf main_v497 main_v461
  let main_v499 : FVec F S471 .f32 := broadcastInDim S471 ![0] bcast_S1_S471_0 main_v496
  let main_v500 : FVec F S471 .f32 := mulf main_v499 main_v498
  let main_v501 : FVec F S471 .f32 := broadcastInDim S471 ![0] bcast_S1_S471_0 main_v494
  let main_v502 : FVec F S471 .f32 := addf main_v488 main_v501
  let main_v503 : FVec F S471 .f32 := addf main_v502 main_v500
  let main_v504 : FVec F S471 .f32 := broadcastInDim S471 ![0] bcast_S1_S471_0 main_arg7
  let main_v505 : FVec F S471 .f32 := mulf main_v504 main_v503
  let main_v506 : FVec F S471 .f32 := subf main_v461 main_v505
  let main_cst_112 : FVec F S_ .f32 := constant S_ .f32 0x00000000#32
  fn_part26 (F := F) main_arg0 main_arg1 main_arg2 main_arg4 main_arg5 main_arg6 main_arg7 main_arg8 main_arg9 main_v63 main_v72 main_v121 main_v187 main_v253 main_v319 main_v385 main_v451 main_v470 main_v478 main_v506 main_cst_112

def fn_part24 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v404 : FVec F S471 .f32) (main_v451 : IVec S_ 1) (main_v461 : FVec F S471 .f32) (main_v465 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v466 : FVec F S471 .f32 := addf main_arg2 main_v465
  let main_v467 : FVec F S471 .f32 := subf main_v461 main_v466
  let main_v468 : FVec F S471 .f32 := broadcastInDim S471 ![0] bcast_S1_S471_0 main_arg6
  let main_v469 : FVec F S471 .f32 := mulf main_v468 main_v467
  let main_v470 : FVec F S471 .f32 := addf main_v404 main_v469
  let main_v471 : FVec F S471 .f32 := subf main_v461 main_arg2
  let main_v472 : FVec F S471 .f32 := broadcastInDim S471 ![0] bcast_S1_S471_0 main_arg6
  let main_v473 : FVec F S471 .f32 := mulf main_v472 main_v471
  let main_v474 : FVec F S471 .f32 := subf main_v470 main_v473
  let main_v475 : FVec F S64 .f32 := (fun l r => Host.dotGeneral dot_S64x471_S471_S64_1_0_0_n_n_n none l r) main_arg1 main_v474
  let main_v476 : FVec F S64 .f32 := (fun l r => Host.dotGeneral dot_S64x64_S64_S64_1_0_0_n_n_n none l r) main_v63 main_v475
  let main_v477 : FVec F S64 .f32 := broadcastInDim S64 ![0] bcast_S1_S64_0 main_arg4
  let main_v478 : FVec F S64 .f32 := mulf main_v477 main_v476
  let main_v479 : FVec F S471x64 .f32 := (transpose S471x64 [1, 0] · transposes_S64x471_S471x64_1_0) main_arg1
  let main_v480 : FVec F S471 .f32 := (fun l r => Host.dotGeneral dot_S471x64_S64_S471_1_0_0_n_n_n none l r) main_v479 main_v478
  let main_cst_106 : FVec F S_ .f32 := constant S_ .f32 0x3B0B246B#32
  let main_v481 : FVec F S471 .f32 := broadcastInDim S471 ![] bcast_S_S471 main_cst_106
  let main_v482 : FVec F S471 .f32 := mulf main_v481 main_v480
  let main_v483 : FVec F S471 .f32 := addf main_arg2 main_v482
  let main_v484 : FVec F S471 .f32 := subf main_v461 main_v483
  let main_v485 : FVec F S471 .f32 := broadcastInDim S471 ![0] bcast_S1_S471_0 main_arg6
  let main_v486 : FVec F S471 .f32 := mulf main_v485 main_v484
  let main_v487 : FVec F S471 .f32 := addf main_v72 main_v486
  let main_v488 : FVec F S471 .f32 := addf main_v487 main_v470
  fn_part25 (F := F) main_arg0 main_arg1 main_arg2 main_arg4 main_arg5 main_arg6 main_arg7 main_arg8 main_arg9 main_v63 main_v72 main_v121 main_v187 main_v253 main_v319 main_v385 main_v451 main_v461 main_v470 main_v478 main_v488

def fn_part23 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v404 : FVec F S471 .f32) (main_v412 : FVec F S64 .f32) (main_v442 : FVec F S471 .f32) (main_v447 : IVec S_ 1) (main_v449 : FVec F S_ .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_cst_98 : FVec F S_ .f32 := constant S_ .f32 0x00000000#32
  let main_v450 : IVec S_ 1 := cmpf .ole main_v449 main_cst_98
  let main_v451 : IVec S_ 1 := ori main_v447 main_v450
  let main_values_99 : FVec F S50 .f32 := (fun x => (Host.topK S50 0 (FloatOps.cmpfTotal .gt) x sliceFits_S471_S50).1) main_v442
  let main_indices_100 : IVec S50 32 := (fun x => (Host.topK S50 0 (FloatOps.cmpfTotal .gt) x sliceFits_S471_S50).2) main_v442
  let main_cst_101 : FVec F S_ .f32 := constant S_ .f32 0x00000000#32
  let main_v452 : FVec F S471 .f32 := broadcastInDim S471 ![] bcast_S_S471 main_cst_101
  let main_c_102 : IVec S_ 32 := constantI S_ 32 0#32
  let main_v453 : IVec S50 32 := broadcastInDim S50 ![] bcast_S_S50 main_c_102
  let main_v454 : IVec S50 1 := cmpi .slt main_indices_100 main_v453
  let main_c_103 : IVec S_ 32 := constantI S_ 32 471#32
  let main_v455 : IVec S50 32 := broadcastInDim S50 ![] bcast_S_S50 main_c_103
  let main_v456 : IVec S50 32 := addi main_indices_100 main_v455
  let main_v457 : IVec S50 32 := select main_v454 main_v456 main_indices_100
  let main_v458 : IVec S50x1 32 := broadcastInDim S50x1 ![0] bcast_S50_S50x1_0 main_v457
  let main_cst_104 : FVec F S_ .f32 := constant S_ .f32 0x3F800000#32
  let main_v459 : FVec F S50 .f32 := broadcastInDim S50 ![] bcast_S_S50 main_cst_104
  let main_v460 : FVec F S471 .f32 := (fun x i u => Host.scatter scatter_S471_S50x1_S50_n_0_0_1 (fun _ b => b) x i u) main_v452 main_v458 main_v459
  let main_v461 : FVec F S471 .f32 := mulf main_v442 main_v460
  let main_v462 : FVec F S471x64 .f32 := (transpose S471x64 [1, 0] · transposes_S64x471_S471x64_1_0) main_arg1
  let main_v463 : FVec F S471 .f32 := (fun l r => Host.dotGeneral dot_S471x64_S64_S471_1_0_0_n_n_n none l r) main_v462 main_v412
  let main_cst_105 : FVec F S_ .f32 := constant S_ .f32 0x3B0B246B#32
  let main_v464 : FVec F S471 .f32 := broadcastInDim S471 ![] bcast_S_S471 main_cst_105
  let main_v465 : FVec F S471 .f32 := mulf main_v464 main_v463
  fn_part24 (F := F) main_arg0 main_arg1 main_arg2 main_arg4 main_arg5 main_arg6 main_arg7 main_arg8 main_arg9 main_v63 main_v72 main_v121 main_v187 main_v253 main_v319 main_v385 main_v404 main_v451 main_v461 main_v465

def fn_part22 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v395 : FVec F S471 .f32) (main_v404 : FVec F S471 .f32) (main_v412 : FVec F S64 .f32) (main_v422 : FVec F S471 .f32) (main_v428 : FVec F S1 .f32) (main_v429 : FVec F S1 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v430 : FVec F S1 .f32 := mulf main_v429 main_arg5
  let main_cst_94 : FVec F S_ .f32 := constant S_ .f32 0x00000000#32
  let main_v431 : FVec F S471 .f32 := broadcastInDim S471 ![] bcast_S_S471 main_cst_94
  let main_v432 : FVec F S471 .f32 := minimumf main_v431 main_v395
  let main_v433 : FVec F S471 .f32 := broadcastInDim S471 ![0] bcast_S1_S471_0 main_v430
  let main_v434 : FVec F S471 .f32 := mulf main_v433 main_v432
  let main_v435 : FVec F S471 .f32 := broadcastInDim S471 ![0] bcast_S1_S471_0 main_v428
  let main_v436 : FVec F S471 .f32 := addf main_v422 main_v435
  let main_v437 : FVec F S471 .f32 := addf main_v436 main_v434
  let main_v438 : FVec F S471 .f32 := broadcastInDim S471 ![0] bcast_S1_S471_0 main_arg7
  let main_v439 : FVec F S471 .f32 := mulf main_v438 main_v437
  let main_v440 : FVec F S471 .f32 := subf main_v395 main_v439
  let main_cst_95 : FVec F S_ .f32 := constant S_ .f32 0x00000000#32
  let main_v441 : FVec F S471 .f32 := broadcastInDim S471 ![] bcast_S_S471 main_cst_95
  let main_v442 : FVec F S471 .f32 := maximumf main_v440 main_v441
  let main_values_96 : FVec F S51 .f32 := (fun x => (Host.topK S51 0 (FloatOps.cmpfTotal .gt) x sliceFits_S471_S51).1) main_v442
  let main_indices_97 : IVec S51 32 := (fun x => (Host.topK S51 0 (FloatOps.cmpfTotal .gt) x sliceFits_S471_S51).2) main_v442
  let main_v443 : FVec F S1 .f32 := (extractStridedSlice S1 ![49] · slices_S51_S1_49) main_values_96
  let main_v444 : FVec F S_ .f32 := shapeCast S_ main_v443 shapeCasts_S1_S_
  let main_v445 : FVec F S1 .f32 := (extractStridedSlice S1 ![50] · slices_S51_S1_50) main_values_96
  let main_v446 : FVec F S_ .f32 := shapeCast S_ main_v445 shapeCasts_S1_S_
  let main_v447 : IVec S_ 1 := cmpf .ogt main_v444 main_v446
  let main_v448 : FVec F S1 .f32 := (extractStridedSlice S1 ![50] · slices_S51_S1_50) main_values_96
  let main_v449 : FVec F S_ .f32 := shapeCast S_ main_v448 shapeCasts_S1_S_
  fn_part23 (F := F) main_arg0 main_arg1 main_arg2 main_arg4 main_arg5 main_arg6 main_arg7 main_arg8 main_arg9 main_v63 main_v72 main_v121 main_v187 main_v253 main_v319 main_v385 main_v404 main_v412 main_v442 main_v447 main_v449

def fn_part21 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v385 : IVec S_ 1) (main_v395 : FVec F S471 .f32) (main_v404 : FVec F S471 .f32) (main_v410 : FVec F S64 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v411 : FVec F S64 .f32 := broadcastInDim S64 ![0] bcast_S1_S64_0 main_arg4
  let main_v412 : FVec F S64 .f32 := mulf main_v411 main_v410
  let main_v413 : FVec F S471x64 .f32 := (transpose S471x64 [1, 0] · transposes_S64x471_S471x64_1_0) main_arg1
  let main_v414 : FVec F S471 .f32 := (fun l r => Host.dotGeneral dot_S471x64_S64_S471_1_0_0_n_n_n none l r) main_v413 main_v412
  let main_cst_89 : FVec F S_ .f32 := constant S_ .f32 0x3B0B246B#32
  let main_v415 : FVec F S471 .f32 := broadcastInDim S471 ![] bcast_S_S471 main_cst_89
  let main_v416 : FVec F S471 .f32 := mulf main_v415 main_v414
  let main_v417 : FVec F S471 .f32 := addf main_arg2 main_v416
  let main_v418 : FVec F S471 .f32 := subf main_v395 main_v417
  let main_v419 : FVec F S471 .f32 := broadcastInDim S471 ![0] bcast_S1_S471_0 main_arg6
  let main_v420 : FVec F S471 .f32 := mulf main_v419 main_v418
  let main_v421 : FVec F S471 .f32 := addf main_v72 main_v420
  let main_v422 : FVec F S471 .f32 := addf main_v421 main_v404
  let main_cst_90 : FVec F S_ .f32 := constant S_ .f32 0x40000000#32
  let main_v423 : FVec F S1 .f32 := broadcastInDim S1 ![] bcast_S_S1 main_cst_90
  let main_v424 : FVec F S1 .f32 := mulf main_v423 main_arg5
  let main_cst_91 : FVec F S_ .f32 := constant S_ .f32 0x00000000#32
  let main_v425 : FVec F S_ .f32 := (fun x v => Host.reduceAdd x v reducesTo_S471_S_d0 h_S_) main_v395 main_cst_91
  let main_cst_92 : FVec F S_ .f32 := constant S_ .f32 0x3F800000#32
  let main_v426 : FVec F S_ .f32 := subf main_v425 main_cst_92
  let main_v427 : FVec F S1 .f32 := broadcastInDim S1 ![] bcast_S_S1 main_v426
  let main_v428 : FVec F S1 .f32 := mulf main_v424 main_v427
  let main_cst_93 : FVec F S_ .f32 := constant S_ .f32 0x40000000#32
  let main_v429 : FVec F S1 .f32 := broadcastInDim S1 ![] bcast_S_S1 main_cst_93
  fn_part22 (F := F) main_arg0 main_arg1 main_arg2 main_arg4 main_arg5 main_arg6 main_arg7 main_arg8 main_arg9 main_v63 main_v72 main_v121 main_v187 main_v253 main_v319 main_v385 main_v395 main_v404 main_v412 main_v422 main_v428 main_v429

def fn_part20 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v338 : FVec F S471 .f32) (main_v346 : FVec F S64 .f32) (main_v376 : FVec F S471 .f32) (main_v385 : IVec S_ 1) (main_indices_83 : IVec S50 32) (main_v386 : FVec F S471 .f32) (main_v388 : IVec S50 1) (main_c_86 : IVec S_ 32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v389 : IVec S50 32 := broadcastInDim S50 ![] bcast_S_S50 main_c_86
  let main_v390 : IVec S50 32 := addi main_indices_83 main_v389
  let main_v391 : IVec S50 32 := select main_v388 main_v390 main_indices_83
  let main_v392 : IVec S50x1 32 := broadcastInDim S50x1 ![0] bcast_S50_S50x1_0 main_v391
  let main_cst_87 : FVec F S_ .f32 := constant S_ .f32 0x3F800000#32
  let main_v393 : FVec F S50 .f32 := broadcastInDim S50 ![] bcast_S_S50 main_cst_87
  let main_v394 : FVec F S471 .f32 := (fun x i u => Host.scatter scatter_S471_S50x1_S50_n_0_0_1 (fun _ b => b) x i u) main_v386 main_v392 main_v393
  let main_v395 : FVec F S471 .f32 := mulf main_v376 main_v394
  let main_v396 : FVec F S471x64 .f32 := (transpose S471x64 [1, 0] · transposes_S64x471_S471x64_1_0) main_arg1
  let main_v397 : FVec F S471 .f32 := (fun l r => Host.dotGeneral dot_S471x64_S64_S471_1_0_0_n_n_n none l r) main_v396 main_v346
  let main_cst_88 : FVec F S_ .f32 := constant S_ .f32 0x3B0B246B#32
  let main_v398 : FVec F S471 .f32 := broadcastInDim S471 ![] bcast_S_S471 main_cst_88
  let main_v399 : FVec F S471 .f32 := mulf main_v398 main_v397
  let main_v400 : FVec F S471 .f32 := addf main_arg2 main_v399
  let main_v401 : FVec F S471 .f32 := subf main_v395 main_v400
  let main_v402 : FVec F S471 .f32 := broadcastInDim S471 ![0] bcast_S1_S471_0 main_arg6
  let main_v403 : FVec F S471 .f32 := mulf main_v402 main_v401
  let main_v404 : FVec F S471 .f32 := addf main_v338 main_v403
  let main_v405 : FVec F S471 .f32 := subf main_v395 main_arg2
  let main_v406 : FVec F S471 .f32 := broadcastInDim S471 ![0] bcast_S1_S471_0 main_arg6
  let main_v407 : FVec F S471 .f32 := mulf main_v406 main_v405
  let main_v408 : FVec F S471 .f32 := subf main_v404 main_v407
  let main_v409 : FVec F S64 .f32 := (fun l r => Host.dotGeneral dot_S64x471_S471_S64_1_0_0_n_n_n none l r) main_arg1 main_v408
  let main_v410 : FVec F S64 .f32 := (fun l r => Host.dotGeneral dot_S64x64_S64_S64_1_0_0_n_n_n none l r) main_v63 main_v409
  fn_part21 (F := F) main_arg0 main_arg1 main_arg2 main_arg4 main_arg5 main_arg6 main_arg7 main_arg8 main_arg9 main_v63 main_v72 main_v121 main_v187 main_v253 main_v319 main_v385 main_v395 main_v404 main_v410

def fn_part19 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v329 : FVec F S471 .f32) (main_v338 : FVec F S471 .f32) (main_v346 : FVec F S64 .f32) (main_v373 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v374 : FVec F S471 .f32 := subf main_v329 main_v373
  let main_cst_78 : FVec F S_ .f32 := constant S_ .f32 0x00000000#32
  let main_v375 : FVec F S471 .f32 := broadcastInDim S471 ![] bcast_S_S471 main_cst_78
  let main_v376 : FVec F S471 .f32 := maximumf main_v374 main_v375
  let main_values_79 : FVec F S51 .f32 := (fun x => (Host.topK S51 0 (FloatOps.cmpfTotal .gt) x sliceFits_S471_S51).1) main_v376
  let main_indices_80 : IVec S51 32 := (fun x => (Host.topK S51 0 (FloatOps.cmpfTotal .gt) x sliceFits_S471_S51).2) main_v376
  let main_v377 : FVec F S1 .f32 := (extractStridedSlice S1 ![49] · slices_S51_S1_49) main_values_79
  let main_v378 : FVec F S_ .f32 := shapeCast S_ main_v377 shapeCasts_S1_S_
  let main_v379 : FVec F S1 .f32 := (extractStridedSlice S1 ![50] · slices_S51_S1_50) main_values_79
  let main_v380 : FVec F S_ .f32 := shapeCast S_ main_v379 shapeCasts_S1_S_
  let main_v381 : IVec S_ 1 := cmpf .ogt main_v378 main_v380
  let main_v382 : FVec F S1 .f32 := (extractStridedSlice S1 ![50] · slices_S51_S1_50) main_values_79
  let main_v383 : FVec F S_ .f32 := shapeCast S_ main_v382 shapeCasts_S1_S_
  let main_cst_81 : FVec F S_ .f32 := constant S_ .f32 0x00000000#32
  let main_v384 : IVec S_ 1 := cmpf .ole main_v383 main_cst_81
  let main_v385 : IVec S_ 1 := ori main_v381 main_v384
  let main_values_82 : FVec F S50 .f32 := (fun x => (Host.topK S50 0 (FloatOps.cmpfTotal .gt) x sliceFits_S471_S50).1) main_v376
  let main_indices_83 : IVec S50 32 := (fun x => (Host.topK S50 0 (FloatOps.cmpfTotal .gt) x sliceFits_S471_S50).2) main_v376
  let main_cst_84 : FVec F S_ .f32 := constant S_ .f32 0x00000000#32
  let main_v386 : FVec F S471 .f32 := broadcastInDim S471 ![] bcast_S_S471 main_cst_84
  let main_c_85 : IVec S_ 32 := constantI S_ 32 0#32
  let main_v387 : IVec S50 32 := broadcastInDim S50 ![] bcast_S_S50 main_c_85
  let main_v388 : IVec S50 1 := cmpi .slt main_indices_83 main_v387
  let main_c_86 : IVec S_ 32 := constantI S_ 32 471#32
  fn_part20 (F := F) main_arg0 main_arg1 main_arg2 main_arg4 main_arg5 main_arg6 main_arg7 main_arg8 main_arg9 main_v63 main_v72 main_v121 main_v187 main_v253 main_v319 main_v338 main_v346 main_v376 main_v385 main_indices_83 main_v386 main_v388 main_c_86

def fn_part18 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v319 : IVec S_ 1) (main_v329 : FVec F S471 .f32) (main_v338 : FVec F S471 .f32) (main_v346 : FVec F S64 .f32) (main_v354 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v355 : FVec F S471 .f32 := addf main_v72 main_v354
  let main_v356 : FVec F S471 .f32 := addf main_v355 main_v338
  let main_cst_73 : FVec F S_ .f32 := constant S_ .f32 0x40000000#32
  let main_v357 : FVec F S1 .f32 := broadcastInDim S1 ![] bcast_S_S1 main_cst_73
  let main_v358 : FVec F S1 .f32 := mulf main_v357 main_arg5
  let main_cst_74 : FVec F S_ .f32 := constant S_ .f32 0x00000000#32
  let main_v359 : FVec F S_ .f32 := (fun x v => Host.reduceAdd x v reducesTo_S471_S_d0 h_S_) main_v329 main_cst_74
  let main_cst_75 : FVec F S_ .f32 := constant S_ .f32 0x3F800000#32
  let main_v360 : FVec F S_ .f32 := subf main_v359 main_cst_75
  let main_v361 : FVec F S1 .f32 := broadcastInDim S1 ![] bcast_S_S1 main_v360
  let main_v362 : FVec F S1 .f32 := mulf main_v358 main_v361
  let main_cst_76 : FVec F S_ .f32 := constant S_ .f32 0x40000000#32
  let main_v363 : FVec F S1 .f32 := broadcastInDim S1 ![] bcast_S_S1 main_cst_76
  let main_v364 : FVec F S1 .f32 := mulf main_v363 main_arg5
  let main_cst_77 : FVec F S_ .f32 := constant S_ .f32 0x00000000#32
  let main_v365 : FVec F S471 .f32 := broadcastInDim S471 ![] bcast_S_S471 main_cst_77
  let main_v366 : FVec F S471 .f32 := minimumf main_v365 main_v329
  let main_v367 : FVec F S471 .f32 := broadcastInDim S471 ![0] bcast_S1_S471_0 main_v364
  let main_v368 : FVec F S471 .f32 := mulf main_v367 main_v366
  let main_v369 : FVec F S471 .f32 := broadcastInDim S471 ![0] bcast_S1_S471_0 main_v362
  let main_v370 : FVec F S471 .f32 := addf main_v356 main_v369
  let main_v371 : FVec F S471 .f32 := addf main_v370 main_v368
  let main_v372 : FVec F S471 .f32 := broadcastInDim S471 ![0] bcast_S1_S471_0 main_arg7
  let main_v373 : FVec F S471 .f32 := mulf main_v372 main_v371
  fn_part19 (F := F) main_arg0 main_arg1 main_arg2 main_arg4 main_arg5 main_arg6 main_arg7 main_arg8 main_arg9 main_v63 main_v72 main_v121 main_v187 main_v253 main_v319 main_v329 main_v338 main_v346 main_v373

def fn_part17 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v272 : FVec F S471 .f32) (main_v319 : IVec S_ 1) (main_v329 : FVec F S471 .f32) (main_v331 : FVec F S471 .f32) (main_cst_71 : FVec F S_ .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v332 : FVec F S471 .f32 := broadcastInDim S471 ![] bcast_S_S471 main_cst_71
  let main_v333 : FVec F S471 .f32 := mulf main_v332 main_v331
  let main_v334 : FVec F S471 .f32 := addf main_arg2 main_v333
  let main_v335 : FVec F S471 .f32 := subf main_v329 main_v334
  let main_v336 : FVec F S471 .f32 := broadcastInDim S471 ![0] bcast_S1_S471_0 main_arg6
  let main_v337 : FVec F S471 .f32 := mulf main_v336 main_v335
  let main_v338 : FVec F S471 .f32 := addf main_v272 main_v337
  let main_v339 : FVec F S471 .f32 := subf main_v329 main_arg2
  let main_v340 : FVec F S471 .f32 := broadcastInDim S471 ![0] bcast_S1_S471_0 main_arg6
  let main_v341 : FVec F S471 .f32 := mulf main_v340 main_v339
  let main_v342 : FVec F S471 .f32 := subf main_v338 main_v341
  let main_v343 : FVec F S64 .f32 := (fun l r => Host.dotGeneral dot_S64x471_S471_S64_1_0_0_n_n_n none l r) main_arg1 main_v342
  let main_v344 : FVec F S64 .f32 := (fun l r => Host.dotGeneral dot_S64x64_S64_S64_1_0_0_n_n_n none l r) main_v63 main_v343
  let main_v345 : FVec F S64 .f32 := broadcastInDim S64 ![0] bcast_S1_S64_0 main_arg4
  let main_v346 : FVec F S64 .f32 := mulf main_v345 main_v344
  let main_v347 : FVec F S471x64 .f32 := (transpose S471x64 [1, 0] · transposes_S64x471_S471x64_1_0) main_arg1
  let main_v348 : FVec F S471 .f32 := (fun l r => Host.dotGeneral dot_S471x64_S64_S471_1_0_0_n_n_n none l r) main_v347 main_v346
  let main_cst_72 : FVec F S_ .f32 := constant S_ .f32 0x3B0B246B#32
  let main_v349 : FVec F S471 .f32 := broadcastInDim S471 ![] bcast_S_S471 main_cst_72
  let main_v350 : FVec F S471 .f32 := mulf main_v349 main_v348
  let main_v351 : FVec F S471 .f32 := addf main_arg2 main_v350
  let main_v352 : FVec F S471 .f32 := subf main_v329 main_v351
  let main_v353 : FVec F S471 .f32 := broadcastInDim S471 ![0] bcast_S1_S471_0 main_arg6
  let main_v354 : FVec F S471 .f32 := mulf main_v353 main_v352
  fn_part18 (F := F) main_arg0 main_arg1 main_arg2 main_arg4 main_arg5 main_arg6 main_arg7 main_arg8 main_arg9 main_v63 main_v72 main_v121 main_v187 main_v253 main_v319 main_v329 main_v338 main_v346 main_v354

def fn_part16 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v272 : FVec F S471 .f32) (main_v280 : FVec F S64 .f32) (main_v310 : FVec F S471 .f32) (main_values_62 : FVec F S51 .f32) (main_v315 : IVec S_ 1) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v316 : FVec F S1 .f32 := (extractStridedSlice S1 ![50] · slices_S51_S1_50) main_values_62
  let main_v317 : FVec F S_ .f32 := shapeCast S_ main_v316 shapeCasts_S1_S_
  let main_cst_64 : FVec F S_ .f32 := constant S_ .f32 0x00000000#32
  let main_v318 : IVec S_ 1 := cmpf .ole main_v317 main_cst_64
  let main_v319 : IVec S_ 1 := ori main_v315 main_v318
  let main_values_65 : FVec F S50 .f32 := (fun x => (Host.topK S50 0 (FloatOps.cmpfTotal .gt) x sliceFits_S471_S50).1) main_v310
  let main_indices_66 : IVec S50 32 := (fun x => (Host.topK S50 0 (FloatOps.cmpfTotal .gt) x sliceFits_S471_S50).2) main_v310
  let main_cst_67 : FVec F S_ .f32 := constant S_ .f32 0x00000000#32
  let main_v320 : FVec F S471 .f32 := broadcastInDim S471 ![] bcast_S_S471 main_cst_67
  let main_c_68 : IVec S_ 32 := constantI S_ 32 0#32
  let main_v321 : IVec S50 32 := broadcastInDim S50 ![] bcast_S_S50 main_c_68
  let main_v322 : IVec S50 1 := cmpi .slt main_indices_66 main_v321
  let main_c_69 : IVec S_ 32 := constantI S_ 32 471#32
  let main_v323 : IVec S50 32 := broadcastInDim S50 ![] bcast_S_S50 main_c_69
  let main_v324 : IVec S50 32 := addi main_indices_66 main_v323
  let main_v325 : IVec S50 32 := select main_v322 main_v324 main_indices_66
  let main_v326 : IVec S50x1 32 := broadcastInDim S50x1 ![0] bcast_S50_S50x1_0 main_v325
  let main_cst_70 : FVec F S_ .f32 := constant S_ .f32 0x3F800000#32
  let main_v327 : FVec F S50 .f32 := broadcastInDim S50 ![] bcast_S_S50 main_cst_70
  let main_v328 : FVec F S471 .f32 := (fun x i u => Host.scatter scatter_S471_S50x1_S50_n_0_0_1 (fun _ b => b) x i u) main_v320 main_v326 main_v327
  let main_v329 : FVec F S471 .f32 := mulf main_v310 main_v328
  let main_v330 : FVec F S471x64 .f32 := (transpose S471x64 [1, 0] · transposes_S64x471_S471x64_1_0) main_arg1
  let main_v331 : FVec F S471 .f32 := (fun l r => Host.dotGeneral dot_S471x64_S64_S471_1_0_0_n_n_n none l r) main_v330 main_v280
  let main_cst_71 : FVec F S_ .f32 := constant S_ .f32 0x3B0B246B#32
  fn_part17 (F := F) main_arg0 main_arg1 main_arg2 main_arg4 main_arg5 main_arg6 main_arg7 main_arg8 main_arg9 main_v63 main_v72 main_v121 main_v187 main_v253 main_v272 main_v319 main_v329 main_v331 main_cst_71

def fn_part15 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v263 : FVec F S471 .f32) (main_v272 : FVec F S471 .f32) (main_v280 : FVec F S64 .f32) (main_v290 : FVec F S471 .f32) (main_v296 : FVec F S1 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_cst_59 : FVec F S_ .f32 := constant S_ .f32 0x40000000#32
  let main_v297 : FVec F S1 .f32 := broadcastInDim S1 ![] bcast_S_S1 main_cst_59
  let main_v298 : FVec F S1 .f32 := mulf main_v297 main_arg5
  let main_cst_60 : FVec F S_ .f32 := constant S_ .f32 0x00000000#32
  let main_v299 : FVec F S471 .f32 := broadcastInDim S471 ![] bcast_S_S471 main_cst_60
  let main_v300 : FVec F S471 .f32 := minimumf main_v299 main_v263
  let main_v301 : FVec F S471 .f32 := broadcastInDim S471 ![0] bcast_S1_S471_0 main_v298
  let main_v302 : FVec F S471 .f32 := mulf main_v301 main_v300
  let main_v303 : FVec F S471 .f32 := broadcastInDim S471 ![0] bcast_S1_S471_0 main_v296
  let main_v304 : FVec F S471 .f32 := addf main_v290 main_v303
  let main_v305 : FVec F S471 .f32 := addf main_v304 main_v302
  let main_v306 : FVec F S471 .f32 := broadcastInDim S471 ![0] bcast_S1_S471_0 main_arg7
  let main_v307 : FVec F S471 .f32 := mulf main_v306 main_v305
  let main_v308 : FVec F S471 .f32 := subf main_v263 main_v307
  let main_cst_61 : FVec F S_ .f32 := constant S_ .f32 0x00000000#32
  let main_v309 : FVec F S471 .f32 := broadcastInDim S471 ![] bcast_S_S471 main_cst_61
  let main_v310 : FVec F S471 .f32 := maximumf main_v308 main_v309
  let main_values_62 : FVec F S51 .f32 := (fun x => (Host.topK S51 0 (FloatOps.cmpfTotal .gt) x sliceFits_S471_S51).1) main_v310
  let main_indices_63 : IVec S51 32 := (fun x => (Host.topK S51 0 (FloatOps.cmpfTotal .gt) x sliceFits_S471_S51).2) main_v310
  let main_v311 : FVec F S1 .f32 := (extractStridedSlice S1 ![49] · slices_S51_S1_49) main_values_62
  let main_v312 : FVec F S_ .f32 := shapeCast S_ main_v311 shapeCasts_S1_S_
  let main_v313 : FVec F S1 .f32 := (extractStridedSlice S1 ![50] · slices_S51_S1_50) main_values_62
  let main_v314 : FVec F S_ .f32 := shapeCast S_ main_v313 shapeCasts_S1_S_
  let main_v315 : IVec S_ 1 := cmpf .ogt main_v312 main_v314
  fn_part16 (F := F) main_arg0 main_arg1 main_arg2 main_arg4 main_arg5 main_arg6 main_arg7 main_arg8 main_arg9 main_v63 main_v72 main_v121 main_v187 main_v253 main_v272 main_v280 main_v310 main_values_62 main_v315

def fn_part14 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v253 : IVec S_ 1) (main_v263 : FVec F S471 .f32) (main_v272 : FVec F S471 .f32) (main_v276 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v277 : FVec F S64 .f32 := (fun l r => Host.dotGeneral dot_S64x471_S471_S64_1_0_0_n_n_n none l r) main_arg1 main_v276
  let main_v278 : FVec F S64 .f32 := (fun l r => Host.dotGeneral dot_S64x64_S64_S64_1_0_0_n_n_n none l r) main_v63 main_v277
  let main_v279 : FVec F S64 .f32 := broadcastInDim S64 ![0] bcast_S1_S64_0 main_arg4
  let main_v280 : FVec F S64 .f32 := mulf main_v279 main_v278
  let main_v281 : FVec F S471x64 .f32 := (transpose S471x64 [1, 0] · transposes_S64x471_S471x64_1_0) main_arg1
  let main_v282 : FVec F S471 .f32 := (fun l r => Host.dotGeneral dot_S471x64_S64_S471_1_0_0_n_n_n none l r) main_v281 main_v280
  let main_cst_55 : FVec F S_ .f32 := constant S_ .f32 0x3B0B246B#32
  let main_v283 : FVec F S471 .f32 := broadcastInDim S471 ![] bcast_S_S471 main_cst_55
  let main_v284 : FVec F S471 .f32 := mulf main_v283 main_v282
  let main_v285 : FVec F S471 .f32 := addf main_arg2 main_v284
  let main_v286 : FVec F S471 .f32 := subf main_v263 main_v285
  let main_v287 : FVec F S471 .f32 := broadcastInDim S471 ![0] bcast_S1_S471_0 main_arg6
  let main_v288 : FVec F S471 .f32 := mulf main_v287 main_v286
  let main_v289 : FVec F S471 .f32 := addf main_v72 main_v288
  let main_v290 : FVec F S471 .f32 := addf main_v289 main_v272
  let main_cst_56 : FVec F S_ .f32 := constant S_ .f32 0x40000000#32
  let main_v291 : FVec F S1 .f32 := broadcastInDim S1 ![] bcast_S_S1 main_cst_56
  let main_v292 : FVec F S1 .f32 := mulf main_v291 main_arg5
  let main_cst_57 : FVec F S_ .f32 := constant S_ .f32 0x00000000#32
  let main_v293 : FVec F S_ .f32 := (fun x v => Host.reduceAdd x v reducesTo_S471_S_d0 h_S_) main_v263 main_cst_57
  let main_cst_58 : FVec F S_ .f32 := constant S_ .f32 0x3F800000#32
  let main_v294 : FVec F S_ .f32 := subf main_v293 main_cst_58
  let main_v295 : FVec F S1 .f32 := broadcastInDim S1 ![] bcast_S_S1 main_v294
  let main_v296 : FVec F S1 .f32 := mulf main_v292 main_v295
  fn_part15 (F := F) main_arg0 main_arg1 main_arg2 main_arg4 main_arg5 main_arg6 main_arg7 main_arg8 main_arg9 main_v63 main_v72 main_v121 main_v187 main_v253 main_v263 main_v272 main_v280 main_v290 main_v296

def fn_part13 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v206 : FVec F S471 .f32) (main_v214 : FVec F S64 .f32) (main_v244 : FVec F S471 .f32) (main_v253 : IVec S_ 1) (main_indices_49 : IVec S50 32) (main_v254 : FVec F S471 .f32) (main_v255 : IVec S50 32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v256 : IVec S50 1 := cmpi .slt main_indices_49 main_v255
  let main_c_52 : IVec S_ 32 := constantI S_ 32 471#32
  let main_v257 : IVec S50 32 := broadcastInDim S50 ![] bcast_S_S50 main_c_52
  let main_v258 : IVec S50 32 := addi main_indices_49 main_v257
  let main_v259 : IVec S50 32 := select main_v256 main_v258 main_indices_49
  let main_v260 : IVec S50x1 32 := broadcastInDim S50x1 ![0] bcast_S50_S50x1_0 main_v259
  let main_cst_53 : FVec F S_ .f32 := constant S_ .f32 0x3F800000#32
  let main_v261 : FVec F S50 .f32 := broadcastInDim S50 ![] bcast_S_S50 main_cst_53
  let main_v262 : FVec F S471 .f32 := (fun x i u => Host.scatter scatter_S471_S50x1_S50_n_0_0_1 (fun _ b => b) x i u) main_v254 main_v260 main_v261
  let main_v263 : FVec F S471 .f32 := mulf main_v244 main_v262
  let main_v264 : FVec F S471x64 .f32 := (transpose S471x64 [1, 0] · transposes_S64x471_S471x64_1_0) main_arg1
  let main_v265 : FVec F S471 .f32 := (fun l r => Host.dotGeneral dot_S471x64_S64_S471_1_0_0_n_n_n none l r) main_v264 main_v214
  let main_cst_54 : FVec F S_ .f32 := constant S_ .f32 0x3B0B246B#32
  let main_v266 : FVec F S471 .f32 := broadcastInDim S471 ![] bcast_S_S471 main_cst_54
  let main_v267 : FVec F S471 .f32 := mulf main_v266 main_v265
  let main_v268 : FVec F S471 .f32 := addf main_arg2 main_v267
  let main_v269 : FVec F S471 .f32 := subf main_v263 main_v268
  let main_v270 : FVec F S471 .f32 := broadcastInDim S471 ![0] bcast_S1_S471_0 main_arg6
  let main_v271 : FVec F S471 .f32 := mulf main_v270 main_v269
  let main_v272 : FVec F S471 .f32 := addf main_v206 main_v271
  let main_v273 : FVec F S471 .f32 := subf main_v263 main_arg2
  let main_v274 : FVec F S471 .f32 := broadcastInDim S471 ![0] bcast_S1_S471_0 main_arg6
  let main_v275 : FVec F S471 .f32 := mulf main_v274 main_v273
  let main_v276 : FVec F S471 .f32 := subf main_v272 main_v275
  fn_part14 (F := F) main_arg0 main_arg1 main_arg2 main_arg4 main_arg5 main_arg6 main_arg7 main_arg8 main_arg9 main_v63 main_v72 main_v121 main_v187 main_v253 main_v263 main_v272 main_v276

def fn_part12 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v197 : FVec F S471 .f32) (main_v206 : FVec F S471 .f32) (main_v214 : FVec F S64 .f32) (main_v239 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v240 : FVec F S471 .f32 := broadcastInDim S471 ![0] bcast_S1_S471_0 main_arg7
  let main_v241 : FVec F S471 .f32 := mulf main_v240 main_v239
  let main_v242 : FVec F S471 .f32 := subf main_v197 main_v241
  let main_cst_44 : FVec F S_ .f32 := constant S_ .f32 0x00000000#32
  let main_v243 : FVec F S471 .f32 := broadcastInDim S471 ![] bcast_S_S471 main_cst_44
  let main_v244 : FVec F S471 .f32 := maximumf main_v242 main_v243
  let main_values_45 : FVec F S51 .f32 := (fun x => (Host.topK S51 0 (FloatOps.cmpfTotal .gt) x sliceFits_S471_S51).1) main_v244
  let main_indices_46 : IVec S51 32 := (fun x => (Host.topK S51 0 (FloatOps.cmpfTotal .gt) x sliceFits_S471_S51).2) main_v244
  let main_v245 : FVec F S1 .f32 := (extractStridedSlice S1 ![49] · slices_S51_S1_49) main_values_45
  let main_v246 : FVec F S_ .f32 := shapeCast S_ main_v245 shapeCasts_S1_S_
  let main_v247 : FVec F S1 .f32 := (extractStridedSlice S1 ![50] · slices_S51_S1_50) main_values_45
  let main_v248 : FVec F S_ .f32 := shapeCast S_ main_v247 shapeCasts_S1_S_
  let main_v249 : IVec S_ 1 := cmpf .ogt main_v246 main_v248
  let main_v250 : FVec F S1 .f32 := (extractStridedSlice S1 ![50] · slices_S51_S1_50) main_values_45
  let main_v251 : FVec F S_ .f32 := shapeCast S_ main_v250 shapeCasts_S1_S_
  let main_cst_47 : FVec F S_ .f32 := constant S_ .f32 0x00000000#32
  let main_v252 : IVec S_ 1 := cmpf .ole main_v251 main_cst_47
  let main_v253 : IVec S_ 1 := ori main_v249 main_v252
  let main_values_48 : FVec F S50 .f32 := (fun x => (Host.topK S50 0 (FloatOps.cmpfTotal .gt) x sliceFits_S471_S50).1) main_v244
  let main_indices_49 : IVec S50 32 := (fun x => (Host.topK S50 0 (FloatOps.cmpfTotal .gt) x sliceFits_S471_S50).2) main_v244
  let main_cst_50 : FVec F S_ .f32 := constant S_ .f32 0x00000000#32
  let main_v254 : FVec F S471 .f32 := broadcastInDim S471 ![] bcast_S_S471 main_cst_50
  let main_c_51 : IVec S_ 32 := constantI S_ 32 0#32
  let main_v255 : IVec S50 32 := broadcastInDim S50 ![] bcast_S_S50 main_c_51
  fn_part13 (F := F) main_arg0 main_arg1 main_arg2 main_arg4 main_arg5 main_arg6 main_arg7 main_arg8 main_arg9 main_v63 main_v72 main_v121 main_v187 main_v206 main_v214 main_v244 main_v253 main_indices_49 main_v254 main_v255

def fn_part11 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v187 : IVec S_ 1) (main_v197 : FVec F S471 .f32) (main_v206 : FVec F S471 .f32) (main_v214 : FVec F S64 .f32) (main_v220 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v221 : FVec F S471 .f32 := broadcastInDim S471 ![0] bcast_S1_S471_0 main_arg6
  let main_v222 : FVec F S471 .f32 := mulf main_v221 main_v220
  let main_v223 : FVec F S471 .f32 := addf main_v72 main_v222
  let main_v224 : FVec F S471 .f32 := addf main_v223 main_v206
  let main_cst_39 : FVec F S_ .f32 := constant S_ .f32 0x40000000#32
  let main_v225 : FVec F S1 .f32 := broadcastInDim S1 ![] bcast_S_S1 main_cst_39
  let main_v226 : FVec F S1 .f32 := mulf main_v225 main_arg5
  let main_cst_40 : FVec F S_ .f32 := constant S_ .f32 0x00000000#32
  let main_v227 : FVec F S_ .f32 := (fun x v => Host.reduceAdd x v reducesTo_S471_S_d0 h_S_) main_v197 main_cst_40
  let main_cst_41 : FVec F S_ .f32 := constant S_ .f32 0x3F800000#32
  let main_v228 : FVec F S_ .f32 := subf main_v227 main_cst_41
  let main_v229 : FVec F S1 .f32 := broadcastInDim S1 ![] bcast_S_S1 main_v228
  let main_v230 : FVec F S1 .f32 := mulf main_v226 main_v229
  let main_cst_42 : FVec F S_ .f32 := constant S_ .f32 0x40000000#32
  let main_v231 : FVec F S1 .f32 := broadcastInDim S1 ![] bcast_S_S1 main_cst_42
  let main_v232 : FVec F S1 .f32 := mulf main_v231 main_arg5
  let main_cst_43 : FVec F S_ .f32 := constant S_ .f32 0x00000000#32
  let main_v233 : FVec F S471 .f32 := broadcastInDim S471 ![] bcast_S_S471 main_cst_43
  let main_v234 : FVec F S471 .f32 := minimumf main_v233 main_v197
  let main_v235 : FVec F S471 .f32 := broadcastInDim S471 ![0] bcast_S1_S471_0 main_v232
  let main_v236 : FVec F S471 .f32 := mulf main_v235 main_v234
  let main_v237 : FVec F S471 .f32 := broadcastInDim S471 ![0] bcast_S1_S471_0 main_v230
  let main_v238 : FVec F S471 .f32 := addf main_v224 main_v237
  let main_v239 : FVec F S471 .f32 := addf main_v238 main_v236
  fn_part12 (F := F) main_arg0 main_arg1 main_arg2 main_arg4 main_arg5 main_arg6 main_arg7 main_arg8 main_arg9 main_v63 main_v72 main_v121 main_v187 main_v197 main_v206 main_v214 main_v239

def fn_part10 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v140 : FVec F S471 .f32) (main_v148 : FVec F S64 .f32) (main_v187 : IVec S_ 1) (main_v197 : FVec F S471 .f32) (main_v198 : FVec F S471x64 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v199 : FVec F S471 .f32 := (fun l r => Host.dotGeneral dot_S471x64_S64_S471_1_0_0_n_n_n none l r) main_v198 main_v148
  let main_cst_37 : FVec F S_ .f32 := constant S_ .f32 0x3B0B246B#32
  let main_v200 : FVec F S471 .f32 := broadcastInDim S471 ![] bcast_S_S471 main_cst_37
  let main_v201 : FVec F S471 .f32 := mulf main_v200 main_v199
  let main_v202 : FVec F S471 .f32 := addf main_arg2 main_v201
  let main_v203 : FVec F S471 .f32 := subf main_v197 main_v202
  let main_v204 : FVec F S471 .f32 := broadcastInDim S471 ![0] bcast_S1_S471_0 main_arg6
  let main_v205 : FVec F S471 .f32 := mulf main_v204 main_v203
  let main_v206 : FVec F S471 .f32 := addf main_v140 main_v205
  let main_v207 : FVec F S471 .f32 := subf main_v197 main_arg2
  let main_v208 : FVec F S471 .f32 := broadcastInDim S471 ![0] bcast_S1_S471_0 main_arg6
  let main_v209 : FVec F S471 .f32 := mulf main_v208 main_v207
  let main_v210 : FVec F S471 .f32 := subf main_v206 main_v209
  let main_v211 : FVec F S64 .f32 := (fun l r => Host.dotGeneral dot_S64x471_S471_S64_1_0_0_n_n_n none l r) main_arg1 main_v210
  let main_v212 : FVec F S64 .f32 := (fun l r => Host.dotGeneral dot_S64x64_S64_S64_1_0_0_n_n_n none l r) main_v63 main_v211
  let main_v213 : FVec F S64 .f32 := broadcastInDim S64 ![0] bcast_S1_S64_0 main_arg4
  let main_v214 : FVec F S64 .f32 := mulf main_v213 main_v212
  let main_v215 : FVec F S471x64 .f32 := (transpose S471x64 [1, 0] · transposes_S64x471_S471x64_1_0) main_arg1
  let main_v216 : FVec F S471 .f32 := (fun l r => Host.dotGeneral dot_S471x64_S64_S471_1_0_0_n_n_n none l r) main_v215 main_v214
  let main_cst_38 : FVec F S_ .f32 := constant S_ .f32 0x3B0B246B#32
  let main_v217 : FVec F S471 .f32 := broadcastInDim S471 ![] bcast_S_S471 main_cst_38
  let main_v218 : FVec F S471 .f32 := mulf main_v217 main_v216
  let main_v219 : FVec F S471 .f32 := addf main_arg2 main_v218
  let main_v220 : FVec F S471 .f32 := subf main_v197 main_v219
  fn_part11 (F := F) main_arg0 main_arg1 main_arg2 main_arg4 main_arg5 main_arg6 main_arg7 main_arg8 main_arg9 main_v63 main_v72 main_v121 main_v187 main_v197 main_v206 main_v214 main_v220

def fn_part9 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v140 : FVec F S471 .f32) (main_v148 : FVec F S64 .f32) (main_v178 : FVec F S471 .f32) (main_values_28 : FVec F S51 .f32) (main_v180 : FVec F S_ .f32) (main_v181 : FVec F S1 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v182 : FVec F S_ .f32 := shapeCast S_ main_v181 shapeCasts_S1_S_
  let main_v183 : IVec S_ 1 := cmpf .ogt main_v180 main_v182
  let main_v184 : FVec F S1 .f32 := (extractStridedSlice S1 ![50] · slices_S51_S1_50) main_values_28
  let main_v185 : FVec F S_ .f32 := shapeCast S_ main_v184 shapeCasts_S1_S_
  let main_cst_30 : FVec F S_ .f32 := constant S_ .f32 0x00000000#32
  let main_v186 : IVec S_ 1 := cmpf .ole main_v185 main_cst_30
  let main_v187 : IVec S_ 1 := ori main_v183 main_v186
  let main_values_31 : FVec F S50 .f32 := (fun x => (Host.topK S50 0 (FloatOps.cmpfTotal .gt) x sliceFits_S471_S50).1) main_v178
  let main_indices_32 : IVec S50 32 := (fun x => (Host.topK S50 0 (FloatOps.cmpfTotal .gt) x sliceFits_S471_S50).2) main_v178
  let main_cst_33 : FVec F S_ .f32 := constant S_ .f32 0x00000000#32
  let main_v188 : FVec F S471 .f32 := broadcastInDim S471 ![] bcast_S_S471 main_cst_33
  let main_c_34 : IVec S_ 32 := constantI S_ 32 0#32
  let main_v189 : IVec S50 32 := broadcastInDim S50 ![] bcast_S_S50 main_c_34
  let main_v190 : IVec S50 1 := cmpi .slt main_indices_32 main_v189
  let main_c_35 : IVec S_ 32 := constantI S_ 32 471#32
  let main_v191 : IVec S50 32 := broadcastInDim S50 ![] bcast_S_S50 main_c_35
  let main_v192 : IVec S50 32 := addi main_indices_32 main_v191
  let main_v193 : IVec S50 32 := select main_v190 main_v192 main_indices_32
  let main_v194 : IVec S50x1 32 := broadcastInDim S50x1 ![0] bcast_S50_S50x1_0 main_v193
  let main_cst_36 : FVec F S_ .f32 := constant S_ .f32 0x3F800000#32
  let main_v195 : FVec F S50 .f32 := broadcastInDim S50 ![] bcast_S_S50 main_cst_36
  let main_v196 : FVec F S471 .f32 := (fun x i u => Host.scatter scatter_S471_S50x1_S50_n_0_0_1 (fun _ b => b) x i u) main_v188 main_v194 main_v195
  let main_v197 : FVec F S471 .f32 := mulf main_v178 main_v196
  let main_v198 : FVec F S471x64 .f32 := (transpose S471x64 [1, 0] · transposes_S64x471_S471x64_1_0) main_arg1
  fn_part10 (F := F) main_arg0 main_arg1 main_arg2 main_arg4 main_arg5 main_arg6 main_arg7 main_arg8 main_arg9 main_v63 main_v72 main_v121 main_v140 main_v148 main_v187 main_v197 main_v198

def fn_part8 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v131 : FVec F S471 .f32) (main_v140 : FVec F S471 .f32) (main_v148 : FVec F S64 .f32) (main_v158 : FVec F S471 .f32) (main_v160 : FVec F S1 .f32) (main_v162 : FVec F S_ .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v163 : FVec F S1 .f32 := broadcastInDim S1 ![] bcast_S_S1 main_v162
  let main_v164 : FVec F S1 .f32 := mulf main_v160 main_v163
  let main_cst_25 : FVec F S_ .f32 := constant S_ .f32 0x40000000#32
  let main_v165 : FVec F S1 .f32 := broadcastInDim S1 ![] bcast_S_S1 main_cst_25
  let main_v166 : FVec F S1 .f32 := mulf main_v165 main_arg5
  let main_cst_26 : FVec F S_ .f32 := constant S_ .f32 0x00000000#32
  let main_v167 : FVec F S471 .f32 := broadcastInDim S471 ![] bcast_S_S471 main_cst_26
  let main_v168 : FVec F S471 .f32 := minimumf main_v167 main_v131
  let main_v169 : FVec F S471 .f32 := broadcastInDim S471 ![0] bcast_S1_S471_0 main_v166
  let main_v170 : FVec F S471 .f32 := mulf main_v169 main_v168
  let main_v171 : FVec F S471 .f32 := broadcastInDim S471 ![0] bcast_S1_S471_0 main_v164
  let main_v172 : FVec F S471 .f32 := addf main_v158 main_v171
  let main_v173 : FVec F S471 .f32 := addf main_v172 main_v170
  let main_v174 : FVec F S471 .f32 := broadcastInDim S471 ![0] bcast_S1_S471_0 main_arg7
  let main_v175 : FVec F S471 .f32 := mulf main_v174 main_v173
  let main_v176 : FVec F S471 .f32 := subf main_v131 main_v175
  let main_cst_27 : FVec F S_ .f32 := constant S_ .f32 0x00000000#32
  let main_v177 : FVec F S471 .f32 := broadcastInDim S471 ![] bcast_S_S471 main_cst_27
  let main_v178 : FVec F S471 .f32 := maximumf main_v176 main_v177
  let main_values_28 : FVec F S51 .f32 := (fun x => (Host.topK S51 0 (FloatOps.cmpfTotal .gt) x sliceFits_S471_S51).1) main_v178
  let main_indices_29 : IVec S51 32 := (fun x => (Host.topK S51 0 (FloatOps.cmpfTotal .gt) x sliceFits_S471_S51).2) main_v178
  let main_v179 : FVec F S1 .f32 := (extractStridedSlice S1 ![49] · slices_S51_S1_49) main_values_28
  let main_v180 : FVec F S_ .f32 := shapeCast S_ main_v179 shapeCasts_S1_S_
  let main_v181 : FVec F S1 .f32 := (extractStridedSlice S1 ![50] · slices_S51_S1_50) main_values_28
  fn_part9 (F := F) main_arg0 main_arg1 main_arg2 main_arg4 main_arg5 main_arg6 main_arg7 main_arg8 main_arg9 main_v63 main_v72 main_v121 main_v140 main_v148 main_v178 main_values_28 main_v180 main_v181

def fn_part7 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v121 : IVec S_ 1) (main_v131 : FVec F S471 .f32) (main_v140 : FVec F S471 .f32) (main_v141 : FVec F S471 .f32) (main_v142 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v143 : FVec F S471 .f32 := mulf main_v142 main_v141
  let main_v144 : FVec F S471 .f32 := subf main_v140 main_v143
  let main_v145 : FVec F S64 .f32 := (fun l r => Host.dotGeneral dot_S64x471_S471_S64_1_0_0_n_n_n none l r) main_arg1 main_v144
  let main_v146 : FVec F S64 .f32 := (fun l r => Host.dotGeneral dot_S64x64_S64_S64_1_0_0_n_n_n none l r) main_v63 main_v145
  let main_v147 : FVec F S64 .f32 := broadcastInDim S64 ![0] bcast_S1_S64_0 main_arg4
  let main_v148 : FVec F S64 .f32 := mulf main_v147 main_v146
  let main_v149 : FVec F S471x64 .f32 := (transpose S471x64 [1, 0] · transposes_S64x471_S471x64_1_0) main_arg1
  let main_v150 : FVec F S471 .f32 := (fun l r => Host.dotGeneral dot_S471x64_S64_S471_1_0_0_n_n_n none l r) main_v149 main_v148
  let main_cst_21 : FVec F S_ .f32 := constant S_ .f32 0x3B0B246B#32
  let main_v151 : FVec F S471 .f32 := broadcastInDim S471 ![] bcast_S_S471 main_cst_21
  let main_v152 : FVec F S471 .f32 := mulf main_v151 main_v150
  let main_v153 : FVec F S471 .f32 := addf main_arg2 main_v152
  let main_v154 : FVec F S471 .f32 := subf main_v131 main_v153
  let main_v155 : FVec F S471 .f32 := broadcastInDim S471 ![0] bcast_S1_S471_0 main_arg6
  let main_v156 : FVec F S471 .f32 := mulf main_v155 main_v154
  let main_v157 : FVec F S471 .f32 := addf main_v72 main_v156
  let main_v158 : FVec F S471 .f32 := addf main_v157 main_v140
  let main_cst_22 : FVec F S_ .f32 := constant S_ .f32 0x40000000#32
  let main_v159 : FVec F S1 .f32 := broadcastInDim S1 ![] bcast_S_S1 main_cst_22
  let main_v160 : FVec F S1 .f32 := mulf main_v159 main_arg5
  let main_cst_23 : FVec F S_ .f32 := constant S_ .f32 0x00000000#32
  let main_v161 : FVec F S_ .f32 := (fun x v => Host.reduceAdd x v reducesTo_S471_S_d0 h_S_) main_v131 main_cst_23
  let main_cst_24 : FVec F S_ .f32 := constant S_ .f32 0x3F800000#32
  let main_v162 : FVec F S_ .f32 := subf main_v161 main_cst_24
  fn_part8 (F := F) main_arg0 main_arg1 main_arg2 main_arg4 main_arg5 main_arg6 main_arg7 main_arg8 main_arg9 main_v63 main_v72 main_v121 main_v131 main_v140 main_v148 main_v158 main_v160 main_v162

def fn_part6 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v74 : FVec F S471 .f32) (main_v82 : FVec F S64 .f32) (main_v112 : FVec F S471 .f32) (main_v121 : IVec S_ 1) (main_indices_15 : IVec S50 32) (main_v122 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_c_17 : IVec S_ 32 := constantI S_ 32 0#32
  let main_v123 : IVec S50 32 := broadcastInDim S50 ![] bcast_S_S50 main_c_17
  let main_v124 : IVec S50 1 := cmpi .slt main_indices_15 main_v123
  let main_c_18 : IVec S_ 32 := constantI S_ 32 471#32
  let main_v125 : IVec S50 32 := broadcastInDim S50 ![] bcast_S_S50 main_c_18
  let main_v126 : IVec S50 32 := addi main_indices_15 main_v125
  let main_v127 : IVec S50 32 := select main_v124 main_v126 main_indices_15
  let main_v128 : IVec S50x1 32 := broadcastInDim S50x1 ![0] bcast_S50_S50x1_0 main_v127
  let main_cst_19 : FVec F S_ .f32 := constant S_ .f32 0x3F800000#32
  let main_v129 : FVec F S50 .f32 := broadcastInDim S50 ![] bcast_S_S50 main_cst_19
  let main_v130 : FVec F S471 .f32 := (fun x i u => Host.scatter scatter_S471_S50x1_S50_n_0_0_1 (fun _ b => b) x i u) main_v122 main_v128 main_v129
  let main_v131 : FVec F S471 .f32 := mulf main_v112 main_v130
  let main_v132 : FVec F S471x64 .f32 := (transpose S471x64 [1, 0] · transposes_S64x471_S471x64_1_0) main_arg1
  let main_v133 : FVec F S471 .f32 := (fun l r => Host.dotGeneral dot_S471x64_S64_S471_1_0_0_n_n_n none l r) main_v132 main_v82
  let main_cst_20 : FVec F S_ .f32 := constant S_ .f32 0x3B0B246B#32
  let main_v134 : FVec F S471 .f32 := broadcastInDim S471 ![] bcast_S_S471 main_cst_20
  let main_v135 : FVec F S471 .f32 := mulf main_v134 main_v133
  let main_v136 : FVec F S471 .f32 := addf main_arg2 main_v135
  let main_v137 : FVec F S471 .f32 := subf main_v131 main_v136
  let main_v138 : FVec F S471 .f32 := broadcastInDim S471 ![0] bcast_S1_S471_0 main_arg6
  let main_v139 : FVec F S471 .f32 := mulf main_v138 main_v137
  let main_v140 : FVec F S471 .f32 := addf main_v74 main_v139
  let main_v141 : FVec F S471 .f32 := subf main_v131 main_arg2
  let main_v142 : FVec F S471 .f32 := broadcastInDim S471 ![0] bcast_S1_S471_0 main_arg6
  fn_part7 (F := F) main_arg0 main_arg1 main_arg2 main_arg4 main_arg5 main_arg6 main_arg7 main_arg8 main_arg9 main_v63 main_v72 main_v121 main_v131 main_v140 main_v141 main_v142

def fn_part5 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v73 : FVec F S471 .f32) (main_v74 : FVec F S471 .f32) (main_v82 : FVec F S64 .f32) (main_v92 : FVec F S471 .f32) (main_v104 : FVec F S471 .f32) (main_v105 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v106 : FVec F S471 .f32 := addf main_v92 main_v105
  let main_v107 : FVec F S471 .f32 := addf main_v106 main_v104
  let main_v108 : FVec F S471 .f32 := broadcastInDim S471 ![0] bcast_S1_S471_0 main_arg7
  let main_v109 : FVec F S471 .f32 := mulf main_v108 main_v107
  let main_v110 : FVec F S471 .f32 := subf main_v73 main_v109
  let main_cst_12 : FVec F S_ .f32 := constant S_ .f32 0x00000000#32
  let main_v111 : FVec F S471 .f32 := broadcastInDim S471 ![] bcast_S_S471 main_cst_12
  let main_v112 : FVec F S471 .f32 := maximumf main_v110 main_v111
  let main_values : FVec F S51 .f32 := (fun x => (Host.topK S51 0 (FloatOps.cmpfTotal .gt) x sliceFits_S471_S51).1) main_v112
  let main_indices : IVec S51 32 := (fun x => (Host.topK S51 0 (FloatOps.cmpfTotal .gt) x sliceFits_S471_S51).2) main_v112
  let main_v113 : FVec F S1 .f32 := (extractStridedSlice S1 ![49] · slices_S51_S1_49) main_values
  let main_v114 : FVec F S_ .f32 := shapeCast S_ main_v113 shapeCasts_S1_S_
  let main_v115 : FVec F S1 .f32 := (extractStridedSlice S1 ![50] · slices_S51_S1_50) main_values
  let main_v116 : FVec F S_ .f32 := shapeCast S_ main_v115 shapeCasts_S1_S_
  let main_v117 : IVec S_ 1 := cmpf .ogt main_v114 main_v116
  let main_v118 : FVec F S1 .f32 := (extractStridedSlice S1 ![50] · slices_S51_S1_50) main_values
  let main_v119 : FVec F S_ .f32 := shapeCast S_ main_v118 shapeCasts_S1_S_
  let main_cst_13 : FVec F S_ .f32 := constant S_ .f32 0x00000000#32
  let main_v120 : IVec S_ 1 := cmpf .ole main_v119 main_cst_13
  let main_v121 : IVec S_ 1 := ori main_v117 main_v120
  let main_values_14 : FVec F S50 .f32 := (fun x => (Host.topK S50 0 (FloatOps.cmpfTotal .gt) x sliceFits_S471_S50).1) main_v112
  let main_indices_15 : IVec S50 32 := (fun x => (Host.topK S50 0 (FloatOps.cmpfTotal .gt) x sliceFits_S471_S50).2) main_v112
  let main_cst_16 : FVec F S_ .f32 := constant S_ .f32 0x00000000#32
  let main_v122 : FVec F S471 .f32 := broadcastInDim S471 ![] bcast_S_S471 main_cst_16
  fn_part6 (F := F) main_arg0 main_arg1 main_arg2 main_arg4 main_arg5 main_arg6 main_arg7 main_arg8 main_arg9 main_v63 main_v72 main_v74 main_v82 main_v112 main_v121 main_indices_15 main_v122

def fn_part4 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v72 : FVec F S471 .f32) (main_v73 : FVec F S471 .f32) (main_v74 : FVec F S471 .f32) (main_v82 : FVec F S64 .f32) (main_v86 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v87 : FVec F S471 .f32 := addf main_arg2 main_v86
  let main_v88 : FVec F S471 .f32 := subf main_v73 main_v87
  let main_v89 : FVec F S471 .f32 := broadcastInDim S471 ![0] bcast_S1_S471_0 main_arg6
  let main_v90 : FVec F S471 .f32 := mulf main_v89 main_v88
  let main_v91 : FVec F S471 .f32 := addf main_v72 main_v90
  let main_v92 : FVec F S471 .f32 := addf main_v91 main_v74
  let main_cst_7 : FVec F S_ .f32 := constant S_ .f32 0x40000000#32
  let main_v93 : FVec F S1 .f32 := broadcastInDim S1 ![] bcast_S_S1 main_cst_7
  let main_v94 : FVec F S1 .f32 := mulf main_v93 main_arg5
  let main_cst_8 : FVec F S_ .f32 := constant S_ .f32 0x00000000#32
  let main_v95 : FVec F S_ .f32 := (fun x v => Host.reduceAdd x v reducesTo_S471_S_d0 h_S_) main_v73 main_cst_8
  let main_cst_9 : FVec F S_ .f32 := constant S_ .f32 0x3F800000#32
  let main_v96 : FVec F S_ .f32 := subf main_v95 main_cst_9
  let main_v97 : FVec F S1 .f32 := broadcastInDim S1 ![] bcast_S_S1 main_v96
  let main_v98 : FVec F S1 .f32 := mulf main_v94 main_v97
  let main_cst_10 : FVec F S_ .f32 := constant S_ .f32 0x40000000#32
  let main_v99 : FVec F S1 .f32 := broadcastInDim S1 ![] bcast_S_S1 main_cst_10
  let main_v100 : FVec F S1 .f32 := mulf main_v99 main_arg5
  let main_cst_11 : FVec F S_ .f32 := constant S_ .f32 0x00000000#32
  let main_v101 : FVec F S471 .f32 := broadcastInDim S471 ![] bcast_S_S471 main_cst_11
  let main_v102 : FVec F S471 .f32 := minimumf main_v101 main_v73
  let main_v103 : FVec F S471 .f32 := broadcastInDim S471 ![0] bcast_S1_S471_0 main_v100
  let main_v104 : FVec F S471 .f32 := mulf main_v103 main_v102
  let main_v105 : FVec F S471 .f32 := broadcastInDim S471 ![0] bcast_S1_S471_0 main_v98
  fn_part5 (F := F) main_arg0 main_arg1 main_arg2 main_arg4 main_arg5 main_arg6 main_arg7 main_arg8 main_arg9 main_v63 main_v72 main_v73 main_v74 main_v82 main_v92 main_v104 main_v105

def fn_part3 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v63 : FVec F S64x64 .f32) (main_v66 : FVec F S4096x471 .f32) (main_v67 : FVec F S1x471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v68 : FVec F S4096x471 .f32 := broadcastInDim S4096x471 ![0, 1] bcast_S1x471_S4096x471_0_1 main_v67
  let main_v69 : FVec F S4096x471 .f32 := addf main_v66 main_v68
  let main_cst_2 : FVec F S_ .f32 := constant S_ .f32 0x00000000#32
  let main_v70 : FVec F S471 .f32 := (fun x v => Host.reduceAdd x v reducesTo_S4096x471_S471_d0 h_S_) main_v69 main_cst_2
  let main_cst_3 : FVec F S_ .f32 := constant S_ .f32 0x45800000#32
  let main_v71 : FVec F S471 .f32 := broadcastInDim S471 ![] bcast_S_S471 main_cst_3
  let main_v72 : FVec F S471 .f32 := Host.divf main_v70 main_v71
  let main_cst_4 : FVec F S_ .f32 := constant S_ .f32 0x00000000#32
  let main_v73 : FVec F S471 .f32 := broadcastInDim S471 ![] bcast_S_S471 main_cst_4
  let main_cst_5 : FVec F S_ .f32 := constant S_ .f32 0x00000000#32
  let main_v74 : FVec F S471 .f32 := broadcastInDim S471 ![] bcast_S_S471 main_cst_5
  let main_v75 : FVec F S471 .f32 := subf main_v73 main_arg2
  let main_v76 : FVec F S471 .f32 := broadcastInDim S471 ![0] bcast_S1_S471_0 main_arg6
  let main_v77 : FVec F S471 .f32 := mulf main_v76 main_v75
  let main_v78 : FVec F S471 .f32 := subf main_v74 main_v77
  let main_v79 : FVec F S64 .f32 := (fun l r => Host.dotGeneral dot_S64x471_S471_S64_1_0_0_n_n_n none l r) main_arg1 main_v78
  let main_v80 : FVec F S64 .f32 := (fun l r => Host.dotGeneral dot_S64x64_S64_S64_1_0_0_n_n_n none l r) main_v63 main_v79
  let main_v81 : FVec F S64 .f32 := broadcastInDim S64 ![0] bcast_S1_S64_0 main_arg4
  let main_v82 : FVec F S64 .f32 := mulf main_v81 main_v80
  let main_v83 : FVec F S471x64 .f32 := (transpose S471x64 [1, 0] · transposes_S64x471_S471x64_1_0) main_arg1
  let main_v84 : FVec F S471 .f32 := (fun l r => Host.dotGeneral dot_S471x64_S64_S471_1_0_0_n_n_n none l r) main_v83 main_v82
  let main_cst_6 : FVec F S_ .f32 := constant S_ .f32 0x3B0B246B#32
  let main_v85 : FVec F S471 .f32 := broadcastInDim S471 ![] bcast_S_S471 main_cst_6
  let main_v86 : FVec F S471 .f32 := mulf main_v85 main_v84
  fn_part4 (F := F) main_arg0 main_arg1 main_arg2 main_arg4 main_arg5 main_arg6 main_arg7 main_arg8 main_arg9 main_v63 main_v72 main_v73 main_v74 main_v82 main_v86

def fn_part2 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v42 : FVec F S64x64 .f32) (main_v43 : FVec F S64x64 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v44 : FVec F S64x64 .f32 := (fun l r => Host.dotGeneral dot_S64x64_S64x64_S64x64_1_0_0_1_n_n none l r) main_v42 main_v43
  let main_v45 : FVec F S64x64 .f32 := addf main_v42 main_v44
  let main_v46 : FVec F S64x64 .f32 := (fun l r => Host.dotGeneral dot_S64x64_S64x64_S64x64_1_0_0_1_n_n none l r) main_v43 main_v43
  let main_v47 : FVec F S64x64 .f32 := (fun l r => Host.dotGeneral dot_S64x64_S64x64_S64x64_1_0_0_1_n_n none l r) main_v45 main_v46
  let main_v48 : FVec F S64x64 .f32 := addf main_v45 main_v47
  let main_v49 : FVec F S64x64 .f32 := (fun l r => Host.dotGeneral dot_S64x64_S64x64_S64x64_1_0_0_1_n_n none l r) main_v46 main_v46
  let main_v50 : FVec F S64x64 .f32 := (fun l r => Host.dotGeneral dot_S64x64_S64x64_S64x64_1_0_0_1_n_n none l r) main_v48 main_v49
  let main_v51 : FVec F S64x64 .f32 := addf main_v48 main_v50
  let main_v52 : FVec F S64x64 .f32 := (fun l r => Host.dotGeneral dot_S64x64_S64x64_S64x64_1_0_0_1_n_n none l r) main_v49 main_v49
  let main_v53 : FVec F S64x64 .f32 := (fun l r => Host.dotGeneral dot_S64x64_S64x64_S64x64_1_0_0_1_n_n none l r) main_v51 main_v52
  let main_v54 : FVec F S64x64 .f32 := addf main_v51 main_v53
  let main_v55 : FVec F S64x64 .f32 := (fun l r => Host.dotGeneral dot_S64x64_S64x64_S64x64_1_0_0_1_n_n none l r) main_v52 main_v52
  let main_v56 : FVec F S64x64 .f32 := (fun l r => Host.dotGeneral dot_S64x64_S64x64_S64x64_1_0_0_1_n_n none l r) main_v54 main_v55
  let main_v57 : FVec F S64x64 .f32 := addf main_v54 main_v56
  let main_v58 : FVec F S64x64 .f32 := (fun l r => Host.dotGeneral dot_S64x64_S64x64_S64x64_1_0_0_1_n_n none l r) main_v55 main_v55
  let main_v59 : FVec F S64x64 .f32 := (fun l r => Host.dotGeneral dot_S64x64_S64x64_S64x64_1_0_0_1_n_n none l r) main_v57 main_v58
  let main_v60 : FVec F S64x64 .f32 := addf main_v57 main_v59
  let main_v61 : FVec F S64x64 .f32 := (fun l r => Host.dotGeneral dot_S64x64_S64x64_S64x64_1_0_0_1_n_n none l r) main_v58 main_v58
  let main_v62 : FVec F S64x64 .f32 := (fun l r => Host.dotGeneral dot_S64x64_S64x64_S64x64_1_0_0_1_n_n none l r) main_v60 main_v61
  let main_v63 : FVec F S64x64 .f32 := addf main_v60 main_v62
  let main_v64 : FVec F S64x64 .f32 := (fun l r => Host.dotGeneral dot_S64x64_S64x64_S64x64_1_0_0_1_n_n none l r) main_v61 main_v61
  let main_v65 : FVec F S471x471 .f32 := (transpose S471x471 [1, 0] · transposes_S471x471_S471x471_1_0) main_arg8
  let main_v66 : FVec F S4096x471 .f32 := (fun l r => Host.dotGeneral dot_S4096x471_S471x471_S4096x471_1_0_0_1_n_n none l r) main_arg0 main_v65
  let main_v67 : FVec F S1x471 .f32 := broadcastInDim S1x471 ![1] bcast_S471_S1x471_1 main_arg9
  fn_part3 (F := F) main_arg0 main_arg1 main_arg2 main_arg4 main_arg5 main_arg6 main_arg7 main_arg8 main_arg9 main_v63 main_v66 main_v67

def fn_part1 {F : FTy → Type} [FloatOps F] (main_arg0 : FVec F S4096x471 .f32) (main_arg1 : FVec F S64x471 .f32) (main_arg2 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) (main_v18 : FVec F S64x64 .f32) (main_v19 : FVec F S64x64 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v20 : FVec F S64x64 .f32 := (fun l r => Host.dotGeneral dot_S64x64_S64x64_S64x64_1_0_0_1_n_n none l r) main_v18 main_v19
  let main_v21 : FVec F S64x64 .f32 := addf main_v18 main_v20
  let main_v22 : FVec F S64x64 .f32 := (fun l r => Host.dotGeneral dot_S64x64_S64x64_S64x64_1_0_0_1_n_n none l r) main_v19 main_v19
  let main_v23 : FVec F S64x64 .f32 := (fun l r => Host.dotGeneral dot_S64x64_S64x64_S64x64_1_0_0_1_n_n none l r) main_v21 main_v22
  let main_v24 : FVec F S64x64 .f32 := addf main_v21 main_v23
  let main_v25 : FVec F S64x64 .f32 := (fun l r => Host.dotGeneral dot_S64x64_S64x64_S64x64_1_0_0_1_n_n none l r) main_v22 main_v22
  let main_v26 : FVec F S64x64 .f32 := (fun l r => Host.dotGeneral dot_S64x64_S64x64_S64x64_1_0_0_1_n_n none l r) main_v24 main_v25
  let main_v27 : FVec F S64x64 .f32 := addf main_v24 main_v26
  let main_v28 : FVec F S64x64 .f32 := (fun l r => Host.dotGeneral dot_S64x64_S64x64_S64x64_1_0_0_1_n_n none l r) main_v25 main_v25
  let main_v29 : FVec F S64x64 .f32 := (fun l r => Host.dotGeneral dot_S64x64_S64x64_S64x64_1_0_0_1_n_n none l r) main_v27 main_v28
  let main_v30 : FVec F S64x64 .f32 := addf main_v27 main_v29
  let main_v31 : FVec F S64x64 .f32 := (fun l r => Host.dotGeneral dot_S64x64_S64x64_S64x64_1_0_0_1_n_n none l r) main_v28 main_v28
  let main_v32 : FVec F S64x64 .f32 := (fun l r => Host.dotGeneral dot_S64x64_S64x64_S64x64_1_0_0_1_n_n none l r) main_v30 main_v31
  let main_v33 : FVec F S64x64 .f32 := addf main_v30 main_v32
  let main_v34 : FVec F S64x64 .f32 := (fun l r => Host.dotGeneral dot_S64x64_S64x64_S64x64_1_0_0_1_n_n none l r) main_v31 main_v31
  let main_v35 : FVec F S64x64 .f32 := (fun l r => Host.dotGeneral dot_S64x64_S64x64_S64x64_1_0_0_1_n_n none l r) main_v33 main_v34
  let main_v36 : FVec F S64x64 .f32 := addf main_v33 main_v35
  let main_v37 : FVec F S64x64 .f32 := (fun l r => Host.dotGeneral dot_S64x64_S64x64_S64x64_1_0_0_1_n_n none l r) main_v34 main_v34
  let main_v38 : FVec F S64x64 .f32 := (fun l r => Host.dotGeneral dot_S64x64_S64x64_S64x64_1_0_0_1_n_n none l r) main_v36 main_v37
  let main_v39 : FVec F S64x64 .f32 := addf main_v36 main_v38
  let main_v40 : FVec F S64x64 .f32 := (fun l r => Host.dotGeneral dot_S64x64_S64x64_S64x64_1_0_0_1_n_n none l r) main_v37 main_v37
  let main_v41 : FVec F S64x64 .f32 := (fun l r => Host.dotGeneral dot_S64x64_S64x64_S64x64_1_0_0_1_n_n none l r) main_v39 main_v40
  let main_v42 : FVec F S64x64 .f32 := addf main_v39 main_v41
  let main_v43 : FVec F S64x64 .f32 := (fun l r => Host.dotGeneral dot_S64x64_S64x64_S64x64_1_0_0_1_n_n none l r) main_v40 main_v40
  fn_part2 (F := F) main_arg0 main_arg1 main_arg2 main_arg4 main_arg5 main_arg6 main_arg7 main_arg8 main_arg9 main_v42 main_v43

def fn {F : FTy → Type} [FloatOps F] (main_arg0 : FVec F S4096x471 .f32) (main_arg1 : FVec F S64x471 .f32) (main_arg2 : FVec F S471 .f32) (main_arg3 : FVec F S471 .f32) (main_arg4 : FVec F S1 .f32) (main_arg5 : FVec F S1 .f32) (main_arg6 : FVec F S1 .f32) (main_arg7 : FVec F S1 .f32) (main_arg8 : FVec F S471x471 .f32) (main_arg9 : FVec F S471 .f32) : IVec S4096x471 1 × IVec S64x471 1 × IVec S471 1 × IVec S1 1 × IVec S1 1 × IVec S1 1 × IVec S1 1 × IVec S471x471 1 × IVec S471 1 × IVec S_ 1 × IVec S_ 1 × IVec S_ 1 × IVec S_ 1 × IVec S_ 1 × IVec S_ 1 × IVec S_ 1 × IVec S_ 1 × IVec S_ 1 × IVec S_ 1 :=
  let main_v0 : FVec F S471x64 .f32 := (transpose S471x64 [1, 0] · transposes_S64x471_S471x64_1_0) main_arg1
  let main_v1 : FVec F S64x64 .f32 := (fun l r => Host.dotGeneral dot_S64x471_S471x64_S64x64_1_0_0_1_n_n none l r) main_arg1 main_v0
  let main_v2 : FVec F S64x64 .f32 := Host.absf main_v1
  let main_cst : FVec F S_ .f32 := constant S_ .f32 0x00000000#32
  let main_v3 : FVec F S64 .f32 := (fun x v => Host.reduceAdd x v reducesTo_S64x64_S64_d1 h_S_) main_v2 main_cst
  let main_cst_0 : FVec F S_ .f32 := constant S_ .f32 0xFF800000#32
  let main_v4 : FVec F S_ .f32 := (fun x v => Host.reduce FloatOps.maximumf x v reducesTo_S64_S_d0 h_S_) main_v3 main_cst_0
  let main_v5 : FVec F S_ .f32 := mulf main_v4 main_v4
  let main_cst_1 : FVec F S_ .f32 := constant S_ .f32 0x3F800000#32
  let main_v6 : FVec F S_ .f32 := Host.divf main_cst_1 main_v5
  let main_v7 : FVec F S64x64 .f32 := broadcastInDim S64x64 ![] bcast_S_S64x64 main_v6
  let main_v8 : FVec F S64x64 .f32 := mulf main_v1 main_v7
  let main_v9 : IVec S64x64 32 := iotaInDim S64x64 32 0
  let main_v10 : IVec S64x64 32 := iotaInDim S64x64 32 1
  let main_c : IVec S_ 32 := constantI S_ 32 0#32
  let main_v11 : IVec S64x64 32 := broadcastInDim S64x64 ![] bcast_S_S64x64 main_c
  let main_v12 : IVec S64x64 32 := addi main_v9 main_v11
  let main_v13 : IVec S64x64 1 := cmpi .eq main_v12 main_v10
  let main_v14 : FVec F S64x64 .f32 := uitofp .f32 main_v13
  let main_v15 : FVec F S64x64 .f32 := (fun l r => Host.dotGeneral dot_S64x64_S64x64_S64x64_1_0_0_1_n_n none l r) main_v1 main_v8
  let main_v16 : FVec F S64x64 .f32 := subf main_v14 main_v15
  let main_v17 : FVec F S64x64 .f32 := (fun l r => Host.dotGeneral dot_S64x64_S64x64_S64x64_1_0_0_1_n_n none l r) main_v8 main_v16
  let main_v18 : FVec F S64x64 .f32 := addf main_v8 main_v17
  let main_v19 : FVec F S64x64 .f32 := (fun l r => Host.dotGeneral dot_S64x64_S64x64_S64x64_1_0_0_1_n_n none l r) main_v16 main_v16
  fn_part1 (F := F) main_arg0 main_arg1 main_arg2 main_arg4 main_arg5 main_arg6 main_arg7 main_arg8 main_arg9 main_v18 main_v19
-- ==== Kernel.lean ====
abbrev S4096x471 : Shape := ⟨2, ![4096, 471]⟩
abbrev S64x471 : Shape := ⟨2, ![64, 471]⟩
abbrev S471 : Shape := ⟨1, ![471]⟩
abbrev S1 : Shape := ⟨1, ![1]⟩
abbrev S471x471 : Shape := ⟨2, ![471, 471]⟩
abbrev S1x471 : Shape := ⟨2, ![1, 471]⟩
abbrev S4 : Shape := ⟨1, ![4]⟩
abbrev S1x4 : Shape := ⟨2, ![1, 4]⟩
abbrev S512x471 : Shape := ⟨2, ![512, 471]⟩
abbrev S1x1 : Shape := ⟨2, ![1, 1]⟩
abbrev S64x64 : Shape := ⟨2, ![64, 64]⟩
abbrev S64 : Shape := ⟨1, ![64]⟩
abbrev S1x64 : Shape := ⟨2, ![1, 64]⟩
abbrev S1x1x471 : Shape := ⟨3, ![1, 1, 471]⟩
abbrev S1x1x1 : Shape := ⟨3, ![1, 1, 1]⟩
abbrev S471x1 : Shape := ⟨2, ![471, 1]⟩

abbrev nBuf : Space → Nat
  | .hbm => 16
  | .vmem => 9
  | .smem => 0
  | _ => 0

abbrev bufTy : (tb : Table) → Fin (tcTables nBuf tb) → BufTy
  | .hbm, ⟨0, _⟩ => ⟨S4096x471, .f32⟩
  | .hbm, ⟨1, _⟩ => ⟨S64x471, .f32⟩
  | .hbm, ⟨2, _⟩ => ⟨S471, .f32⟩
  | .hbm, ⟨3, _⟩ => ⟨S471, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S471x471, .f32⟩
  | .hbm, ⟨9, _⟩ => ⟨S471, .f32⟩
  | .hbm, ⟨10, _⟩ => ⟨S1x471, .f32⟩
  | .hbm, ⟨11, _⟩ => ⟨S1x471, .f32⟩
  | .hbm, ⟨12, _⟩ => ⟨S4, .f32⟩
  | .hbm, ⟨13, _⟩ => ⟨S1x4, .f32⟩
  | .hbm, ⟨14, _⟩ => ⟨S1x471, .f32⟩
  | .hbm, ⟨15, _⟩ => ⟨S471, .f32⟩
  | .local _ .vmem, ⟨0, _⟩ => ⟨S512x471, .f32⟩
  | .local _ .vmem, ⟨1, _⟩ => ⟨S512x471, .f32⟩
  | .local _ .vmem, ⟨2, _⟩ => ⟨S64x471, .f32⟩
  | .local _ .vmem, ⟨3, _⟩ => ⟨S1x471, .f32⟩
  | .local _ .vmem, ⟨4, _⟩ => ⟨S471x471, .f32⟩
  | .local _ .vmem, ⟨5, _⟩ => ⟨S1x471, .f32⟩
  | .local _ .vmem, ⟨6, _⟩ => ⟨S1x4, .f32⟩
  | .local _ .vmem, ⟨7, _⟩ => ⟨S1x471, .f32⟩
  | .local _ .vmem, ⟨8, _⟩ => ⟨S1x471, .f32⟩
  | _, _ => ⟨S4096x471, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_6 : BitVec 32 := 0#32
  let v13 : BitVec 1 := Scalar.cmpi .ne v12 c0_i32_6
  v13

@[reducible] def k0_t1_loop : Scf.Loop 32 :=
  let c0_i32_28 : BitVec 32 := 0#32
  let c16_i32 : BitVec 32 := 16#32
  let v44 : BitVec 32 := Scalar.addi c0_i32_28 c16_i32
  let c1_i32 : BitVec 32 := 1#32
  ⟨c0_i32_28, v44, c1_i32⟩
@[reducible] def k0_t2_loop : Scf.Loop 32 :=
  let c0_i32_32 : BitVec 32 := 0#32
  let c10_i32 : BitVec 32 := 10#32
  let v51 : BitVec 32 := Scalar.addi c0_i32_32 c10_i32
  let c1_i32_33 : BitVec 32 := 1#32
  ⟨c0_i32_32, v51, c1_i32_33⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x471 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x471 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x471 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S471x471 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x471 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x471 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x471 : Shape := ⟨2, ![4096, 471]⟩
abbrev S64x471 : Shape := ⟨2, ![64, 471]⟩
abbrev S471 : Shape := ⟨1, ![471]⟩
abbrev S1 : Shape := ⟨1, ![1]⟩
abbrev S471x471 : Shape := ⟨2, ![471, 471]⟩
abbrev S_ : Shape := ⟨0, ![]⟩
abbrev S471x64 : Shape := ⟨2, ![471, 64]⟩
abbrev S64x64 : Shape := ⟨2, ![64, 64]⟩
abbrev S64 : Shape := ⟨1, ![64]⟩
abbrev S1x471 : Shape := ⟨2, ![1, 471]⟩
abbrev S50 : Shape := ⟨1, ![50]⟩
abbrev S50x1 : Shape := ⟨2, ![50, 1]⟩

abbrev nBuf : Space → Nat
  | .hbm => 769
  | .vmem => 0
  | .smem => 0
  | _ => 0

abbrev hbmTy0_0 (i : Nat) : BufTy := match i % 128 with
  | 0 => ⟨S4096x471, .f32⟩
  | 1 => ⟨S64x471, .f32⟩
  | 2 => ⟨S471, .f32⟩
  | 3 => ⟨S471, .f32⟩
  | 4 => ⟨S1, .f32⟩
  | 5 => ⟨S1, .f32⟩
  | 6 => ⟨S1, .f32⟩
  | 7 => ⟨S1, .f32⟩
  | 8 => ⟨S471x471, .f32⟩
  | 9 => ⟨S471, .f32⟩
  | 10 => ⟨S_, .f32⟩
  | 11 => ⟨S471, .f32⟩
  | 12 => ⟨S_, .f32⟩
  | 13 => ⟨S471, .f32⟩
  | 14 => ⟨S471x64, .f32⟩
  | 15 => ⟨S64x64, .f32⟩
  | 16 => ⟨S64x64, .f32⟩
  | 17 => ⟨S_, .f32⟩
  | 18 => ⟨S64, .f32⟩
  | 19 => ⟨S_, .f32⟩
  | 20 => ⟨S_, .f32⟩
  | 21 => ⟨S_, .f32⟩
  | 22 => ⟨S_, .f32⟩
  | 23 => ⟨S_, .f32⟩
  | 24 => ⟨S64x64, .f32⟩
  | 25 => ⟨S64x64, .f32⟩
  | 26 => ⟨S64x64, .i32⟩
  | 27 => ⟨S64x64, .i32⟩
  | 28 => ⟨S_, .i32⟩
  | 29 => ⟨S64x64, .i32⟩
  | 30 => ⟨S64x64, .i32⟩
  | 31 => ⟨S64x64, .i1⟩
  | 32 => ⟨S64x64, .f32⟩
  | 33 => ⟨S_, .f32⟩
  | 34 => ⟨S64x64, .f32⟩
  | 35 => ⟨S_, .i32⟩
  | 36 => ⟨S_, .i32⟩
  | 37 => ⟨S64x64, .f32⟩
  | 38 => ⟨S64x64, .f32⟩
  | 39 => ⟨S64x64, .f32⟩
  | 40 => ⟨S_, .i32⟩
  | 41 => ⟨S_, .i32⟩
  | 42 => ⟨S64x64, .f32⟩
  | 43 => ⟨S_, .i32⟩
  | 44 => ⟨S_, .i1⟩
  | 45 => ⟨S_, .i32⟩
  | 46 => ⟨S_, .i32⟩
  | 47 => ⟨S64x64, .f32⟩
  | 48 => ⟨S64x64, .f32⟩
  | 49 => ⟨S64x64, .f32⟩
  | 50 => ⟨S64x64, .f32⟩
  | 51 => ⟨S_, .i32⟩
  | 52 => ⟨S_, .i32⟩
  | 53 => ⟨S471x471, .f32⟩
  | 54 => ⟨S4096x471, .f32⟩
  | 55 => ⟨S1x471, .f32⟩
  | 56 => ⟨S4096x471, .f32⟩
  | 57 => ⟨S4096x471, .f32⟩
  | 58 => ⟨S_, .f32⟩
  | 59 => ⟨S471, .f32⟩
  | 60 => ⟨S_, .f32⟩
  | 61 => ⟨S471, .f32⟩
  | 62 => ⟨S471, .f32⟩
  | 63 => ⟨S471, .f32⟩
  | 64 => ⟨S471, .f32⟩
  | 65 => ⟨S471, .f32⟩
  | 66 => ⟨S471, .f32⟩
  | 67 => ⟨S64, .f32⟩
  | 68 => ⟨S64, .f32⟩
  | 69 => ⟨S64, .f32⟩
  | 70 => ⟨S64, .f32⟩
  | 71 => ⟨S471x64, .f32⟩
  | 72 => ⟨S471, .f32⟩
  | 73 => ⟨S_, .f32⟩
  | 74 => ⟨S471, .f32⟩
  | 75 => ⟨S471, .f32⟩
  | 76 => ⟨S471, .f32⟩
  | 77 => ⟨S471, .f32⟩
  | 78 => ⟨S471, .f32⟩
  | 79 => ⟨S471, .f32⟩
  | 80 => ⟨S471, .f32⟩
  | 81 => ⟨S471, .f32⟩
  | 82 => ⟨S_, .f32⟩
  | 83 => ⟨S1, .f32⟩
  | 84 => ⟨S1, .f32⟩
  | 85 => ⟨S_, .f32⟩
  | 86 => ⟨S_, .f32⟩
  | 87 => ⟨S_, .f32⟩
  | 88 => ⟨S_, .f32⟩
  | 89 => ⟨S1, .f32⟩
  | 90 => ⟨S1, .f32⟩
  | 91 => ⟨S_, .f32⟩
  | 92 => ⟨S1, .f32⟩
  | 93 => ⟨S1, .f32⟩
  | 94 => ⟨S_, .f32⟩
  | 95 => ⟨S471, .f32⟩
  | 96 => ⟨S471, .f32⟩
  | 97 => ⟨S471, .f32⟩
  | 98 => ⟨S471, .f32⟩
  | 99 => ⟨S471, .f32⟩
  | 100 => ⟨S471, .f32⟩
  | 101 => ⟨S471, .f32⟩
  | 102 => ⟨S471, .f32⟩
  | 103 => ⟨S471, .f32⟩
  | 104 => ⟨S471, .f32⟩
  | 105 => ⟨S_, .f32⟩
  | 106 => ⟨S471, .f32⟩
  | 107 => ⟨S471, .f32⟩
  | 108 => ⟨S50, .f32⟩
  | 109 => ⟨S50, .i32⟩
  | 110 => ⟨S_, .f32⟩
  | 111 => ⟨S471, .f32⟩
  | 112 => ⟨S_, .i32⟩
  | 113 => ⟨S50, .i32⟩
  | 114 => ⟨S50, .i1⟩
  | 115 => ⟨S_, .i32⟩
  | 116 => ⟨S50, .i32⟩
  | 117 => ⟨S50, .i32⟩
  | 118 => ⟨S50, .i32⟩
  | 119 => ⟨S50x1, .i32⟩
  | 120 => ⟨S_, .f32⟩
  | 121 => ⟨S50, .f32⟩
  | 122 => ⟨S471, .f32⟩
  | 123 => ⟨S471, .f32⟩
  | 124 => ⟨S471x64, .f32⟩
  | 125 => ⟨S471, .f32⟩
  | 126 => ⟨S_, .f32⟩
  | 127 => ⟨S471, .f32⟩
  | _ => ⟨S4096x471, .f32⟩

abbrev hbmTy0_1 (i : Nat) : BufTy := match i % 128 with
  | 0 => ⟨S471, .f32⟩
  | 1 => ⟨S471, .f32⟩
  | 2 => ⟨S471, .f32⟩
  | 3 => ⟨S471, .f32⟩
  | 4 => ⟨S471, .f32⟩
  | 5 => ⟨S471, .f32⟩
  | 6 => ⟨S471, .f32⟩
  | 7 => ⟨S471, .f32⟩
  | 8 => ⟨S471, .f32⟩
  | 9 => ⟨S471, .f32⟩
  | 10 => ⟨S64, .f32⟩
  | 11 => ⟨S64, .f32⟩
  | 12 => ⟨S64, .f32⟩
  | 13 => ⟨S64, .f32⟩
  | 14 => ⟨S471x64, .f32⟩
  | 15 => ⟨S471, .f32⟩
  | 16 => ⟨S_, .f32⟩
  | 17 => ⟨S471, .f32⟩
  | 18 => ⟨S471, .f32⟩
  | 19 => ⟨S471, .f32⟩
  | 20 => ⟨S471, .f32⟩
  | 21 => ⟨S471, .f32⟩
  | 22 => ⟨S471, .f32⟩
  | 23 => ⟨S471, .f32⟩
  | 24 => ⟨S471, .f32⟩
  | 25 => ⟨S_, .f32⟩
  | 26 => ⟨S1, .f32⟩
  | 27 => ⟨S1, .f32⟩
  | 28 => ⟨S_, .f32⟩
  | 29 => ⟨S_, .f32⟩
  | 30 => ⟨S_, .f32⟩
  | 31 => ⟨S_, .f32⟩
  | 32 => ⟨S1, .f32⟩
  | 33 => ⟨S1, .f32⟩
  | 34 => ⟨S_, .f32⟩
  | 35 => ⟨S1, .f32⟩
  | 36 => ⟨S1, .f32⟩
  | 37 => ⟨S_, .f32⟩
  | 38 => ⟨S471, .f32⟩
  | 39 => ⟨S471, .f32⟩
  | 40 => ⟨S471, .f32⟩
  | 41 => ⟨S471, .f32⟩
  | 42 => ⟨S471, .f32⟩
  | 43 => ⟨S471, .f32⟩
  | 44 => ⟨S471, .f32⟩
  | 45 => ⟨S471, .f32⟩
  | 46 => ⟨S471, .f32⟩
  | 47 => ⟨S471, .f32⟩
  | 48 => ⟨S_, .f32⟩
  | 49 => ⟨S471, .f32⟩
  | 50 => ⟨S471, .f32⟩
  | 51 => ⟨S50, .f32⟩
  | 52 => ⟨S50, .i32⟩
  | 53 => ⟨S_, .f32⟩
  | 54 => ⟨S471, .f32⟩
  | 55 => ⟨S_, .i32⟩
  | 56 => ⟨S50, .i32⟩
  | 57 => ⟨S50, .i1⟩
  | 58 => ⟨S_, .i32⟩
  | 59 => ⟨S50, .i32⟩
  | 60 => ⟨S50, .i32⟩
  | 61 => ⟨S50, .i32⟩
  | 62 => ⟨S50x1, .i32⟩
  | 63 => ⟨S_, .f32⟩
  | 64 => ⟨S50, .f32⟩
  | 65 => ⟨S471, .f32⟩
  | 66 => ⟨S471, .f32⟩
  | 67 => ⟨S471x64, .f32⟩
  | 68 => ⟨S471, .f32⟩
  | 69 => ⟨S_, .f32⟩
  | 70 => ⟨S471, .f32⟩
  | 71 => ⟨S471, .f32⟩
  | 72 => ⟨S471, .f32⟩
  | 73 => ⟨S471, .f32⟩
  | 74 => ⟨S471, .f32⟩
  | 75 => ⟨S471, .f32⟩
  | 76 => ⟨S471, .f32⟩
  | 77 => ⟨S471, .f32⟩
  | 78 => ⟨S471, .f32⟩
  | 79 => ⟨S471, .f32⟩
  | 80 => ⟨S471, .f32⟩
  | 81 => ⟨S64, .f32⟩
  | 82 => ⟨S64, .f32⟩
  | 83 => ⟨S64, .f32⟩
  | 84 => ⟨S64, .f32⟩
  | 85 => ⟨S471x64, .f32⟩
  | 86 => ⟨S471, .f32⟩
  | 87 => ⟨S_, .f32⟩
  | 88 => ⟨S471, .f32⟩
  | 89 => ⟨S471, .f32⟩
  | 90 => ⟨S471, .f32⟩
  | 91 => ⟨S471, .f32⟩
  | 92 => ⟨S471, .f32⟩
  | 93 => ⟨S471, .f32⟩
  | 94 => ⟨S471, .f32⟩
  | 95 => ⟨S471, .f32⟩
  | 96 => ⟨S_, .f32⟩
  | 97 => ⟨S1, .f32⟩
  | 98 => ⟨S1, .f32⟩
  | 99 => ⟨S_, .f32⟩
  | 100 => ⟨S_, .f32⟩
  | 101 => ⟨S_, .f32⟩
  | 102 => ⟨S_, .f32⟩
  | 103 => ⟨S1, .f32⟩
  | 104 => ⟨S1, .f32⟩
  | 105 => ⟨S_, .f32⟩
  | 106 => ⟨S1, .f32⟩
  | 107 => ⟨S1, .f32⟩
  | 108 => ⟨S_, .f32⟩
  | 109 => ⟨S471, .f32⟩
  | 110 => ⟨S471, .f32⟩
  | 111 => ⟨S471, .f32⟩
  | 112 => ⟨S471, .f32⟩
  | 113 => ⟨S471, .f32⟩
  | 114 => ⟨S471, .f32⟩
  | 115 => ⟨S471, .f32⟩
  | 116 => ⟨S471, .f32⟩
  | 117 => ⟨S471, .f32⟩
  | 118 => ⟨S471, .f32⟩
  | 119 => ⟨S_, .f32⟩
  | 120 => ⟨S471, .f32⟩
  | 121 => ⟨S471, .f32⟩
  | 122 => ⟨S50, .f32⟩
  | 123 => ⟨S50, .i32⟩
  | 124 => ⟨S_, .f32⟩
  | 125 => ⟨S471, .f32⟩
  | 126 => ⟨S_, .i32⟩
  | 127 => ⟨S50, .i32⟩
  | _ => ⟨S4096x471, .f32⟩

abbrev hbmTy0_2 (i : Nat) : BufTy := match i % 128 with
  | 0 => ⟨S50, .i1⟩
  | 1 => ⟨S_, .i32⟩
  | 2 => ⟨S50, .i32⟩
  | 3 => ⟨S50, .i32⟩
  | 4 => ⟨S50, .i32⟩
  | 5 => ⟨S50x1, .i32⟩
  | 6 => ⟨S_, .f32⟩
  | 7 => ⟨S50, .f32⟩
  | 8 => ⟨S471, .f32⟩
  | 9 => ⟨S471, .f32⟩
  | 10 => ⟨S471x64, .f32⟩
  | 11 => ⟨S471, .f32⟩
  | 12 => ⟨S_, .f32⟩
  | 13 => ⟨S471, .f32⟩
  | 14 => ⟨S471, .f32⟩
  | 15 => ⟨S471, .f32⟩
  | 16 => ⟨S471, .f32⟩
  | 17 => ⟨S471, .f32⟩
  | 18 => ⟨S471, .f32⟩
  | 19 => ⟨S471, .f32⟩
  | 20 => ⟨S471, .f32⟩
  | 21 => ⟨S471, .f32⟩
  | 22 => ⟨S471, .f32⟩
  | 23 => ⟨S471, .f32⟩
  | 24 => ⟨S64, .f32⟩
  | 25 => ⟨S64, .f32⟩
  | 26 => ⟨S64, .f32⟩
  | 27 => ⟨S64, .f32⟩
  | 28 => ⟨S471x64, .f32⟩
  | 29 => ⟨S471, .f32⟩
  | 30 => ⟨S_, .f32⟩
  | 31 => ⟨S471, .f32⟩
  | 32 => ⟨S471, .f32⟩
  | 33 => ⟨S471, .f32⟩
  | 34 => ⟨S471, .f32⟩
  | 35 => ⟨S471, .f32⟩
  | 36 => ⟨S471, .f32⟩
  | 37 => ⟨S471, .f32⟩
  | 38 => ⟨S471, .f32⟩
  | 39 => ⟨S_, .f32⟩
  | 40 => ⟨S1, .f32⟩
  | 41 => ⟨S1, .f32⟩
  | 42 => ⟨S_, .f32⟩
  | 43 => ⟨S_, .f32⟩
  | 44 => ⟨S_, .f32⟩
  | 45 => ⟨S_, .f32⟩
  | 46 => ⟨S1, .f32⟩
  | 47 => ⟨S1, .f32⟩
  | 48 => ⟨S_, .f32⟩
  | 49 => ⟨S1, .f32⟩
  | 50 => ⟨S1, .f32⟩
  | 51 => ⟨S_, .f32⟩
  | 52 => ⟨S471, .f32⟩
  | 53 => ⟨S471, .f32⟩
  | 54 => ⟨S471, .f32⟩
  | 55 => ⟨S471, .f32⟩
  | 56 => ⟨S471, .f32⟩
  | 57 => ⟨S471, .f32⟩
  | 58 => ⟨S471, .f32⟩
  | 59 => ⟨S471, .f32⟩
  | 60 => ⟨S471, .f32⟩
  | 61 => ⟨S471, .f32⟩
  | 62 => ⟨S_, .f32⟩
  | 63 => ⟨S471, .f32⟩
  | 64 => ⟨S471, .f32⟩
  | 65 => ⟨S50, .f32⟩
  | 66 => ⟨S50, .i32⟩
  | 67 => ⟨S_, .f32⟩
  | 68 => ⟨S471, .f32⟩
  | 69 => ⟨S_, .i32⟩
  | 70 => ⟨S50, .i32⟩
  | 71 => ⟨S50, .i1⟩
  | 72 => ⟨S_, .i32⟩
  | 73 => ⟨S50, .i32⟩
  | 74 => ⟨S50, .i32⟩
  | 75 => ⟨S50, .i32⟩
  | 76 => ⟨S50x1, .i32⟩
  | 77 => ⟨S_, .f32⟩
  | 78 => ⟨S50, .f32⟩
  | 79 => ⟨S471, .f32⟩
  | 80 => ⟨S471, .f32⟩
  | 81 => ⟨S471x64, .f32⟩
  | 82 => ⟨S471, .f32⟩
  | 83 => ⟨S_, .f32⟩
  | 84 => ⟨S471, .f32⟩
  | 85 => ⟨S471, .f32⟩
  | 86 => ⟨S471, .f32⟩
  | 87 => ⟨S471, .f32⟩
  | 88 => ⟨S471, .f32⟩
  | 89 => ⟨S471, .f32⟩
  | 90 => ⟨S471, .f32⟩
  | 91 => ⟨S471, .f32⟩
  | 92 => ⟨S471, .f32⟩
  | 93 => ⟨S471, .f32⟩
  | 94 => ⟨S471, .f32⟩
  | 95 => ⟨S64, .f32⟩
  | 96 => ⟨S64, .f32⟩
  | 97 => ⟨S64, .f32⟩
  | 98 => ⟨S64, .f32⟩
  | 99 => ⟨S471x64, .f32⟩
  | 100 => ⟨S471, .f32⟩
  | 101 => ⟨S_, .f32⟩
  | 102 => ⟨S471, .f32⟩
  | 103 => ⟨S471, .f32⟩
  | 104 => ⟨S471, .f32⟩
  | 105 => ⟨S471, .f32⟩
  | 106 => ⟨S471, .f32⟩
  | 107 => ⟨S471, .f32⟩
  | 108 => ⟨S471, .f32⟩
  | 109 => ⟨S471, .f32⟩
  | 110 => ⟨S_, .f32⟩
  | 111 => ⟨S1, .f32⟩
  | 112 => ⟨S1, .f32⟩
  | 113 => ⟨S_, .f32⟩
  | 114 => ⟨S_, .f32⟩
  | 115 => ⟨S_, .f32⟩
  | 116 => ⟨S_, .f32⟩
  | 117 => ⟨S1, .f32⟩
  | 118 => ⟨S1, .f32⟩
  | 119 => ⟨S_, .f32⟩
  | 120 => ⟨S1, .f32⟩
  | 121 => ⟨S1, .f32⟩
  | 122 => ⟨S_, .f32⟩
  | 123 => ⟨S471, .f32⟩
  | 124 => ⟨S471, .f32⟩
  | 125 => ⟨S471, .f32⟩
  | 126 => ⟨S471, .f32⟩
  | 127 => ⟨S471, .f32⟩
  | _ => ⟨S4096x471, .f32⟩

abbrev hbmTy0_3 (i : Nat) : BufTy := match i % 128 with
  | 0 => ⟨S471, .f32⟩
  | 1 => ⟨S471, .f32⟩
  | 2 => ⟨S471, .f32⟩
  | 3 => ⟨S471, .f32⟩
  | 4 => ⟨S471, .f32⟩
  | 5 => ⟨S_, .f32⟩
  | 6 => ⟨S471, .f32⟩
  | 7 => ⟨S471, .f32⟩
  | 8 => ⟨S50, .f32⟩
  | 9 => ⟨S50, .i32⟩
  | 10 => ⟨S_, .f32⟩
  | 11 => ⟨S471, .f32⟩
  | 12 => ⟨S_, .i32⟩
  | 13 => ⟨S50, .i32⟩
  | 14 => ⟨S50, .i1⟩
  | 15 => ⟨S_, .i32⟩
  | 16 => ⟨S50, .i32⟩
  | 17 => ⟨S50, .i32⟩
  | 18 => ⟨S50, .i32⟩
  | 19 => ⟨S50x1, .i32⟩
  | 20 => ⟨S_, .f32⟩
  | 21 => ⟨S50, .f32⟩
  | 22 => ⟨S471, .f32⟩
  | 23 => ⟨S471, .f32⟩
  | 24 => ⟨S471x64, .f32⟩
  | 25 => ⟨S471, .f32⟩
  | 26 => ⟨S_, .f32⟩
  | 27 => ⟨S471, .f32⟩
  | 28 => ⟨S471, .f32⟩
  | 29 => ⟨S471, .f32⟩
  | 30 => ⟨S471, .f32⟩
  | 31 => ⟨S471, .f32⟩
  | 32 => ⟨S471, .f32⟩
  | 33 => ⟨S471, .f32⟩
  | 34 => ⟨S471, .f32⟩
  | 35 => ⟨S471, .f32⟩
  | 36 => ⟨S471, .f32⟩
  | 37 => ⟨S471, .f32⟩
  | 38 => ⟨S64, .f32⟩
  | 39 => ⟨S64, .f32⟩
  | 40 => ⟨S64, .f32⟩
  | 41 => ⟨S64, .f32⟩
  | 42 => ⟨S471x64, .f32⟩
  | 43 => ⟨S471, .f32⟩
  | 44 => ⟨S_, .f32⟩
  | 45 => ⟨S471, .f32⟩
  | 46 => ⟨S471, .f32⟩
  | 47 => ⟨S471, .f32⟩
  | 48 => ⟨S471, .f32⟩
  | 49 => ⟨S471, .f32⟩
  | 50 => ⟨S471, .f32⟩
  | 51 => ⟨S471, .f32⟩
  | 52 => ⟨S471, .f32⟩
  | 53 => ⟨S_, .f32⟩
  | 54 => ⟨S1, .f32⟩
  | 55 => ⟨S1, .f32⟩
  | 56 => ⟨S_, .f32⟩
  | 57 => ⟨S_, .f32⟩
  | 58 => ⟨S_, .f32⟩
  | 59 => ⟨S_, .f32⟩
  | 60 => ⟨S1, .f32⟩
  | 61 => ⟨S1, .f32⟩
  | 62 => ⟨S_, .f32⟩
  | 63 => ⟨S1, .f32⟩
  | 64 => ⟨S1, .f32⟩
  | 65 => ⟨S_, .f32⟩
  | 66 => ⟨S471, .f32⟩
  | 67 => ⟨S471, .f32⟩
  | 68 => ⟨S471, .f32⟩
  | 69 => ⟨S471, .f32⟩
  | 70 => ⟨S471, .f32⟩
  | 71 => ⟨S471, .f32⟩
  | 72 => ⟨S471, .f32⟩
  | 73 => ⟨S471, .f32⟩
  | 74 => ⟨S471, .f32⟩
  | 75 => ⟨S471, .f32⟩
  | 76 => ⟨S_, .f32⟩
  | 77 => ⟨S471, .f32⟩
  | 78 => ⟨S471, .f32⟩
  | 79 => ⟨S50, .f32⟩
  | 80 => ⟨S50, .i32⟩
  | 81 => ⟨S_, .f32⟩
  | 82 => ⟨S471, .f32⟩
  | 83 => ⟨S_, .i32⟩
  | 84 => ⟨S50, .i32⟩
  | 85 => ⟨S50, .i1⟩
  | 86 => ⟨S_, .i32⟩
  | 87 => ⟨S50, .i32⟩
  | 88 => ⟨S50, .i32⟩
  | 89 => ⟨S50, .i32⟩
  | 90 => ⟨S50x1, .i32⟩
  | 91 => ⟨S_, .f32⟩
  | 92 => ⟨S50, .f32⟩
  | 93 => ⟨S471, .f32⟩
  | 94 => ⟨S471, .f32⟩
  | 95 => ⟨S471x64, .f32⟩
  | 96 => ⟨S471, .f32⟩
  | 97 => ⟨S_, .f32⟩
  | 98 => ⟨S471, .f32⟩
  | 99 => ⟨S471, .f32⟩
  | 100 => ⟨S471, .f32⟩
  | 101 => ⟨S471, .f32⟩
  | 102 => ⟨S471, .f32⟩
  | 103 => ⟨S471, .f32⟩
  | 104 => ⟨S471, .f32⟩
  | 105 => ⟨S471, .f32⟩
  | 106 => ⟨S471, .f32⟩
  | 107 => ⟨S471, .f32⟩
  | 108 => ⟨S471, .f32⟩
  | 109 => ⟨S64, .f32⟩
  | 110 => ⟨S64, .f32⟩
  | 111 => ⟨S64, .f32⟩
  | 112 => ⟨S64, .f32⟩
  | 113 => ⟨S471x64, .f32⟩
  | 114 => ⟨S471, .f32⟩
  | 115 => ⟨S_, .f32⟩
  | 116 => ⟨S471, .f32⟩
  | 117 => ⟨S471, .f32⟩
  | 118 => ⟨S471, .f32⟩
  | 119 => ⟨S471, .f32⟩
  | 120 => ⟨S471, .f32⟩
  | 121 => ⟨S471, .f32⟩
  | 122 => ⟨S471, .f32⟩
  | 123 => ⟨S471, .f32⟩
  | 124 => ⟨S_, .f32⟩
  | 125 => ⟨S1, .f32⟩
  | 126 => ⟨S1, .f32⟩
  | 127 => ⟨S_, .f32⟩
  | _ => ⟨S4096x471, .f32⟩

abbrev hbmTy0_4 (i : Nat) : BufTy := match i % 128 with
  | 0 => ⟨S_, .f32⟩
  | 1 => ⟨S_, .f32⟩
  | 2 => ⟨S_, .f32⟩
  | 3 => ⟨S1, .f32⟩
  | 4 => ⟨S1, .f32⟩
  | 5 => ⟨S_, .f32⟩
  | 6 => ⟨S1, .f32⟩
  | 7 => ⟨S1, .f32⟩
  | 8 => ⟨S_, .f32⟩
  | 9 => ⟨S471, .f32⟩
  | 10 => ⟨S471, .f32⟩
  | 11 => ⟨S471, .f32⟩
  | 12 => ⟨S471, .f32⟩
  | 13 => ⟨S471, .f32⟩
  | 14 => ⟨S471, .f32⟩
  | 15 => ⟨S471, .f32⟩
  | 16 => ⟨S471, .f32⟩
  | 17 => ⟨S471, .f32⟩
  | 18 => ⟨S471, .f32⟩
  | 19 => ⟨S_, .f32⟩
  | 20 => ⟨S471, .f32⟩
  | 21 => ⟨S471, .f32⟩
  | 22 => ⟨S50, .f32⟩
  | 23 => ⟨S50, .i32⟩
  | 24 => ⟨S_, .f32⟩
  | 25 => ⟨S471, .f32⟩
  | 26 => ⟨S_, .i32⟩
  | 27 => ⟨S50, .i32⟩
  | 28 => ⟨S50, .i1⟩
  | 29 => ⟨S_, .i32⟩
  | 30 => ⟨S50, .i32⟩
  | 31 => ⟨S50, .i32⟩
  | 32 => ⟨S50, .i32⟩
  | 33 => ⟨S50x1, .i32⟩
  | 34 => ⟨S_, .f32⟩
  | 35 => ⟨S50, .f32⟩
  | 36 => ⟨S471, .f32⟩
  | 37 => ⟨S471, .f32⟩
  | 38 => ⟨S471x64, .f32⟩
  | 39 => ⟨S471, .f32⟩
  | 40 => ⟨S_, .f32⟩
  | 41 => ⟨S471, .f32⟩
  | 42 => ⟨S471, .f32⟩
  | 43 => ⟨S471, .f32⟩
  | 44 => ⟨S471, .f32⟩
  | 45 => ⟨S471, .f32⟩
  | 46 => ⟨S471, .f32⟩
  | 47 => ⟨S471, .f32⟩
  | 48 => ⟨S471, .f32⟩
  | 49 => ⟨S471, .f32⟩
  | 50 => ⟨S471, .f32⟩
  | 51 => ⟨S471, .f32⟩
  | 52 => ⟨S64, .f32⟩
  | 53 => ⟨S64, .f32⟩
  | 54 => ⟨S64, .f32⟩
  | 55 => ⟨S64, .f32⟩
  | 56 => ⟨S471x64, .f32⟩
  | 57 => ⟨S471, .f32⟩
  | 58 => ⟨S_, .f32⟩
  | 59 => ⟨S471, .f32⟩
  | 60 => ⟨S471, .f32⟩
  | 61 => ⟨S471, .f32⟩
  | 62 => ⟨S471, .f32⟩
  | 63 => ⟨S471, .f32⟩
  | 64 => ⟨S471, .f32⟩
  | 65 => ⟨S471, .f32⟩
  | 66 => ⟨S471, .f32⟩
  | 67 => ⟨S_, .f32⟩
  | 68 => ⟨S1, .f32⟩
  | 69 => ⟨S1, .f32⟩
  | 70 => ⟨S_, .f32⟩
  | 71 => ⟨S_, .f32⟩
  | 72 => ⟨S_, .f32⟩
  | 73 => ⟨S_, .f32⟩
  | 74 => ⟨S1, .f32⟩
  | 75 => ⟨S1, .f32⟩
  | 76 => ⟨S_, .f32⟩
  | 77 => ⟨S1, .f32⟩
  | 78 => ⟨S1, .f32⟩
  | 79 => ⟨S_, .f32⟩
  | 80 => ⟨S471, .f32⟩
  | 81 => ⟨S471, .f32⟩
  | 82 => ⟨S471, .f32⟩
  | 83 => ⟨S471, .f32⟩
  | 84 => ⟨S471, .f32⟩
  | 85 => ⟨S471, .f32⟩
  | 86 => ⟨S471, .f32⟩
  | 87 => ⟨S471, .f32⟩
  | 88 => ⟨S471, .f32⟩
  | 89 => ⟨S471, .f32⟩
  | 90 => ⟨S_, .f32⟩
  | 91 => ⟨S471, .f32⟩
  | 92 => ⟨S471, .f32⟩
  | 93 => ⟨S50, .f32⟩
  | 94 => ⟨S50, .i32⟩
  | 95 => ⟨S_, .f32⟩
  | 96 => ⟨S471, .f32⟩
  | 97 => ⟨S_, .i32⟩
  | 98 => ⟨S50, .i32⟩
  | 99 => ⟨S50, .i1⟩
  | 100 => ⟨S_, .i32⟩
  | 101 => ⟨S50, .i32⟩
  | 102 => ⟨S50, .i32⟩
  | 103 => ⟨S50, .i32⟩
  | 104 => ⟨S50x1, .i32⟩
  | 105 => ⟨S_, .f32⟩
  | 106 => ⟨S50, .f32⟩
  | 107 => ⟨S471, .f32⟩
  | 108 => ⟨S471, .f32⟩
  | 109 => ⟨S471x64, .f32⟩
  | 110 => ⟨S471, .f32⟩
  | 111 => ⟨S_, .f32⟩
  | 112 => ⟨S471, .f32⟩
  | 113 => ⟨S471, .f32⟩
  | 114 => ⟨S471, .f32⟩
  | 115 => ⟨S471, .f32⟩
  | 116 => ⟨S471, .f32⟩
  | 117 => ⟨S471, .f32⟩
  | 118 => ⟨S471, .f32⟩
  | 119 => ⟨S471, .f32⟩
  | 120 => ⟨S471, .f32⟩
  | 121 => ⟨S471, .f32⟩
  | 122 => ⟨S471, .f32⟩
  | 123 => ⟨S64, .f32⟩
  | 124 => ⟨S64, .f32⟩
  | 125 => ⟨S64, .f32⟩
  | 126 => ⟨S64, .f32⟩
  | 127 => ⟨S471x64, .f32⟩
  | _ => ⟨S4096x471, .f32⟩

abbrev hbmTy0_5 (i : Nat) : BufTy := match i % 128 with
  | 0 => ⟨S471, .f32⟩
  | 1 => ⟨S_, .f32⟩
  | 2 => ⟨S471, .f32⟩
  | 3 => ⟨S471, .f32⟩
  | 4 => ⟨S471, .f32⟩
  | 5 => ⟨S471, .f32⟩
  | 6 => ⟨S471, .f32⟩
  | 7 => ⟨S471, .f32⟩
  | 8 => ⟨S471, .f32⟩
  | 9 => ⟨S471, .f32⟩
  | 10 => ⟨S_, .f32⟩
  | 11 => ⟨S1, .f32⟩
  | 12 => ⟨S1, .f32⟩
  | 13 => ⟨S_, .f32⟩
  | 14 => ⟨S_, .f32⟩
  | 15 => ⟨S_, .f32⟩
  | 16 => ⟨S_, .f32⟩
  | 17 => ⟨S1, .f32⟩
  | 18 => ⟨S1, .f32⟩
  | 19 => ⟨S_, .f32⟩
  | 20 => ⟨S1, .f32⟩
  | 21 => ⟨S1, .f32⟩
  | 22 => ⟨S_, .f32⟩
  | 23 => ⟨S471, .f32⟩
  | 24 => ⟨S471, .f32⟩
  | 25 => ⟨S471, .f32⟩
  | 26 => ⟨S471, .f32⟩
  | 27 => ⟨S471, .f32⟩
  | 28 => ⟨S471, .f32⟩
  | 29 => ⟨S471, .f32⟩
  | 30 => ⟨S471, .f32⟩
  | 31 => ⟨S471, .f32⟩
  | 32 => ⟨S471, .f32⟩
  | 33 => ⟨S_, .f32⟩
  | 34 => ⟨S471, .f32⟩
  | 35 => ⟨S471, .f32⟩
  | 36 => ⟨S50, .f32⟩
  | 37 => ⟨S50, .i32⟩
  | 38 => ⟨S_, .f32⟩
  | 39 => ⟨S471, .f32⟩
  | 40 => ⟨S_, .i32⟩
  | 41 => ⟨S50, .i32⟩
  | 42 => ⟨S50, .i1⟩
  | 43 => ⟨S_, .i32⟩
  | 44 => ⟨S50, .i32⟩
  | 45 => ⟨S50, .i32⟩
  | 46 => ⟨S50, .i32⟩
  | 47 => ⟨S50x1, .i32⟩
  | 48 => ⟨S_, .f32⟩
  | 49 => ⟨S50, .f32⟩
  | 50 => ⟨S471, .f32⟩
  | 51 => ⟨S471, .f32⟩
  | 52 => ⟨S471x64, .f32⟩
  | 53 => ⟨S471, .f32⟩
  | 54 => ⟨S_, .f32⟩
  | 55 => ⟨S471, .f32⟩
  | 56 => ⟨S471, .f32⟩
  | 57 => ⟨S471, .f32⟩
  | 58 => ⟨S471, .f32⟩
  | 59 => ⟨S471, .f32⟩
  | 60 => ⟨S471, .f32⟩
  | 61 => ⟨S471, .f32⟩
  | 62 => ⟨S471, .f32⟩
  | 63 => ⟨S471, .f32⟩
  | 64 => ⟨S471, .f32⟩
  | 65 => ⟨S471, .f32⟩
  | 66 => ⟨S64, .f32⟩
  | 67 => ⟨S64, .f32⟩
  | 68 => ⟨S64, .f32⟩
  | 69 => ⟨S64, .f32⟩
  | 70 => ⟨S471x64, .f32⟩
  | 71 => ⟨S471, .f32⟩
  | 72 => ⟨S_, .f32⟩
  | 73 => ⟨S471, .f32⟩
  | 74 => ⟨S471, .f32⟩
  | 75 => ⟨S471, .f32⟩
  | 76 => ⟨S471, .f32⟩
  | 77 => ⟨S471, .f32⟩
  | 78 => ⟨S471, .f32⟩
  | 79 => ⟨S471, .f32⟩
  | 80 => ⟨S471, .f32⟩
  | 81 => ⟨S_, .f32⟩
  | 82 => ⟨S1, .f32⟩
  | 83 => ⟨S1, .f32⟩
  | 84 => ⟨S_, .f32⟩
  | 85 => ⟨S_, .f32⟩
  | 86 => ⟨S_, .f32⟩
  | 87 => ⟨S_, .f32⟩
  | 88 => ⟨S1, .f32⟩
  | 89 => ⟨S1, .f32⟩
  | 90 => ⟨S_, .f32⟩
  | 91 => ⟨S1, .f32⟩
  | 92 => ⟨S1, .f32⟩
  | 93 => ⟨S_, .f32⟩
  | 94 => ⟨S471, .f32⟩
  | 95 => ⟨S471, .f32⟩
  | 96 => ⟨S471, .f32⟩
  | 97 => ⟨S471, .f32⟩
  | 98 => ⟨S471, .f32⟩
  | 99 => ⟨S471, .f32⟩
  | 100 => ⟨S471, .f32⟩
  | 101 => ⟨S471, .f32⟩
  | 102 => ⟨S471, .f32⟩
  | 103 => ⟨S471, .f32⟩
  | 104 => ⟨S_, .f32⟩
  | 105 => ⟨S471, .f32⟩
  | 106 => ⟨S471, .f32⟩
  | 107 => ⟨S50, .f32⟩
  | 108 => ⟨S50, .i32⟩
  | 109 => ⟨S_, .f32⟩
  | 110 => ⟨S471, .f32⟩
  | 111 => ⟨S_, .i32⟩
  | 112 => ⟨S50, .i32⟩
  | 113 => ⟨S50, .i1⟩
  | 114 => ⟨S_, .i32⟩
  | 115 => ⟨S50, .i32⟩
  | 116 => ⟨S50, .i32⟩
  | 117 => ⟨S50, .i32⟩
  | 118 => ⟨S50x1, .i32⟩
  | 119 => ⟨S_, .f32⟩
  | 120 => ⟨S50, .f32⟩
  | 121 => ⟨S471, .f32⟩
  | 122 => ⟨S471, .f32⟩
  | 123 => ⟨S_, .f32⟩
  | 124 => ⟨S_, .f32⟩
  | 125 => ⟨S_, .f32⟩
  | 126 => ⟨S_, .f32⟩
  | 127 => ⟨S471, .f32⟩
  | _ => ⟨S4096x471, .f32⟩

abbrev hbmTy0_6 (i : Nat) : BufTy := match i % 128 with
  | 0 => ⟨S471, .f32⟩
  | _ => ⟨S4096x471, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x471, .f32⟩

abbrev bufTy : (tb : Table) → Fin (tcTables nBuf tb) → BufTy
  | .hbm, ⟨i, _⟩ => hbmTy i
  | _, _ => ⟨S4096x471, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_c_5 : Ref sig .tc := ⟨.hbm, 35, rfl⟩
abbrev main_c_6 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev main_v18_5 : Ref sig .tc := ⟨.hbm, 42, rfl⟩
abbrev main_while0c_c_153 : Ref sig .tc := ⟨.hbm, 43, rfl⟩
abbrev main_while0c_v592 : Ref sig .tc := ⟨.hbm, 44, rfl⟩
abbrev main_while0b_c_153 : Ref sig .tc := ⟨.hbm, 45, rfl⟩
abbrev main_while0b_v592 : Ref sig .tc := ⟨.hbm, 46, rfl⟩
abbrev main_while0b_v593 : Ref sig .tc := ⟨.hbm, 47, rfl⟩
abbrev main_while0b_v594 : Ref sig .tc := ⟨.hbm, 48, rfl⟩
abbrev main_while0b_v595 : Ref sig .tc := ⟨.hbm, 49, rfl⟩
abbrev main_while0b_v596 : Ref sig .tc := ⟨.hbm, 50, rfl⟩
abbrev main_while0b_c_154 : Ref sig .tc := ⟨.hbm, 51, rfl⟩
abbrev main_while0b_v597 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_9 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩
abbrev main_cst_11 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_13 : Ref sig .tc := ⟨.hbm, 91, rfl⟩
abbrev main_v51 : Ref sig .tc := ⟨.hbm, 92, rfl⟩
abbrev main_v52 : Ref sig .tc := ⟨.hbm, 93, rfl⟩
abbrev main_cst_14 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_15 : Ref sig .tc := ⟨.hbm, 105, rfl⟩
abbrev main_v63 : Ref sig .tc := ⟨.hbm, 106, rfl⟩
abbrev main_v64 : Ref sig .tc := ⟨.hbm, 107, rfl⟩
abbrev main_values : Ref sig .tc := ⟨.hbm, 108, rfl⟩
abbrev main_indices : Ref sig .tc := ⟨.hbm, 109, rfl⟩
abbrev main_cst_16 : Ref sig .tc := ⟨.hbm, 110, rfl⟩
abbrev main_v65 : Ref sig .tc := ⟨.hbm, 111, rfl⟩
abbrev main_c_17 : Ref sig .tc := ⟨.hbm, 112, rfl⟩
abbrev main_v66 : Ref sig .tc := ⟨.hbm, 113, rfl⟩
abbrev main_v67 : Ref sig .tc := ⟨.hbm, 114, rfl⟩
abbrev main_c_18 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_19 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_20 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_21 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_22 : Ref sig .tc := ⟨.hbm, 153, rfl⟩
abbrev main_v102 : Ref sig .tc := ⟨.hbm, 154, rfl⟩
abbrev main_v103 : Ref sig .tc := ⟨.hbm, 155, rfl⟩
abbrev main_cst_23 : Ref sig .tc := ⟨.hbm, 156, rfl⟩
abbrev main_v104 : Ref sig .tc := ⟨.hbm, 157, rfl⟩
abbrev main_cst_24 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_25 : Ref sig .tc := ⟨.hbm, 162, rfl⟩
abbrev main_v108 : Ref sig .tc := ⟨.hbm, 163, rfl⟩
abbrev main_v109 : Ref sig .tc := ⟨.hbm, 164, rfl⟩
abbrev main_cst_26 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_27 : Ref sig .tc := ⟨.hbm, 176, rfl⟩
abbrev main_v120 : Ref sig .tc := ⟨.hbm, 177, rfl⟩
abbrev main_v121 : Ref sig .tc := ⟨.hbm, 178, rfl⟩
abbrev main_values_28 : Ref sig .tc := ⟨.hbm, 179, rfl⟩
abbrev main_indices_29 : Ref sig .tc := ⟨.hbm, 180, rfl⟩
abbrev main_cst_30 : Ref sig .tc := ⟨.hbm, 181, rfl⟩
abbrev main_v122 : Ref sig .tc := ⟨.hbm, 182, rfl⟩
abbrev main_c_31 : Ref sig .tc := ⟨.hbm, 183, rfl⟩
abbrev main_v123 : Ref sig .tc := ⟨.hbm, 184, rfl⟩
abbrev main_v124 : Ref sig .tc := ⟨.hbm, 185, rfl⟩
abbrev main_c_32 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_33 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_34 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_cst_35 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_cst_36 : Ref sig .tc := ⟨.hbm, 224, rfl⟩
abbrev main_v159 : Ref sig .tc := ⟨.hbm, 225, rfl⟩
abbrev main_v160 : Ref sig .tc := ⟨.hbm, 226, rfl⟩
abbrev main_cst_37 : Ref sig .tc := ⟨.hbm, 227, rfl⟩
abbrev main_v161 : Ref sig .tc := ⟨.hbm, 228, rfl⟩
abbrev main_cst_38 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_cst_39 : Ref sig .tc := ⟨.hbm, 233, rfl⟩
abbrev main_v165 : Ref sig .tc := ⟨.hbm, 234, rfl⟩
abbrev main_v166 : Ref sig .tc := ⟨.hbm, 235, rfl⟩
abbrev main_cst_40 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_cst_41 : Ref sig .tc := ⟨.hbm, 247, rfl⟩
abbrev main_v177 : Ref sig .tc := ⟨.hbm, 248, rfl⟩
abbrev main_v178 : Ref sig .tc := ⟨.hbm, 249, rfl⟩
abbrev main_values_42 : Ref sig .tc := ⟨.hbm, 250, rfl⟩
abbrev main_indices_43 : Ref sig .tc := ⟨.hbm, 251, rfl⟩
abbrev main_cst_44 : Ref sig .tc := ⟨.hbm, 252, rfl⟩
abbrev main_v179 : Ref sig .tc := ⟨.hbm, 253, rfl⟩
abbrev main_c_45 : Ref sig .tc := ⟨.hbm, 254, rfl⟩
abbrev main_v180 : Ref sig .tc := ⟨.hbm, 255, rfl⟩
abbrev main_v181 : Ref sig .tc := ⟨.hbm, 256, rfl⟩
abbrev main_c_46 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_cst_47 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_cst_48 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_cst_49 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_cst_50 : Ref sig .tc := ⟨.hbm, 295, rfl⟩
abbrev main_v216 : Ref sig .tc := ⟨.hbm, 296, rfl⟩
abbrev main_v217 : Ref sig .tc := ⟨.hbm, 297, rfl⟩
abbrev main_cst_51 : Ref sig .tc := ⟨.hbm, 298, rfl⟩
abbrev main_v218 : Ref sig .tc := ⟨.hbm, 299, rfl⟩
abbrev main_cst_52 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_cst_53 : Ref sig .tc := ⟨.hbm, 304, rfl⟩
abbrev main_v222 : Ref sig .tc := ⟨.hbm, 305, rfl⟩
abbrev main_v223 : Ref sig .tc := ⟨.hbm, 306, rfl⟩
abbrev main_cst_54 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_cst_55 : Ref sig .tc := ⟨.hbm, 318, rfl⟩
abbrev main_v234 : Ref sig .tc := ⟨.hbm, 319, rfl⟩
abbrev main_v235 : Ref sig .tc := ⟨.hbm, 320, rfl⟩
abbrev main_values_56 : Ref sig .tc := ⟨.hbm, 321, rfl⟩
abbrev main_indices_57 : Ref sig .tc := ⟨.hbm, 322, rfl⟩
abbrev main_cst_58 : Ref sig .tc := ⟨.hbm, 323, rfl⟩
abbrev main_v236 : Ref sig .tc := ⟨.hbm, 324, rfl⟩
abbrev main_c_59 : Ref sig .tc := ⟨.hbm, 325, rfl⟩
abbrev main_v237 : Ref sig .tc := ⟨.hbm, 326, rfl⟩
abbrev main_v238 : Ref sig .tc := ⟨.hbm, 327, rfl⟩
abbrev main_c_60 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_cst_61 : Ref sig .tc := ⟨.hbm, 333, rfl⟩
abbrev main_v243 : Ref sig .tc := ⟨.hbm, 334, rfl⟩
abbrev main_v244 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_cst_62 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_cst_63 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_cst_64 : Ref sig .tc := ⟨.hbm, 366, rfl⟩
abbrev main_v273 : Ref sig .tc := ⟨.hbm, 367, rfl⟩
abbrev main_v274 : Ref sig .tc := ⟨.hbm, 368, rfl⟩
abbrev main_cst_65 : Ref sig .tc := ⟨.hbm, 369, rfl⟩
abbrev main_v275 : Ref sig .tc := ⟨.hbm, 370, rfl⟩
abbrev main_cst_66 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_cst_67 : Ref sig .tc := ⟨.hbm, 375, rfl⟩
abbrev main_v279 : Ref sig .tc := ⟨.hbm, 376, rfl⟩
abbrev main_v280 : Ref sig .tc := ⟨.hbm, 377, rfl⟩
abbrev main_cst_68 : Ref sig .tc := ⟨.hbm, 378, rfl⟩
abbrev main_v281 : Ref sig .tc := ⟨.hbm, 379, rfl⟩
abbrev main_v282 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_v290 : Ref sig .tc := ⟨.hbm, 388, rfl⟩
abbrev main_cst_69 : Ref sig .tc := ⟨.hbm, 389, rfl⟩
abbrev main_v291 : Ref sig .tc := ⟨.hbm, 390, rfl⟩
abbrev main_v292 : Ref sig .tc := ⟨.hbm, 391, rfl⟩
abbrev main_values_70 : Ref sig .tc := ⟨.hbm, 392, rfl⟩
abbrev main_indices_71 : Ref sig .tc := ⟨.hbm, 393, rfl⟩
abbrev main_cst_72 : Ref sig .tc := ⟨.hbm, 394, rfl⟩
abbrev main_v293 : Ref sig .tc := ⟨.hbm, 395, rfl⟩
abbrev main_c_73 : Ref sig .tc := ⟨.hbm, 396, rfl⟩
abbrev main_v294 : Ref sig .tc := ⟨.hbm, 397, rfl⟩
abbrev main_v295 : Ref sig .tc := ⟨.hbm, 398, rfl⟩
abbrev main_c_74 : Ref sig .tc := ⟨.hbm, 399, rfl⟩
abbrev main_v296 : Ref sig .tc := ⟨.hbm, 400, rfl⟩
abbrev main_v297 : Ref sig .tc := ⟨.hbm, 401, rfl⟩
abbrev main_v298 : Ref sig .tc := ⟨.hbm, 402, rfl⟩
abbrev main_v299 : Ref sig .tc := ⟨.hbm, 403, rfl⟩
abbrev main_cst_75 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_v303 : Ref sig .tc := ⟨.hbm, 408, rfl⟩
abbrev main_v304 : Ref sig .tc := ⟨.hbm, 409, rfl⟩
abbrev main_cst_76 : Ref sig .tc := ⟨.hbm, 410, rfl⟩
abbrev main_v305 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_v321 : Ref sig .tc := ⟨.hbm, 427, rfl⟩
abbrev main_cst_77 : Ref sig .tc := ⟨.hbm, 428, rfl⟩
abbrev main_v322 : Ref sig .tc := ⟨.hbm, 429, rfl⟩
abbrev main_v323 : Ref sig .tc := ⟨.hbm, 430, rfl⟩
abbrev main_v324 : Ref sig .tc := ⟨.hbm, 431, rfl⟩
abbrev main_v325 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_v329 : Ref sig .tc := ⟨.hbm, 436, rfl⟩
abbrev main_cst_78 : Ref sig .tc := ⟨.hbm, 437, rfl⟩
abbrev main_v330 : Ref sig .tc := ⟨.hbm, 438, rfl⟩
abbrev main_v331 : Ref sig .tc := ⟨.hbm, 439, rfl⟩
abbrev main_cst_79 : Ref sig .tc := ⟨.hbm, 440, rfl⟩
abbrev main_v332 : Ref sig .tc := ⟨.hbm, 441, rfl⟩
abbrev main_cst_80 : Ref sig .tc := ⟨.hbm, 442, rfl⟩
abbrev main_v333 : Ref sig .tc := ⟨.hbm, 443, rfl⟩
abbrev main_v334 : Ref sig .tc := ⟨.hbm, 444, rfl⟩
abbrev main_v335 : Ref sig .tc := ⟨.hbm, 445, rfl⟩
abbrev main_cst_81 : Ref sig .tc := ⟨.hbm, 446, rfl⟩
abbrev main_v336 : Ref sig .tc := ⟨.hbm, 447, rfl⟩
abbrev main_v337 : Ref sig .tc := ⟨.hbm, 448, rfl⟩
abbrev main_cst_82 : Ref sig .tc := ⟨.hbm, 449, rfl⟩
abbrev main_v338 : Ref sig .tc := ⟨.hbm, 450, rfl⟩
abbrev main_v339 : Ref sig .tc := ⟨.hbm, 451, rfl⟩
abbrev main_v340 : Ref sig .tc := ⟨.hbm, 452, rfl⟩
abbrev main_v341 : Ref sig .tc := ⟨.hbm, 453, rfl⟩
abbrev main_v342 : Ref sig .tc := ⟨.hbm, 454, rfl⟩
abbrev main_v343 : Ref sig .tc := ⟨.hbm, 455, rfl⟩
abbrev main_v344 : Ref sig .tc := ⟨.hbm, 456, rfl⟩
abbrev main_v345 : Ref sig .tc := ⟨.hbm, 457, rfl⟩
abbrev main_v346 : Ref sig .tc := ⟨.hbm, 458, rfl⟩
abbrev main_v347 : Ref sig .tc := ⟨.hbm, 459, rfl⟩
abbrev main_cst_83 : Ref sig .tc := ⟨.hbm, 460, rfl⟩
abbrev main_v348 : Ref sig .tc := ⟨.hbm, 461, rfl⟩
abbrev main_v349 : Ref sig .tc := ⟨.hbm, 462, rfl⟩
abbrev main_values_84 : Ref sig .tc := ⟨.hbm, 463, rfl⟩
abbrev main_indices_85 : Ref sig .tc := ⟨.hbm, 464, rfl⟩
abbrev main_cst_86 : Ref sig .tc := ⟨.hbm, 465, rfl⟩
abbrev main_v350 : Ref sig .tc := ⟨.hbm, 466, rfl⟩
abbrev main_c_87 : Ref sig .tc := ⟨.hbm, 467, rfl⟩
abbrev main_v351 : Ref sig .tc := ⟨.hbm, 468, rfl⟩
abbrev main_v352 : Ref sig .tc := ⟨.hbm, 469, rfl⟩
abbrev main_c_88 : Ref sig .tc := ⟨.hbm, 470, rfl⟩
abbrev main_v353 : Ref sig .tc := ⟨.hbm, 471, rfl⟩
abbrev main_v354 : Ref sig .tc := ⟨.hbm, 472, rfl⟩
abbrev main_v355 : Ref sig .tc := ⟨.hbm, 473, rfl⟩
abbrev main_v356 : Ref sig .tc := ⟨.hbm, 474, rfl⟩
abbrev main_cst_89 : Ref sig .tc := ⟨.hbm, 475, rfl⟩
abbrev main_v357 : Ref sig .tc := ⟨.hbm, 476, rfl⟩
abbrev main_v358 : Ref sig .tc := ⟨.hbm, 477, rfl⟩
abbrev main_v359 : Ref sig .tc := ⟨.hbm, 478, rfl⟩
abbrev main_v360 : Ref sig .tc := ⟨.hbm, 479, rfl⟩
abbrev main_v361 : Ref sig .tc := ⟨.hbm, 480, rfl⟩
abbrev main_cst_90 : Ref sig .tc := ⟨.hbm, 481, rfl⟩
abbrev main_v362 : Ref sig .tc := ⟨.hbm, 482, rfl⟩
abbrev main_v363 : Ref sig .tc := ⟨.hbm, 483, rfl⟩
abbrev main_v364 : Ref sig .tc := ⟨.hbm, 484, rfl⟩
abbrev main_v365 : Ref sig .tc := ⟨.hbm, 485, rfl⟩
abbrev main_v366 : Ref sig .tc := ⟨.hbm, 486, rfl⟩
abbrev main_v367 : Ref sig .tc := ⟨.hbm, 487, rfl⟩
abbrev main_v368 : Ref sig .tc := ⟨.hbm, 488, rfl⟩
abbrev main_v369 : Ref sig .tc := ⟨.hbm, 489, rfl⟩
abbrev main_v370 : Ref sig .tc := ⟨.hbm, 490, rfl⟩
abbrev main_v371 : Ref sig .tc := ⟨.hbm, 491, rfl⟩
abbrev main_v372 : Ref sig .tc := ⟨.hbm, 492, rfl⟩
abbrev main_v373 : Ref sig .tc := ⟨.hbm, 493, rfl⟩
abbrev main_v374 : Ref sig .tc := ⟨.hbm, 494, rfl⟩
abbrev main_v375 : Ref sig .tc := ⟨.hbm, 495, rfl⟩
abbrev main_v376 : Ref sig .tc := ⟨.hbm, 496, rfl⟩
abbrev main_v377 : Ref sig .tc := ⟨.hbm, 497, rfl⟩
abbrev main_v378 : Ref sig .tc := ⟨.hbm, 498, rfl⟩
abbrev main_cst_91 : Ref sig .tc := ⟨.hbm, 499, rfl⟩
abbrev main_v379 : Ref sig .tc := ⟨.hbm, 500, rfl⟩
abbrev main_v380 : Ref sig .tc := ⟨.hbm, 501, rfl⟩
abbrev main_v381 : Ref sig .tc := ⟨.hbm, 502, rfl⟩
abbrev main_v382 : Ref sig .tc := ⟨.hbm, 503, rfl⟩
abbrev main_v383 : Ref sig .tc := ⟨.hbm, 504, rfl⟩
abbrev main_v384 : Ref sig .tc := ⟨.hbm, 505, rfl⟩
abbrev main_v385 : Ref sig .tc := ⟨.hbm, 506, rfl⟩
abbrev main_v386 : Ref sig .tc := ⟨.hbm, 507, rfl⟩
abbrev main_cst_92 : Ref sig .tc := ⟨.hbm, 508, rfl⟩
abbrev main_v387 : Ref sig .tc := ⟨.hbm, 509, rfl⟩
abbrev main_v388 : Ref sig .tc := ⟨.hbm, 510, rfl⟩
abbrev main_cst_93 : Ref sig .tc := ⟨.hbm, 511, rfl⟩
abbrev main_v389 : Ref sig .tc := ⟨.hbm, 512, rfl⟩
abbrev main_cst_94 : Ref sig .tc := ⟨.hbm, 513, rfl⟩
abbrev main_v390 : Ref sig .tc := ⟨.hbm, 514, rfl⟩
abbrev main_v391 : Ref sig .tc := ⟨.hbm, 515, rfl⟩
abbrev main_v392 : Ref sig .tc := ⟨.hbm, 516, rfl⟩
abbrev main_cst_95 : Ref sig .tc := ⟨.hbm, 517, rfl⟩
abbrev main_v393 : Ref sig .tc := ⟨.hbm, 518, rfl⟩
abbrev main_v394 : Ref sig .tc := ⟨.hbm, 519, rfl⟩
abbrev main_cst_96 : Ref sig .tc := ⟨.hbm, 520, rfl⟩
abbrev main_v395 : Ref sig .tc := ⟨.hbm, 521, rfl⟩
abbrev main_v396 : Ref sig .tc := ⟨.hbm, 522, rfl⟩
abbrev main_v397 : Ref sig .tc := ⟨.hbm, 523, rfl⟩
abbrev main_v398 : Ref sig .tc := ⟨.hbm, 524, rfl⟩
abbrev main_v399 : Ref sig .tc := ⟨.hbm, 525, rfl⟩
abbrev main_v400 : Ref sig .tc := ⟨.hbm, 526, rfl⟩
abbrev main_v401 : Ref sig .tc := ⟨.hbm, 527, rfl⟩
abbrev main_v402 : Ref sig .tc := ⟨.hbm, 528, rfl⟩
abbrev main_v403 : Ref sig .tc := ⟨.hbm, 529, rfl⟩
abbrev main_v404 : Ref sig .tc := ⟨.hbm, 530, rfl⟩
abbrev main_cst_97 : Ref sig .tc := ⟨.hbm, 531, rfl⟩
abbrev main_v405 : Ref sig .tc := ⟨.hbm, 532, rfl⟩
abbrev main_v406 : Ref sig .tc := ⟨.hbm, 533, rfl⟩
abbrev main_values_98 : Ref sig .tc := ⟨.hbm, 534, rfl⟩
abbrev main_indices_99 : Ref sig .tc := ⟨.hbm, 535, rfl⟩
abbrev main_cst_100 : Ref sig .tc := ⟨.hbm, 536, rfl⟩
abbrev main_v407 : Ref sig .tc := ⟨.hbm, 537, rfl⟩
abbrev main_c_101 : Ref sig .tc := ⟨.hbm, 538, rfl⟩
abbrev main_v408 : Ref sig .tc := ⟨.hbm, 539, rfl⟩
abbrev main_v409 : Ref sig .tc := ⟨.hbm, 540, rfl⟩
abbrev main_c_102 : Ref sig .tc := ⟨.hbm, 541, rfl⟩
abbrev main_v410 : Ref sig .tc := ⟨.hbm, 542, rfl⟩
abbrev main_v411 : Ref sig .tc := ⟨.hbm, 543, rfl⟩
abbrev main_v412 : Ref sig .tc := ⟨.hbm, 544, rfl⟩
abbrev main_v413 : Ref sig .tc := ⟨.hbm, 545, rfl⟩
abbrev main_cst_103 : Ref sig .tc := ⟨.hbm, 546, rfl⟩
abbrev main_v414 : Ref sig .tc := ⟨.hbm, 547, rfl⟩
abbrev main_v415 : Ref sig .tc := ⟨.hbm, 548, rfl⟩
abbrev main_v416 : Ref sig .tc := ⟨.hbm, 549, rfl⟩
abbrev main_v417 : Ref sig .tc := ⟨.hbm, 550, rfl⟩
abbrev main_v418 : Ref sig .tc := ⟨.hbm, 551, rfl⟩
abbrev main_cst_104 : Ref sig .tc := ⟨.hbm, 552, rfl⟩
abbrev main_v419 : Ref sig .tc := ⟨.hbm, 553, rfl⟩
abbrev main_v420 : Ref sig .tc := ⟨.hbm, 554, rfl⟩
abbrev main_v421 : Ref sig .tc := ⟨.hbm, 555, rfl⟩
abbrev main_v422 : Ref sig .tc := ⟨.hbm, 556, rfl⟩
abbrev main_v423 : Ref sig .tc := ⟨.hbm, 557, rfl⟩
abbrev main_v424 : Ref sig .tc := ⟨.hbm, 558, rfl⟩
abbrev main_v425 : Ref sig .tc := ⟨.hbm, 559, rfl⟩
abbrev main_v426 : Ref sig .tc := ⟨.hbm, 560, rfl⟩
abbrev main_v427 : Ref sig .tc := ⟨.hbm, 561, rfl⟩
abbrev main_v428 : Ref sig .tc := ⟨.hbm, 562, rfl⟩
abbrev main_v429 : Ref sig .tc := ⟨.hbm, 563, rfl⟩
abbrev main_v430 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_cst_105 : Ref sig .tc := ⟨.hbm, 570, rfl⟩
abbrev main_v436 : Ref sig .tc := ⟨.hbm, 571, rfl⟩
abbrev main_v437 : Ref sig .tc := ⟨.hbm, 572, rfl⟩
abbrev main_v438 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_v442 : Ref sig .tc := ⟨.hbm, 577, rfl⟩
abbrev main_v443 : Ref sig .tc := ⟨.hbm, 578, rfl⟩
abbrev main_cst_106 : Ref sig .tc := ⟨.hbm, 579, rfl⟩
abbrev main_v444 : Ref sig .tc := ⟨.hbm, 580, rfl⟩
abbrev main_v445 : Ref sig .tc := ⟨.hbm, 581, rfl⟩
abbrev main_cst_107 : Ref sig .tc := ⟨.hbm, 582, rfl⟩
abbrev main_v446 : Ref sig .tc := ⟨.hbm, 583, rfl⟩
abbrev main_cst_108 : Ref sig .tc := ⟨.hbm, 584, rfl⟩
abbrev main_v447 : Ref sig .tc := ⟨.hbm, 585, rfl⟩
abbrev main_v448 : Ref sig .tc := ⟨.hbm, 586, rfl⟩
abbrev main_v449 : Ref sig .tc := ⟨.hbm, 587, rfl⟩
abbrev main_cst_109 : Ref sig .tc := ⟨.hbm, 588, rfl⟩
abbrev main_v450 : Ref sig .tc := ⟨.hbm, 589, rfl⟩
abbrev main_v451 : Ref sig .tc := ⟨.hbm, 590, rfl⟩
abbrev main_cst_110 : Ref sig .tc := ⟨.hbm, 591, rfl⟩
abbrev main_v452 : Ref sig .tc := ⟨.hbm, 592, rfl⟩
abbrev main_v453 : Ref sig .tc := ⟨.hbm, 593, rfl⟩
abbrev main_v454 : Ref sig .tc := ⟨.hbm, 594, rfl⟩
abbrev main_v455 : Ref sig .tc := ⟨.hbm, 595, rfl⟩
abbrev main_v456 : Ref sig .tc := ⟨.hbm, 596, rfl⟩
abbrev main_v457 : Ref sig .tc := ⟨.hbm, 597, rfl⟩
abbrev main_v458 : Ref sig .tc := ⟨.hbm, 598, rfl⟩
abbrev main_v459 : Ref sig .tc := ⟨.hbm, 599, rfl⟩
abbrev main_v460 : Ref sig .tc := ⟨.hbm, 600, rfl⟩
abbrev main_v461 : Ref sig .tc := ⟨.hbm, 601, rfl⟩
abbrev main_cst_111 : Ref sig .tc := ⟨.hbm, 602, rfl⟩
abbrev main_v462 : Ref sig .tc := ⟨.hbm, 603, rfl⟩
abbrev main_v463 : Ref sig .tc := ⟨.hbm, 604, rfl⟩
abbrev main_values_112 : Ref sig .tc := ⟨.hbm, 605, rfl⟩
abbrev main_indices_113 : Ref sig .tc := ⟨.hbm, 606, rfl⟩
abbrev main_cst_114 : Ref sig .tc := ⟨.hbm, 607, rfl⟩
abbrev main_v464 : Ref sig .tc := ⟨.hbm, 608, rfl⟩
abbrev main_c_115 : Ref sig .tc := ⟨.hbm, 609, rfl⟩
abbrev main_v465 : Ref sig .tc := ⟨.hbm, 610, rfl⟩
abbrev main_v466 : Ref sig .tc := ⟨.hbm, 611, rfl⟩
abbrev main_c_116 : Ref sig .tc := ⟨.hbm, 612, rfl⟩
abbrev main_v467 : Ref sig .tc := ⟨.hbm, 613, rfl⟩
abbrev main_v468 : Ref sig .tc := ⟨.hbm, 614, rfl⟩
abbrev main_v469 : Ref sig .tc := ⟨.hbm, 615, rfl⟩
abbrev main_v470 : Ref sig .tc := ⟨.hbm, 616, rfl⟩
abbrev main_cst_117 : Ref sig .tc := ⟨.hbm, 617, rfl⟩
abbrev main_v471 : Ref sig .tc := ⟨.hbm, 618, rfl⟩
abbrev main_v472 : Ref sig .tc := ⟨.hbm, 619, rfl⟩
abbrev main_v473 : Ref sig .tc := ⟨.hbm, 620, rfl⟩
abbrev main_v474 : Ref sig .tc := ⟨.hbm, 621, rfl⟩
abbrev main_v475 : Ref sig .tc := ⟨.hbm, 622, rfl⟩
abbrev main_cst_118 : Ref sig .tc := ⟨.hbm, 623, rfl⟩
abbrev main_v476 : Ref sig .tc := ⟨.hbm, 624, rfl⟩
abbrev main_v477 : Ref sig .tc := ⟨.hbm, 625, rfl⟩
abbrev main_v478 : Ref sig .tc := ⟨.hbm, 626, rfl⟩
abbrev main_v479 : Ref sig .tc := ⟨.hbm, 627, rfl⟩
abbrev main_v480 : Ref sig .tc := ⟨.hbm, 628, rfl⟩
abbrev main_v481 : Ref sig .tc := ⟨.hbm, 629, rfl⟩
abbrev main_v482 : Ref sig .tc := ⟨.hbm, 630, rfl⟩
abbrev main_v483 : Ref sig .tc := ⟨.hbm, 631, rfl⟩
abbrev main_v484 : Ref sig .tc := ⟨.hbm, 632, rfl⟩
abbrev main_v485 : Ref sig .tc := ⟨.hbm, 633, rfl⟩
abbrev main_v486 : Ref sig .tc := ⟨.hbm, 634, rfl⟩
abbrev main_v487 : Ref sig .tc := ⟨.hbm, 635, rfl⟩
abbrev main_v488 : Ref sig .tc := ⟨.hbm, 636, rfl⟩
abbrev main_v489 : Ref sig .tc := ⟨.hbm, 637, rfl⟩
abbrev main_v490 : Ref sig .tc := ⟨.hbm, 638, rfl⟩
abbrev main_v491 : Ref sig .tc := ⟨.hbm, 639, rfl⟩
abbrev main_v492 : Ref sig .tc := ⟨.hbm, 640, rfl⟩
abbrev main_cst_119 : Ref sig .tc := ⟨.hbm, 641, rfl⟩
abbrev main_v493 : Ref sig .tc := ⟨.hbm, 642, rfl⟩
abbrev main_v494 : Ref sig .tc := ⟨.hbm, 643, rfl⟩
abbrev main_v495 : Ref sig .tc := ⟨.hbm, 644, rfl⟩
abbrev main_v496 : Ref sig .tc := ⟨.hbm, 645, rfl⟩
abbrev main_v497 : Ref sig .tc := ⟨.hbm, 646, rfl⟩
abbrev main_v498 : Ref sig .tc := ⟨.hbm, 647, rfl⟩
abbrev main_v499 : Ref sig .tc := ⟨.hbm, 648, rfl⟩
abbrev main_v500 : Ref sig .tc := ⟨.hbm, 649, rfl⟩
abbrev main_cst_120 : Ref sig .tc := ⟨.hbm, 650, rfl⟩
abbrev main_v501 : Ref sig .tc := ⟨.hbm, 651, rfl⟩
abbrev main_v502 : Ref sig .tc := ⟨.hbm, 652, rfl⟩
abbrev main_cst_121 : Ref sig .tc := ⟨.hbm, 653, rfl⟩
abbrev main_v503 : Ref sig .tc := ⟨.hbm, 654, rfl⟩
abbrev main_cst_122 : Ref sig .tc := ⟨.hbm, 655, rfl⟩
abbrev main_v504 : Ref sig .tc := ⟨.hbm, 656, rfl⟩
abbrev main_v505 : Ref sig .tc := ⟨.hbm, 657, rfl⟩
abbrev main_v506 : Ref sig .tc := ⟨.hbm, 658, rfl⟩
abbrev main_cst_123 : Ref sig .tc := ⟨.hbm, 659, rfl⟩
abbrev main_v507 : Ref sig .tc := ⟨.hbm, 660, rfl⟩
abbrev main_v508 : Ref sig .tc := ⟨.hbm, 661, rfl⟩
abbrev main_cst_124 : Ref sig .tc := ⟨.hbm, 662, rfl⟩
abbrev main_v509 : Ref sig .tc := ⟨.hbm, 663, rfl⟩
abbrev main_v510 : Ref sig .tc := ⟨.hbm, 664, rfl⟩
abbrev main_v511 : Ref sig .tc := ⟨.hbm, 665, rfl⟩
abbrev main_v512 : Ref sig .tc := ⟨.hbm, 666, rfl⟩
abbrev main_v513 : Ref sig .tc := ⟨.hbm, 667, rfl⟩
abbrev main_v514 : Ref sig .tc := ⟨.hbm, 668, rfl⟩
abbrev main_v515 : Ref sig .tc := ⟨.hbm, 669, rfl⟩
abbrev main_v516 : Ref sig .tc := ⟨.hbm, 670, rfl⟩
abbrev main_v517 : Ref sig .tc := ⟨.hbm, 671, rfl⟩
abbrev main_v518 : Ref sig .tc := ⟨.hbm, 672, rfl⟩
abbrev main_cst_125 : Ref sig .tc := ⟨.hbm, 673, rfl⟩
abbrev main_v519 : Ref sig .tc := ⟨.hbm, 674, rfl⟩
abbrev main_v520 : Ref sig .tc := ⟨.hbm, 675, rfl⟩
abbrev main_values_126 : Ref sig .tc := ⟨.hbm, 676, rfl⟩
abbrev main_indices_127 : Ref sig .tc := ⟨.hbm, 677, rfl⟩
abbrev main_cst_128 : Ref sig .tc := ⟨.hbm, 678, rfl⟩
abbrev main_v521 : Ref sig .tc := ⟨.hbm, 679, rfl⟩
abbrev main_c_129 : Ref sig .tc := ⟨.hbm, 680, rfl⟩
abbrev main_v522 : Ref sig .tc := ⟨.hbm, 681, rfl⟩
abbrev main_v523 : Ref sig .tc := ⟨.hbm, 682, rfl⟩
abbrev main_c_130 : Ref sig .tc := ⟨.hbm, 683, rfl⟩
abbrev main_v524 : Ref sig .tc := ⟨.hbm, 684, rfl⟩
abbrev main_v525 : Ref sig .tc := ⟨.hbm, 685, rfl⟩
abbrev main_v526 : Ref sig .tc := ⟨.hbm, 686, rfl⟩
abbrev main_v527 : Ref sig .tc := ⟨.hbm, 687, rfl⟩
abbrev main_cst_131 : Ref sig .tc := ⟨.hbm, 688, rfl⟩
abbrev main_v528 : Ref sig .tc := ⟨.hbm, 689, rfl⟩
abbrev main_v529 : Ref sig .tc := ⟨.hbm, 690, rfl⟩
abbrev main_v530 : Ref sig .tc := ⟨.hbm, 691, rfl⟩
abbrev main_v531 : Ref sig .tc := ⟨.hbm, 692, rfl⟩
abbrev main_v532 : Ref sig .tc := ⟨.hbm, 693, rfl⟩
abbrev main_cst_132 : Ref sig .tc := ⟨.hbm, 694, rfl⟩
abbrev main_v533 : Ref sig .tc := ⟨.hbm, 695, rfl⟩
abbrev main_v534 : Ref sig .tc := ⟨.hbm, 696, rfl⟩
abbrev main_v535 : Ref sig .tc := ⟨.hbm, 697, rfl⟩
abbrev main_v536 : Ref sig .tc := ⟨.hbm, 698, rfl⟩
abbrev main_v537 : Ref sig .tc := ⟨.hbm, 699, rfl⟩
abbrev main_v538 : Ref sig .tc := ⟨.hbm, 700, rfl⟩
abbrev main_v539 : Ref sig .tc := ⟨.hbm, 701, rfl⟩
abbrev main_v540 : Ref sig .tc := ⟨.hbm, 702, rfl⟩
abbrev main_v541 : Ref sig .tc := ⟨.hbm, 703, rfl⟩
abbrev main_v542 : Ref sig .tc := ⟨.hbm, 704, rfl⟩
abbrev main_v543 : Ref sig .tc := ⟨.hbm, 705, rfl⟩
abbrev main_v544 : Ref sig .tc := ⟨.hbm, 706, rfl⟩
abbrev main_v545 : Ref sig .tc := ⟨.hbm, 707, rfl⟩
abbrev main_v546 : Ref sig .tc := ⟨.hbm, 708, rfl⟩
abbrev main_v547 : Ref sig .tc := ⟨.hbm, 709, rfl⟩
abbrev main_v548 : Ref sig .tc := ⟨.hbm, 710, rfl⟩
abbrev main_v549 : Ref sig .tc := ⟨.hbm, 711, rfl⟩
abbrev main_cst_133 : Ref sig .tc := ⟨.hbm, 712, rfl⟩
abbrev main_v550 : Ref sig .tc := ⟨.hbm, 713, rfl⟩
abbrev main_v551 : Ref sig .tc := ⟨.hbm, 714, rfl⟩
abbrev main_v552 : Ref sig .tc := ⟨.hbm, 715, rfl⟩
abbrev main_v553 : Ref sig .tc := ⟨.hbm, 716, rfl⟩
abbrev main_v554 : Ref sig .tc := ⟨.hbm, 717, rfl⟩
abbrev main_v555 : Ref sig .tc := ⟨.hbm, 718, rfl⟩
abbrev main_v556 : Ref sig .tc := ⟨.hbm, 719, rfl⟩
abbrev main_v557 : Ref sig .tc := ⟨.hbm, 720, rfl⟩
abbrev main_cst_134 : Ref sig .tc := ⟨.hbm, 721, rfl⟩
abbrev main_v558 : Ref sig .tc := ⟨.hbm, 722, rfl⟩
abbrev main_v559 : Ref sig .tc := ⟨.hbm, 723, rfl⟩
abbrev main_cst_135 : Ref sig .tc := ⟨.hbm, 724, rfl⟩
abbrev main_v560 : Ref sig .tc := ⟨.hbm, 725, rfl⟩
abbrev main_cst_136 : Ref sig .tc := ⟨.hbm, 726, rfl⟩
abbrev main_v561 : Ref sig .tc := ⟨.hbm, 727, rfl⟩
abbrev main_v562 : Ref sig .tc := ⟨.hbm, 728, rfl⟩
abbrev main_v563 : Ref sig .tc := ⟨.hbm, 729, rfl⟩
abbrev main_cst_137 : Ref sig .tc := ⟨.hbm, 730, rfl⟩
abbrev main_v564 : Ref sig .tc := ⟨.hbm, 731, rfl⟩
abbrev main_v565 : Ref sig .tc := ⟨.hbm, 732, rfl⟩
abbrev main_cst_138 : Ref sig .tc := ⟨.hbm, 733, rfl⟩
abbrev main_v566 : Ref sig .tc := ⟨.hbm, 734, rfl⟩
abbrev main_v567 : Ref sig .tc := ⟨.hbm, 735, rfl⟩
abbrev main_v568 : Ref sig .tc := ⟨.hbm, 736, rfl⟩
abbrev main_v569 : Ref sig .tc := ⟨.hbm, 737, rfl⟩
abbrev main_v570 : Ref sig .tc := ⟨.hbm, 738, rfl⟩
abbrev main_v571 : Ref sig .tc := ⟨.hbm, 739, rfl⟩
abbrev main_v572 : Ref sig .tc := ⟨.hbm, 740, rfl⟩
abbrev main_v573 : Ref sig .tc := ⟨.hbm, 741, rfl⟩
abbrev main_v574 : Ref sig .tc := ⟨.hbm, 742, rfl⟩
abbrev main_v575 : Ref sig .tc := ⟨.hbm, 743, rfl⟩
abbrev main_cst_139 : Ref sig .tc := ⟨.hbm, 744, rfl⟩
abbrev main_v576 : Ref sig .tc := ⟨.hbm, 745, rfl⟩
abbrev main_v577 : Ref sig .tc := ⟨.hbm, 746, rfl⟩
abbrev main_values_140 : Ref sig .tc := ⟨.hbm, 747, rfl⟩
abbrev main_indices_141 : Ref sig .tc := ⟨.hbm, 748, rfl⟩
abbrev main_cst_142 : Ref sig .tc := ⟨.hbm, 749, rfl⟩
abbrev main_v578 : Ref sig .tc := ⟨.hbm, 750, rfl⟩
abbrev main_c_143 : Ref sig .tc := ⟨.hbm, 751, rfl⟩
abbrev main_v579 : Ref sig .tc := ⟨.hbm, 752, rfl⟩
abbrev main_v580 : Ref sig .tc := ⟨.hbm, 753, rfl⟩
abbrev main_c_144 : Ref sig .tc := ⟨.hbm, 754, rfl⟩
abbrev main_v581 : Ref sig .tc := ⟨.hbm, 755, rfl⟩
abbrev main_v582 : Ref sig .tc := ⟨.hbm, 756, rfl⟩
abbrev main_v583 : Ref sig .tc := ⟨.hbm, 757, rfl⟩
abbrev main_v584 : Ref sig .tc := ⟨.hbm, 758, rfl⟩
abbrev main_cst_145 : Ref sig .tc := ⟨.hbm, 759, rfl⟩
abbrev main_v585 : Ref sig .tc := ⟨.hbm, 760, rfl⟩
abbrev main_v586 : Ref sig .tc := ⟨.hbm, 761, rfl⟩
abbrev main_v587 : Ref sig .tc := ⟨.hbm, 762, rfl⟩
abbrev main_cst_146 : Ref sig .tc := ⟨.hbm, 763, rfl⟩
abbrev main_v588 : Ref sig .tc := ⟨.hbm, 764, rfl⟩
abbrev main_cst_147 : Ref sig .tc := ⟨.hbm, 765, rfl⟩
abbrev main_v589 : Ref sig .tc := ⟨.hbm, 766, rfl⟩
abbrev main_v590 : Ref sig .tc := ⟨.hbm, 767, rfl⟩
abbrev main_v591 : Ref sig .tc := ⟨.hbm, 768, rfl⟩

abbrev nD : Nat := 1
abbrev τ : Topo := Topo.v7x

variable {F : FTy → Type} [FloatOps F]

abbrev main_while0_count : Scf.Loop 32 := ⟨0#32, 65536#32, 1#32⟩
-- ==== Proof.KernelIdeal.Cases.lean ====
/- When each branch of the kernel's body is taken over the eight grid points, which windows are live there, and the
   buffers the body is handed. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears its accumulator. -/
abbrev cond0_0 (i : grid0.Coords) : Prop := (Scalar.cmpi .ne (Scalar.extui (Scalar.cmpi .eq (BitVec.ofNat 32 (i 0).val) 0#32)) 0#32) = 1#1
/-- It holds at the first grid point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition under which the body runs the rounds and writes the result. -/
abbrev cond0_1 (i : grid0.Coords) : Prop := k0_cond2 i = 1#1
/-- It holds at the last grid point only. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-- Input window 0 is live at every point. -/
theorem liveAt0_0 : ∀ t : Fin cfg0.N, cfg0.idle 0 (grid0.coords t) = false := fun _ => rfl
/-- Input window 1 is live at every point. -/
theorem liveAt0_1 : ∀ t : Fin cfg0.N, cfg0.idle 1 (grid0.coords t) = false := fun _ => rfl
/-- Input window 2 is live at every point. -/
theorem liveAt0_2 : ∀ t : Fin cfg0.N, cfg0.idle 2 (grid0.coords t) = false := fun _ => rfl
/-- Input window 3 is live at every point. -/
theorem liveAt0_3 : ∀ t : Fin cfg0.N, cfg0.idle 3 (grid0.coords t) = false := fun _ => rfl
/-- Input window 4 is live at every point. -/
theorem liveAt0_4 : ∀ t : Fin cfg0.N, cfg0.idle 4 (grid0.coords t) = false := fun _ => rfl
/-- Input window 5 is live at every point. -/
theorem liveAt0_5 : ∀ t : Fin cfg0.N, cfg0.idle 5 (grid0.coords t) = false := fun _ => rfl
/-- At the first point nothing is stored into the output window. -/
theorem idleAt0_6_A : ∀ t : Fin cfg0.N, cond0_0 (grid0.coords t) → ¬cond0_1 (grid0.coords t) → cfg0.idle 6 (grid0.coords t) = true := by decide +kernel
/-- At the first point the output block is not written back. -/
theorem noFlush0_6_A : ∀ t : Fin cfg0.N, cond0_0 (grid0.coords t) → ¬cond0_1 (grid0.coords t) → (cfg0.win 6).flush t = false := by decide +kernel
/-- At a middle point nothing is stored into the output window. -/
theorem idleAt0_6_B : ∀ t : Fin cfg0.N, ¬cond0_0 (grid0.coords t) → ¬cond0_1 (grid0.coords t) → cfg0.idle 6 (grid0.coords t) = true := by decide +kernel
/-- At a middle point the output block is not written back. -/
theorem noFlush0_6_B : ∀ t : Fin cfg0.N, ¬cond0_0 (grid0.coords t) → ¬cond0_1 (grid0.coords t) → (cfg0.win 6).flush t = false := by decide +kernel
/-- At the last point the output window is stored into. -/
theorem liveAt0_6_C : ∀ t : Fin cfg0.N, ¬cond0_0 (grid0.coords t) → cond0_1 (grid0.coords t) → cfg0.idle 6 (grid0.coords t) = false := by decide +kernel

/-- One staging buffer of the output window, through which its contents are read. -/
abbrev VO0_6 : View sig .tc .vmem S1x471 .f32 := (Memref.whole cc0_stg6_0 : Memref sig .tc .vmem S1x471 .f32).view
/-- The staging buffer that window 0 hands the body at a point. -/
abbrev ms0_0 (t : Fin cfg0.N) : Memref sig .tc .vmem S512x471 .f32 := win0_0.stage (cfg0.slots t 0)
/-- It is a whole buffer. -/
abbrev hs0_0 (t : Fin cfg0.N) : (ms0_0 t).IsWhole := hstage0_0 ((cfg0.slots t 0).cast nbuf0_0)
/-- The staging buffer that window 1 hands the body at a point. -/
abbrev ms0_1 (t : Fin cfg0.N) : Memref sig .tc .vmem S64x471 .f32 := win0_1.stage (cfg0.slots t 1)
/-- It is a whole buffer. -/
abbrev hs0_1 (t : Fin cfg0.N) : (ms0_1 t).IsWhole := hstage0_1 ((cfg0.slots t 1).cast nbuf0_1)
/-- The staging buffer that window 2 hands the body at a point. -/
abbrev ms0_2 (t : Fin cfg0.N) : Memref sig .tc .vmem S1x471 .f32 := win0_2.stage (cfg0.slots t 2)
/-- It is a whole buffer. -/
abbrev hs0_2 (t : Fin cfg0.N) : (ms0_2 t).IsWhole := hstage0_2 ((cfg0.slots t 2).cast nbuf0_2)
/-- The staging buffer that window 3 hands the body at a point. -/
abbrev ms0_3 (t : Fin cfg0.N) : Memref sig .tc .vmem S471x471 .f32 := win0_3.stage (cfg0.slots t 3)
/-- It is a whole buffer. -/
abbrev hs0_3 (t : Fin cfg0.N) : (ms0_3 t).IsWhole := hstage0_3 ((cfg0.slots t 3).cast nbuf0_3)
/-- The staging buffer that window 4 hands the body at a point. -/
abbrev ms0_4 (t : Fin cfg0.N) : Memref sig .tc .vmem S1x471 .f32 := win0_4.stage (cfg0.slots t 4)
/-- It is a whole buffer. -/
abbrev hs0_4 (t : Fin cfg0.N) : (ms0_4 t).IsWhole := hstage0_4 ((cfg0.slots t 4).cast nbuf0_4)
/-- The staging buffer that window 5 hands the body at a point. -/
abbrev ms0_5 (t : Fin cfg0.N) : Memref sig .tc .vmem S1x4 .f32 := win0_5.stage (cfg0.slots t 5)
/-- It is a whole buffer. -/
abbrev hs0_5 (t : Fin cfg0.N) : (ms0_5 t).IsWhole := hstage0_5 ((cfg0.slots t 5).cast nbuf0_5)
/-- The staging buffer that window 6 hands the body at a point. -/
abbrev ms0_6 (t : Fin cfg0.N) : Memref sig .tc .vmem S1x471 .f32 := win0_6.stage (cfg0.slots t 6)
/-- It is a whole buffer. -/
abbrev hs0_6 (t : Fin cfg0.N) : (ms0_6 t).IsWhole := hstage0_6 ((cfg0.slots t 6).cast nbuf0_6)
/-- The accumulator that the points share. -/
abbrev scM0_0 : Memref sig .tc .vmem S1x471 .f32 := Memref.whole cc0_scratch0
/-- The accumulator as a view. -/
abbrev VS0_0 : View sig .tc .vmem S1x471 .f32 := scM0_0.view

/-- The invariant before the first point: the accumulator at any contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- One round of the solver on the pair `(z, u)`, from the values loaded before the loop. -/
def kstep (lam rho mu : F .f32) (w : FVec F S1x471 .f32) (q : Vec F S64x471 .f32) (w2 : FVec F S1x471 .f32)
    (p : FVec F S64x471 .f32) (s : FVec F S1x471 .f32 × FVec F S1x471 .f32) : FVec F S1x471 .f32 × FVec F S1x471 .f32 :=
  (k0_pay9 lam rho mu w q w2 p k0_pay4 s.1 s.2,
   k0_pay6 rho s.2 (k0_pay8 rho w q p s.1 s.2) (k0_pay9 lam rho mu w q w2 p k0_pay4 s.1 s.2))

variable (c : Dev nD) (i : grid0.Coords) (arg1 : Memref sig .tc .vmem S512x471 .f32) (harg1 : arg1.IsWhole) (arg2 : Memref sig .tc .vmem S64x471 .f32) (harg2 : arg2.IsWhole) (arg3 : Memref sig .tc .vmem S1x471 .f32) (harg3 : arg3.IsWhole) (arg4 : Memref sig .tc .vmem S471x471 .f32) (harg4 : arg4.IsWhole) (arg5 : Memref sig .tc .vmem S1x471 .f32) (harg5 : arg5.IsWhole) (arg6 : Memref sig .tc .vmem S1x4 .f32) (harg6 : arg6.IsWhole) (arg7 : Memref sig .tc .vmem S1x471 .f32) (harg7 : arg7.IsWhole) (arg8 : Memref sig .tc .vmem S1x471 .f32) (harg8 : arg8.IsWhole)

/-- The region of the rounds' loop touches no buffer: it returns the next pair. -/
theorem t2_body_eq (h2 : k0_cond2 i = 1#1) (v15 v17 v19 v21 : F .f32) (v23 : FVec F S1x471 .f32) (v24 : Vec F S64x471 .f32)
    (v32 : FVec F S1x471 .f32) (v45 : FVec F S64x64 .f32) (cst : FVec F S64x471 .f32) :
    k0_t2_body i arg1 harg1 arg2 harg2 arg3 harg3 arg4 harg4 arg5 harg5 arg6 harg6 arg7 harg7 arg8 harg8 h2 v15 v17 v19 v21 v23
        v24 v32 v45 cst
      = fun _ s => pure (kstep v17 v19 v21 v23 v24 v32 (k0_pay3 v15 v24 v45 cst) s) := by
  funext k s
  obtain ⟨z, u⟩ := s
  unfold k0_t2_body
  rw [k0_part1_eq_skeleton]
  rfl

end Cert.KernelIdeal.Body

end
-- ==== Proof.KernelIdeal.Run.lean ====
/- The body run once for each kind of grid point: first, middle, last. -/
module

public import proofs.«01_k».proof.Proof.KernelIdeal.Cases

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x471 .f32) (harg1 : arg1.IsWhole) (arg2 : Memref sig .tc .vmem S64x471 .f32) (harg2 : arg2.IsWhole) (arg3 : Memref sig .tc .vmem S1x471 .f32) (harg3 : arg3.IsWhole) (arg4 : Memref sig .tc .vmem S471x471 .f32) (harg4 : arg4.IsWhole) (arg5 : Memref sig .tc .vmem S1x471 .f32) (harg5 : arg5.IsWhole) (arg6 : Memref sig .tc .vmem S1x4 .f32) (harg6 : arg6.IsWhole) (arg7 : Memref sig .tc .vmem S1x471 .f32) (harg7 : arg7.IsWhole) (arg8 : Memref sig .tc .vmem S1x471 .f32) (harg8 : arg8.IsWhole)

set_option maxHeartbeats 1000000 in
/-- At the first point the body clears the accumulator and adds the block's column sums to it: the pieces it leaves in the
    accumulator, with the run that leaves them. -/
noncomputable def kernelRun0_A (hc0 : cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) :
    Σ' (L6 : List (View.Piece (Elt F) S1x471 .f32)), { LS0 : List (View.Piece (Elt F) S1x471 .f32) //
      ∀ (xi6 : Vec F S1x471 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨[], ?_, fun xi6 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in
/-- At a middle point the body adds the block's column sums to the accumulator: the pieces it leaves there, with the run
    that leaves them. -/
noncomputable def kernelRun0_B (hc0 : ¬cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) :
    Σ' (L6 : List (View.Piece (Elt F) S1x471 .f32)), { LS0 : List (View.Piece (Elt F) S1x471 .f32) //
      ∀ (xi6 : Vec F S1x471 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨[], ?_, fun xi6 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 4000000 in
/-- At the last point the body adds the last block, runs the rounds and stores the normalised result: the pieces it leaves
    in the output and in the accumulator, with the run that leaves them. -/
noncomputable def kernelRun0_C (hc0 : ¬cond0_0 i) (hc1 : cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) :
    Σ' (L6 : List (View.Piece (Elt F) S1x471 .f32)), { LS0 : List (View.Piece (Elt F) S1x471 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, fun E K => ?run⟩
  case run =>
    simp only [cc0__body_eq_skeleton]; unfold cc0__body_skel
    simp only [k0_part2_eq_skeleton]
    simp only [t2_body_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Body

end
-- ==== Proof.KernelIdeal.Frame.lean ====
/- What the output buffer and the accumulator hold point by point, the pipeline run over them, and the frame claim. -/
module

public import proofs.«01_k».proof.Proof.KernelIdeal.Run
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg1 : Memref sig .tc .vmem S512x471 .f32) (harg1 : arg1.IsWhole) (arg2 : Memref sig .tc .vmem S64x471 .f32) (harg2 : arg2.IsWhole) (arg3 : Memref sig .tc .vmem S1x471 .f32) (harg3 : arg3.IsWhole) (arg4 : Memref sig .tc .vmem S471x471 .f32) (harg4 : arg4.IsWhole) (arg5 : Memref sig .tc .vmem S1x471 .f32) (harg5 : arg5.IsWhole) (arg6 : Memref sig .tc .vmem S1x4 .f32) (harg6 : arg6.IsWhole) (arg7 : Memref sig .tc .vmem S1x471 .f32) (harg7 : arg7.IsWhole) (arg8 : Memref sig .tc .vmem S1x471 .f32) (harg8 : arg8.IsWhole)

/-- At the first point the output buffer is left alone: a placeholder. -/
def out0_A_6 (hc0 : cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) : Vec F S1x471 .f32 :=
  VO0_6.read (Elt F) (VO0_6.writes (Elt F) VO0_6.junk (kernelRun0_A c i arg1 harg1 arg2 harg2 arg3 harg3 arg4 harg4 arg5 harg5 arg6 harg6 arg7 harg7 arg8 harg8 hc0 hc1 x0 x1 x2 x3 x4 x5).1)

/-- The pieces stored at the first point cover the accumulator. -/
theorem scover0_A_0 (hc0 : cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) (y : S1x471.Idx) :
    ∃ pc ∈ (kernelRun0_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4 x5).2.1 S1x471.size (by sl_kernel_rfl) y

/-- What the first point leaves in the accumulator. -/
def sout0_A_0 (hc0 : cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) : Vec F S1x471 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3 x4 x5).2.1)

/-- At a middle point the output buffer is left alone: a placeholder. -/
def out0_B_6 (hc0 : ¬cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) : Vec F S1x471 .f32 :=
  VO0_6.read (Elt F) (VO0_6.writes (Elt F) VO0_6.junk (kernelRun0_B c i arg1 harg1 arg2 harg2 arg3 harg3 arg4 harg4 arg5 harg5 arg6 harg6 arg7 harg7 arg8 harg8 hc0 hc1 x0 x1 x2 x3 x4 x5 xs0).1)

/-- The piece stored at a middle point covers the accumulator. -/
theorem scover0_B_0 (hc0 : ¬cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) (y : S1x471.Idx) :
    ∃ pc ∈ (kernelRun0_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 x5 xs0).2.1 S1x471.size (by sl_kernel_rfl) y

/-- What a middle point leaves in the accumulator. -/
def sout0_B_0 (hc0 : ¬cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) : Vec F S1x471 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 x4 x5 xs0).2.1)

/-- The piece stored at the last point covers the output. -/
theorem cover0_C_6 (hc0 : ¬cond0_0 i) (hc1 : cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) (y : S1x471.Idx) :
    ∃ pc ∈ (kernelRun0_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 x5 xs0).1 S1x471.size (by sl_kernel_rfl) y

/-- What the last point leaves in the output buffer. -/
def out0_C_6 (hc0 : ¬cond0_0 i) (hc1 : cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) : Vec F S1x471 .f32 :=
  VO0_6.read (Elt F) (VO0_6.writes (Elt F) VO0_6.junk (kernelRun0_C c i arg1 harg1 arg2 harg2 arg3 harg3 arg4 harg4 arg5 harg5 arg6 harg6 arg7 harg7 arg8 harg8 hc0 hc1 x0 x1 x2 x3 x4 x5 xs0).1)

/-- The piece stored at the last point covers the accumulator. -/
theorem scover0_C_0 (hc0 : ¬cond0_0 i) (hc1 : cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) (y : S1x471.Idx) :
    ∃ pc ∈ (kernelRun0_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 x5 xs0).2.1 S1x471.size (by sl_kernel_rfl) y

/-- What the last point leaves in the accumulator. -/
def sout0_C_0 (hc0 : ¬cond0_0 i) (hc1 : cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) : Vec F S1x471 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 x4 x5 xs0).2.1)

end

variable (m : (ℓ : Loc nD τ sig) → Buf (Elt F) ℓ) (ρ : Dev nD → PrngReg)

/-- What the output buffer and the accumulator hold after the point `n`, by recursion on the point. -/
def outsAt0 (c : Dev nD) : (n : ℕ) → n < cfg0.N → Vec F S1x471 .f32 × Vec F S1x471 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by have hN : n + 1 < 8 := lt_of_lt_of_eq hn (show cfg0.N = 8 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- At the first point they hold what the first kind of point leaves. -/
theorem outsAt0_A (c : Dev nD) (t : Fin cfg0.N) (h0 : t.val % 8 = 0) (h1 : ¬t.val % 8 = 7) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- At a middle point they hold what such a point leaves over the point before. -/
theorem outsAt0_B (c : Dev nD) (t : Fin cfg0.N) (h0 : ¬t.val % 8 = 0) (h1 : ¬t.val % 8 = 7) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point they hold what it leaves over the point before. -/
theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before the point `n`: the accumulator at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

/-- Before the first point the accumulator may hold anything. -/
theorem PhiS_zero (c : Dev nD) (n : ℕ) (h : n ≤ cfg0.N) (hz : n = 0) : PhiS m c n h = Pipeline.ΦA spec0 c := by
  subst hz; rfl

/-- After the point `n` the accumulator holds that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a later point the accumulator holds what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- The data of the pipeline: the arrays at entry, what each window holds after each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The arrays of the data are those at entry. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = (outsAt0 m c t.val t.isLt).1 := by dsimp only [dats]

/-- Input window 0 holds its block when the body starts. -/
theorem before0_0 (c : Dev nD) (t : Fin cfg0.N) (d) : (dats m 0 c).before 0 t d = iblk m c 0 t :=
  before0_0_of m (dats m 0 c) (A_eq m c 0) (after0_0 m c) t d
/-- Input window 1 holds its block when the body starts. -/
theorem before0_1 (c : Dev nD) (t : Fin cfg0.N) (d) : (dats m 0 c).before 1 t d = iblk m c 1 t :=
  before0_1_of m (dats m 0 c) (A_eq m c 1) (after0_1 m c) t d
/-- Input window 2 holds its block when the body starts. -/
theorem before0_2 (c : Dev nD) (t : Fin cfg0.N) (d) : (dats m 0 c).before 2 t d = iblk m c 2 t :=
  before0_2_of m (dats m 0 c) (A_eq m c 2) (after0_2 m c) t d
/-- Input window 3 holds its block when the body starts. -/
theorem before0_3 (c : Dev nD) (t : Fin cfg0.N) (d) : (dats m 0 c).before 3 t d = iblk m c 3 t :=
  before0_3_of m (dats m 0 c) (A_eq m c 3) (after0_3 m c) t d
/-- Input window 4 holds its block when the body starts. -/
theorem before0_4 (c : Dev nD) (t : Fin cfg0.N) (d) : (dats m 0 c).before 4 t d = iblk m c 4 t :=
  before0_4_of m (dats m 0 c) (A_eq m c 4) (after0_4 m c) t d
/-- Input window 5 holds its block when the body starts. -/
theorem before0_5 (c : Dev nD) (t : Fin cfg0.N) (d) : (dats m 0 c).before 5 t d = iblk m c 5 t :=
  before0_5_of m (dats m 0 c) (A_eq m c 5) (after0_5 m c) t d

/-- What the body is handed at the point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at the point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body keeps its contract at a point: by cases on the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; have hN : t.val < 8 := lt_of_lt_of_eq t.isLt (show cfg0.N = 8 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      by_cases hz : t.val = 0
      · exfalso; have hN : t.val < 8 := lt_of_lt_of_eq t.isLt (show cfg0.N = 8 from N_0); omega
      · rw [PhiS_castSucc m c t, PhiS_pos m c _ _ hz]
        rw [outsAt0_C m c t h0 h1]
        unfold out0_C_6 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body of the table at a point is the body over that point's buffers. -/
theorem defs₀_row (t : Fin cfg0.N) :
    defs₀ (F := F) .tc cfg0.body (cfg0.bodyArgs t (cfg0.slots t)) = bodyAt0 t := by
  unfold defs₀; rw [Defs.onTc_tc]

/-- The body keeps its contract at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any later point the invariant gives back what the launch handed over. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- In particular after the last point. -/
theorem hout (c : Dev nD) : (dats m 0 c).Φ (Fin.last cfg0.N) ⊢ Pipeline.ΦA spec0 c :=
  Phi_out m c _ (by rw [Fin.val_last]; have : cfg0.N = 8 := N_0; omega)

set_option backward.isDefEq.respectTransparency.types false in
set_option maxHeartbeats 800000 in
/-- The program runs: it ends with the pipeline's arrays at what the data say, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame claim: the program ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Body

end
-- ==== Proof.Reference.Layer.lean ====
/- One layer of the reference as functions of tensors. -/
module

public import proofs.«01_k».proof.Proof.Gen.ReferenceIdeal.Run

@[expose] public section

noncomputable section

namespace Cert.ReferenceIdeal.Steps

open Cert.ReferenceIdeal Cert.ReferenceIdeal.Gen
open Idealize.ShloMosaic Idealize.ShloMosaic.TcCoe Idealize.ShloMosaic.StableHlo

variable {F : FTy → Type} [FloatOps F]

/-- The regularised multiplier: `α · (inv · (q · (u - ρ (z - w))))`. -/
def thetaF (q : Vec F S64x471 .f32) (w : Vec F S471 .f32) (al rho : Vec F S1 .f32) (inv : Vec F S64x64 .f32)
    (z u : Vec F S471 .f32) : Vec F S64 .f32 :=
  mulf (broadcastInDim S64 ![0] bcast_S1_S64_0 al)
    (Host.dotGeneral dot_S64x64_S64_S64_1_0_0_n_n_n none inv
      (Host.dotGeneral dot_S64x471_S471_S64_1_0_0_n_n_n none q
        (subf u (mulf (broadcastInDim S471 ![0] bcast_S1_S471_0 rho) (subf z w)))))

/-- The corrected weights: `w + (1/471) qᵀ θ`. -/
def bF (q : Vec F S64x471 .f32) (w : Vec F S471 .f32) (th : Vec F S64 .f32) : Vec F S471 .f32 :=
  addf w (mulf (broadcastInDim S471 ![] bcast_S_S471 (constant S_ .f32 0x3B0B246B#32))
    (Host.dotGeneral dot_S471x64_S64_S471_1_0_0_n_n_n none
      (transpose S471x64 [1, 0] q transposes_S64x471_S471x64_1_0) th))

/-- The gradient step on the weights followed by the rectifier. -/
def coreF (w2 b : Vec F S471 .f32) (lam rho mu : Vec F S1 .f32) (z u : Vec F S471 .f32) : Vec F S471 .f32 :=
  maximumf (subf z (mulf (broadcastInDim S471 ![0] bcast_S1_S471_0 mu)
    (addf (addf (addf (addf w2 (mulf (broadcastInDim S471 ![0] bcast_S1_S471_0 rho) (subf z b))) u)
      (broadcastInDim S471 ![0] bcast_S1_S471_0
        (mulf (mulf (broadcastInDim S1 ![] bcast_S_S1 (constant S_ .f32 0x40000000#32)) lam)
          (broadcastInDim S1 ![] bcast_S_S1
            (subf (Host.reduceAdd z (constant S_ .f32 0x00000000#32) reducesTo_S471_S_d0 h_S_)
              (constant S_ .f32 0x3F800000#32))))))
      (mulf (broadcastInDim S471 ![0] bcast_S1_S471_0
          (mulf (broadcastInDim S1 ![] bcast_S_S1 (constant S_ .f32 0x40000000#32)) lam))
        (minimumf (broadcastInDim S471 ![] bcast_S_S471 (constant S_ .f32 0x00000000#32)) z)))))
    (broadcastInDim S471 ![] bcast_S_S471 (constant S_ .f32 0x00000000#32))

/-- The positions of the fifty largest entries, largest first. -/
def topF (z : Vec F S471 .f32) : Vec F S50 .i32 :=
  (Host.topK S50 0 (FloatOps.cmpfTotal .gt) z sliceFits_S471_S50).2

/-- The mask with a one at each listed position. -/
def maskF (i : Vec F S50 .i32) : Vec F S471 .f32 :=
  Host.scatter scatter_S471_S50x1_S50_n_0_0_1 (fun _ b => b)
    (broadcastInDim S471 ![] bcast_S_S471 (constant S_ .f32 0x00000000#32))
    (broadcastInDim S50x1 ![0] bcast_S50_S50x1_0
      (select (cmpi .slt i (broadcastInDim S50 ![] bcast_S_S50 (constantI S_ 32 0#32)))
        (addi i (broadcastInDim S50 ![] bcast_S_S50 (constantI S_ 32 471#32))) i))
    (broadcastInDim S50 ![] bcast_S_S50 (constant S_ .f32 0x3F800000#32))

/-- The vector with all but its fifty largest entries set to zero. -/
def keepF (z : Vec F S471 .f32) : Vec F S471 .f32 := mulf z (maskF (topF z))

/-- One layer's new weights. -/
def zF (q : Vec F S64x471 .f32) (w w2 : Vec F S471 .f32) (al lam rho mu : Vec F S1 .f32) (inv : Vec F S64x64 .f32)
    (z u : Vec F S471 .f32) : Vec F S471 .f32 :=
  keepF (coreF w2 (bF q w (thetaF q w al rho inv z u)) lam rho mu z u)

/-- One layer's new dual variable, from the layer's new weights `z'`. -/
def uF (q : Vec F S64x471 .f32) (w : Vec F S471 .f32) (al rho : Vec F S1 .f32) (inv : Vec F S64x64 .f32)
    (z u z' : Vec F S471 .f32) : Vec F S471 .f32 :=
  addf u (mulf (broadcastInDim S471 ![0] bcast_S1_S471_0 rho) (subf z' (bF q w (thetaF q w al rho inv z u))))

/-- The column means of `x lin_Wᵀ + lin_b`. -/
def w2F (x : Vec F S4096x471 .f32) (lw : Vec F S471x471 .f32) (lb : Vec F S471 .f32) : Vec F S471 .f32 :=
  Host.divf (Host.reduceAdd
      (addf (Host.dotGeneral dot_S4096x471_S471x471_S4096x471_1_0_0_1_n_n none x
          (transpose S471x471 [1, 0] lw transposes_S471x471_S471x471_1_0))
        (broadcastInDim S4096x471 ![0, 1] bcast_S1x471_S4096x471_0_1
          (broadcastInDim S1x471 ![1] bcast_S471_S1x471_1 lb)))
      (constant S_ .f32 0x00000000#32) reducesTo_S4096x471_S471_d0 h_S_)
    (broadcastInDim S471 ![] bcast_S_S471 (constant S_ .f32 0x45800000#32))

/-- The final scaling: the weights divided by their sum plus a small constant. -/
def scaleF (z : Vec F S471 .f32) : Vec F S471 .f32 :=
  Host.divf z (broadcastInDim S471 ![] bcast_S_S471
    (addf (Host.reduceAdd z (constant S_ .f32 0x00000000#32) reducesTo_S471_S_d0 h_S_)
      (constant S_ .f32 0x322BCC77#32)))

end Cert.ReferenceIdeal.Steps

end
-- ==== Proof.Reference.Loop.lean ====
/- The reference's loop: the buffers it carries after all its trips, and the buffers it leaves alone. -/
module

public import proofs.«01_k».proof.Proof.Reference.Layer

@[expose] public section

set_option maxRecDepth 9316

noncomputable section

namespace Cert.ReferenceIdeal.Steps

open Cert.ReferenceIdeal Cert.ReferenceIdeal.Gen Cert.ReferenceIdeal.Value
open Idealize.ShloMosaic Idealize.ShloMosaic.TcCoe Idealize.ShloMosaic.StableHlo

variable {F : FTy → Type} [FloatOps F]

/-- The product of two square matrices. -/
def dotF (a b : Vec F S64x64 .f32) : Vec F S64x64 .f32 :=
  Host.dotGeneral dot_S64x64_S64x64_S64x64_1_0_0_1_n_n none a b

/-- The matrix of inner products of the constraint rows, `q qᵀ`. -/
def gramF (q : Vec F S64x471 .f32) : Vec F S64x64 .f32 :=
  Host.dotGeneral dot_S64x471_S471x64_S64x64_1_0_0_1_n_n none q
    (transpose S471x64 [1, 0] q transposes_S64x471_S471x64_1_0)

/-- The largest row sum of absolute values. -/
def normF (g : Vec F S64x64 .f32) : Vec F S_ .f32 :=
  Host.reduce FloatOps.maximumf
    (Host.reduceAdd (Host.absf g) (constant S_ .f32 0x00000000#32) reducesTo_S64x64_S64_d1 h_S_)
    (constant S_ .f32 0xFF800000#32) reducesTo_S64_S_d0 h_S_

/-- The matrix scaled by one over its norm squared. -/
def scaledF (g : Vec F S64x64 .f32) : Vec F S64x64 .f32 :=
  mulf g (broadcastInDim S64x64 ![] bcast_S_S64x64
    (Host.divf (constant S_ .f32 0x3F800000#32) (mulf (normF g) (normF g))))

/-- The identity matrix. -/
def eyeF : Vec F S64x64 .f32 :=
  uitofp .f32 (cmpi .eq (addi (iotaInDim S64x64 32 0) (broadcastInDim S64x64 ![] bcast_S_S64x64 (constantI S_ 32 0#32)))
    (iotaInDim S64x64 32 1))

/-- One step of the series: `p + C (I - G p)`. -/
def stepF (g c p : Vec F S64x64 .f32) : Vec F S64x64 .f32 := addf p (dotF c (subf eyeF (dotF g p)))

/-- The series after `k` steps from zero. -/
def seriesF (g : Vec F S64x64 .f32) : ℕ → Vec F S64x64 .f32
  | 0 => broadcastInDim S64x64 ![] bcast_S_S64x64 (constant S_ .f32 0x00000000#32)
  | k + 1 => stepF g (scaledF g) (seriesF g k)

variable (m : (ℓ : Loc nD τ sig) → Buf (Elt F) ℓ) (c : Dev nD)

/-- The loop carries the matrix `q qᵀ`. -/
theorem entry_g : entryContents preI m c (Proc.devRef .tc main_v18_0) = gramF (launchContents m c (Proc.devRef .tc main_arg1)) := by
  unfold entryContents preI hostOps0
  simp only [afterL_cons, afterL_nil]
  after_reads_simp
  rfl

/-- The loop carries the identity. -/
theorem entry_e : entryContents preI m c (Proc.devRef .tc main_v18_1) = eyeF := by
  unfold entryContents preI hostOps0
  simp only [afterL_cons, afterL_nil]
  after_reads_simp
  rfl

/-- The loop carries the scaled matrix. -/
theorem entry_c : entryContents preI m c (Proc.devRef .tc main_v18_2) = scaledF (gramF (launchContents m c (Proc.devRef .tc main_arg1))) := by
  unfold entryContents preI hostOps0
  simp only [afterL_cons, afterL_nil]
  after_reads_simp
  rfl

/-- The loop's total starts at zero. -/
theorem entry_p : entryContents preI m c (Proc.devRef .tc main_v18_5) = seriesF (gramF (launchContents m c (Proc.devRef .tc main_arg1))) 0 := by
  unfold entryContents preI hostOps0
  simp only [afterL_cons, afterL_nil]
  after_reads_simp
  rfl

/-- The first weights are zero. -/
theorem entry_z : entryContents preI m c (Proc.devRef .tc main_v0) = broadcastInDim S471 ![] bcast_S_S471 (constant S_ .f32 0x00000000#32) := by
  unfold entryContents preI hostOps0
  simp only [afterL_cons, afterL_nil]
  after_reads_simp

/-- The first dual variable is zero. -/
theorem entry_u : entryContents preI m c (Proc.devRef .tc main_v1) = broadcastInDim S471 ![] bcast_S_S471 (constant S_ .f32 0x00000000#32) := by
  unfold entryContents preI hostOps0
  simp only [afterL_cons, afterL_nil]
  after_reads_simp

/-- A buffer nothing before the loop writes holds what it held at the launch. -/
theorem entry_keep (r : Ref sig .tc) (h : r ∉ hostOps0_W) :
    entryContents preI m c (Proc.devRef .tc r) = launchContents m c (Proc.devRef .tc r) :=
  after_of_writes_sub hostOps0 _ hostOps0_writes h

/-- A buffer the loop does not write holds what it held on entry. -/
theorem trips_keep (r : Ref sig .tc) (h : r ∉ while0Ops0_W) (h' : r ∉ condOps_W) :
    ∀ k, atK m k c (Proc.devRef .tc r) = entryContents preI m c (Proc.devRef .tc r)
  | 0 => rfl
  | k + 1 => by
    rw [← trips_keep r h h' k]
    exact (after_of_writes_sub while0Ops0 _ while0Ops0_writes h).trans (after_of_writes_sub condOps _ condOps_writes h')

/-- After `k` trips the carried total is the series after `k` steps. -/
theorem iter_p (k : ℕ) :
    (STEP^[k] (entryContents preI m c)) (Proc.devRef .tc main_v18_0) = gramF (launchContents m c (Proc.devRef .tc main_arg1))
    ∧ (STEP^[k] (entryContents preI m c)) (Proc.devRef .tc main_v18_1) = eyeF
    ∧ (STEP^[k] (entryContents preI m c)) (Proc.devRef .tc main_v18_2) = scaledF (gramF (launchContents m c (Proc.devRef .tc main_arg1)))
    ∧ (STEP^[k] (entryContents preI m c)) (Proc.devRef .tc main_v18_5) = seriesF (gramF (launchContents m c (Proc.devRef .tc main_arg1))) k := by
  induction k with
  | zero => exact ⟨entry_g m c, entry_e m c, entry_c m c, entry_p m c⟩
  | succ k ih =>
    obtain ⟨hg, he, hc, hp⟩ := ih
    rw [Function.iterate_succ_apply']
    refine ⟨(STEP_main_v18_0 _).trans hg, (STEP_main_v18_1 _).trans he, (STEP_main_v18_2 _).trans hc, (STEP_main_v18_5 _).trans ?_⟩
    unfold step_main_v18_5
    rw [hg, he, hc, hp]
    rfl

/-- The same of the loop itself. -/
theorem trips_p (k : ℕ) :
    atK m k c (Proc.devRef .tc main_v18_5) = seriesF (gramF (launchContents m c (Proc.devRef .tc main_arg1))) k :=
  (atK_agree m c k main_v18_5 (by decide)).trans (iter_p m c k).2.2.2

/-- What the operations after the loop start from. -/
def exitContents : Valuation τ sig (Elt F) := after condOps (atK m 65536 c)

/-- There the total is the whole series. -/
theorem exit_p : exitContents m c (Proc.devRef .tc main_v18_5)
    = seriesF (gramF (launchContents m c (Proc.devRef .tc main_arg1))) 65536 :=
  (after_of_writes_sub condOps _ condOps_writes (by decide)).trans (trips_p m c 65536)

/-- There a buffer the loop does not write holds what it held on entry. -/
theorem exit_keep (r : Ref sig .tc) (h : r ∉ while0Ops0_W) (h' : r ∉ condOps_W) :
    exitContents m c (Proc.devRef .tc r) = entryContents preI m c (Proc.devRef .tc r) :=
  (after_of_writes_sub condOps _ condOps_writes h').trans (trips_keep m c r h h' 65536)

end Cert.ReferenceIdeal.Steps

end
-- ==== Proof.Reference.Cuts.lean ====
/- The operations after the loop, cut into the first layer's preparation, nine whole layers and the last layer; what each cut leaves in the buffers the next one reads. -/
module

public import proofs.«01_k».proof.Proof.Reference.Layer

@[expose] public section

noncomputable section

namespace Cert.ReferenceIdeal.Steps

open Cert.ReferenceIdeal Cert.ReferenceIdeal.Gen
open Idealize.ShloMosaic Idealize.ShloMosaic.TcCoe Idealize.ShloMosaic.StableHlo

set_option maxRecDepth 9316

variable {F : FTy → Type} [FloatOps F]

/-- `n` operations after the loop, from the operation numbered `i`. -/
def cut (i n : ℕ) : List (HloOp τ sig (Elt F)) := (hostOps0_1.drop i).take n

/-- What cut 0 writes. -/
abbrev cut0_W : List (Ref sig .tc) := [main_v19, main_v20, main_v21, main_v22, main_v23, main_cst_7, main_v24, main_cst_8, main_v25, main_v26]

/-- Cut 0 writes nothing else. -/
theorem cut0_writes : (cut 0 10 : List (HloOp τ sig (Elt F))).Forall fun op => op.writes ⊆ (cut0_W.map (Proc.devRef (τ := τ) .tc)).toFinset :=
  StableHlo.forall_writes_sub_of_map rfl

/-- Cut 0 leaves every other buffer as it was. -/
theorem cut0_keep (V : Valuation τ sig (Elt F)) (r : Ref sig .tc) (h : r ∉ cut0_W) :
    after (cut 0 10) V (Proc.devRef .tc r) = V (Proc.devRef .tc r) :=
  after_of_writes_sub _ V cut0_writes h

/-- What cut 1 writes. -/
abbrev cut1_W : List (Ref sig .tc) := [main_v27, main_v28, main_v29, main_v30, main_v31, main_v32, main_v33, main_v34, main_v35, main_v36, main_cst_9, main_v37, main_v38, main_v39, main_v40, main_v41, main_v42, main_v43, main_v44, main_cst_10, main_v45, main_v46, main_cst_11, main_v47, main_cst_12, main_v48, main_v49, main_v50, main_cst_13, main_v51, main_v52, main_cst_14, main_v53, main_v54, main_v55, main_v56, main_v57, main_v58, main_v59, main_v60, main_v61, main_v62, main_cst_15, main_v63, main_v64, main_values, main_indices, main_cst_16, main_v65, main_c_17, main_v66, main_v67, main_c_18, main_v68, main_v69, main_v70, main_v71, main_cst_19, main_v72, main_v73, main_v74, main_v75, main_v76, main_cst_20, main_v77, main_v78, main_v79, main_v80, main_v81, main_v82, main_v83]

/-- Cut 1 writes nothing else. -/
theorem cut1_writes : (cut 10 71 : List (HloOp τ sig (Elt F))).Forall fun op => op.writes ⊆ (cut1_W.map (Proc.devRef (τ := τ) .tc)).toFinset :=
  StableHlo.forall_writes_sub_of_map rfl

/-- Cut 1 leaves every other buffer as it was. -/
theorem cut1_keep (V : Valuation τ sig (Elt F)) (r : Ref sig .tc) (h : r ∉ cut1_W) :
    after (cut 10 71) V (Proc.devRef .tc r) = V (Proc.devRef .tc r) :=
  after_of_writes_sub _ V cut1_writes h

/-- What cut 2 writes. -/
abbrev cut2_W : List (Ref sig .tc) := [main_v84, main_v85, main_v86, main_v87, main_v88, main_v89, main_v90, main_v91, main_v92, main_v93, main_cst_21, main_v94, main_v95, main_v96, main_v97, main_v98, main_v99, main_v100, main_v101, main_cst_22, main_v102, main_v103, main_cst_23, main_v104, main_cst_24, main_v105, main_v106, main_v107, main_cst_25, main_v108, main_v109, main_cst_26, main_v110, main_v111, main_v112, main_v113, main_v114, main_v115, main_v116, main_v117, main_v118, main_v119, main_cst_27, main_v120, main_v121, main_values_28, main_indices_29, main_cst_30, main_v122, main_c_31, main_v123, main_v124, main_c_32, main_v125, main_v126, main_v127, main_v128, main_cst_33, main_v129, main_v130, main_v131, main_v132, main_v133, main_cst_34, main_v134, main_v135, main_v136, main_v137, main_v138, main_v139, main_v140]

/-- Cut 2 writes nothing else. -/
theorem cut2_writes : (cut 81 71 : List (HloOp τ sig (Elt F))).Forall fun op => op.writes ⊆ (cut2_W.map (Proc.devRef (τ := τ) .tc)).toFinset :=
  StableHlo.forall_writes_sub_of_map rfl

/-- Cut 2 leaves every other buffer as it was. -/
theorem cut2_keep (V : Valuation τ sig (Elt F)) (r : Ref sig .tc) (h : r ∉ cut2_W) :
    after (cut 81 71) V (Proc.devRef .tc r) = V (Proc.devRef .tc r) :=
  after_of_writes_sub _ V cut2_writes h

/-- What cut 3 writes. -/
abbrev cut3_W : List (Ref sig .tc) := [main_v141, main_v142, main_v143, main_v144, main_v145, main_v146, main_v147, main_v148, main_v149, main_v150, main_cst_35, main_v151, main_v152, main_v153, main_v154, main_v155, main_v156, main_v157, main_v158, main_cst_36, main_v159, main_v160, main_cst_37, main_v161, main_cst_38, main_v162, main_v163, main_v164, main_cst_39, main_v165, main_v166, main_cst_40, main_v167, main_v168, main_v169, main_v170, main_v171, main_v172, main_v173, main_v174, main_v175, main_v176, main_cst_41, main_v177, main_v178, main_values_42, main_indices_43, main_cst_44, main_v179, main_c_45, main_v180, main_v181, main_c_46, main_v182, main_v183, main_v184, main_v185, main_cst_47, main_v186, main_v187, main_v188, main_v189, main_v190, main_cst_48, main_v191, main_v192, main_v193, main_v194, main_v195, main_v196, main_v197]

/-- Cut 3 writes nothing else. -/
theorem cut3_writes : (cut 152 71 : List (HloOp τ sig (Elt F))).Forall fun op => op.writes ⊆ (cut3_W.map (Proc.devRef (τ := τ) .tc)).toFinset :=
  StableHlo.forall_writes_sub_of_map rfl

/-- Cut 3 leaves every other buffer as it was. -/
theorem cut3_keep (V : Valuation τ sig (Elt F)) (r : Ref sig .tc) (h : r ∉ cut3_W) :
    after (cut 152 71) V (Proc.devRef .tc r) = V (Proc.devRef .tc r) :=
  after_of_writes_sub _ V cut3_writes h

/-- What cut 4 writes. -/
abbrev cut4_W : List (Ref sig .tc) := [main_v198, main_v199, main_v200, main_v201, main_v202, main_v203, main_v204, main_v205, main_v206, main_v207, main_cst_49, main_v208, main_v209, main_v210, main_v211, main_v212, main_v213, main_v214, main_v215, main_cst_50, main_v216, main_v217, main_cst_51, main_v218, main_cst_52, main_v219, main_v220, main_v221, main_cst_53, main_v222, main_v223, main_cst_54, main_v224, main_v225, main_v226, main_v227, main_v228, main_v229, main_v230, main_v231, main_v232, main_v233, main_cst_55, main_v234, main_v235, main_values_56, main_indices_57, main_cst_58, main_v236, main_c_59, main_v237, main_v238, main_c_60, main_v239, main_v240, main_v241, main_v242, main_cst_61, main_v243, main_v244, main_v245, main_v246, main_v247, main_cst_62, main_v248, main_v249, main_v250, main_v251, main_v252, main_v253, main_v254]

/-- Cut 4 writes nothing else. -/
theorem cut4_writes : (cut 223 71 : List (HloOp τ sig (Elt F))).Forall fun op => op.writes ⊆ (cut4_W.map (Proc.devRef (τ := τ) .tc)).toFinset :=
  StableHlo.forall_writes_sub_of_map rfl

/-- Cut 4 leaves every other buffer as it was. -/
theorem cut4_keep (V : Valuation τ sig (Elt F)) (r : Ref sig .tc) (h : r ∉ cut4_W) :
    after (cut 223 71) V (Proc.devRef .tc r) = V (Proc.devRef .tc r) :=
  after_of_writes_sub _ V cut4_writes h

/-- What cut 5 writes. -/
abbrev cut5_W : List (Ref sig .tc) := [main_v255, main_v256, main_v257, main_v258, main_v259, main_v260, main_v261, main_v262, main_v263, main_v264, main_cst_63, main_v265, main_v266, main_v267, main_v268, main_v269, main_v270, main_v271, main_v272, main_cst_64, main_v273, main_v274, main_cst_65, main_v275, main_cst_66, main_v276, main_v277, main_v278, main_cst_67, main_v279, main_v280, main_cst_68, main_v281, main_v282, main_v283, main_v284, main_v285, main_v286, main_v287, main_v288, main_v289, main_v290, main_cst_69, main_v291, main_v292, main_values_70, main_indices_71, main_cst_72, main_v293, main_c_73, main_v294, main_v295, main_c_74, main_v296, main_v297, main_v298, main_v299, main_cst_75, main_v300, main_v301, main_v302, main_v303, main_v304, main_cst_76, main_v305, main_v306, main_v307, main_v308, main_v309, main_v310, main_v311]

/-- Cut 5 writes nothing else. -/
theorem cut5_writes : (cut 294 71 : List (HloOp τ sig (Elt F))).Forall fun op => op.writes ⊆ (cut5_W.map (Proc.devRef (τ := τ) .tc)).toFinset :=
  StableHlo.forall_writes_sub_of_map rfl

/-- Cut 5 leaves every other buffer as it was. -/
theorem cut5_keep (V : Valuation τ sig (Elt F)) (r : Ref sig .tc) (h : r ∉ cut5_W) :
    after (cut 294 71) V (Proc.devRef .tc r) = V (Proc.devRef .tc r) :=
  after_of_writes_sub _ V cut5_writes h

/-- What cut 6 writes. -/
abbrev cut6_W : List (Ref sig .tc) := [main_v312, main_v313, main_v314, main_v315, main_v316, main_v317, main_v318, main_v319, main_v320, main_v321, main_cst_77, main_v322, main_v323, main_v324, main_v325, main_v326, main_v327, main_v328, main_v329, main_cst_78, main_v330, main_v331, main_cst_79, main_v332, main_cst_80, main_v333, main_v334, main_v335, main_cst_81, main_v336, main_v337, main_cst_82, main_v338, main_v339, main_v340, main_v341, main_v342, main_v343, main_v344, main_v345, main_v346, main_v347, main_cst_83, main_v348, main_v349, main_values_84, main_indices_85, main_cst_86, main_v350, main_c_87, main_v351, main_v352, main_c_88, main_v353, main_v354, main_v355, main_v356, main_cst_89, main_v357, main_v358, main_v359, main_v360, main_v361, main_cst_90, main_v362, main_v363, main_v364, main_v365, main_v366, main_v367, main_v368]

/-- Cut 6 writes nothing else. -/
theorem cut6_writes : (cut 365 71 : List (HloOp τ sig (Elt F))).Forall fun op => op.writes ⊆ (cut6_W.map (Proc.devRef (τ := τ) .tc)).toFinset :=
  StableHlo.forall_writes_sub_of_map rfl

/-- Cut 6 leaves every other buffer as it was. -/
theorem cut6_keep (V : Valuation τ sig (Elt F)) (r : Ref sig .tc) (h : r ∉ cut6_W) :
    after (cut 365 71) V (Proc.devRef .tc r) = V (Proc.devRef .tc r) :=
  after_of_writes_sub _ V cut6_writes h

/-- What cut 7 writes. -/
abbrev cut7_W : List (Ref sig .tc) := [main_v369, main_v370, main_v371, main_v372, main_v373, main_v374, main_v375, main_v376, main_v377, main_v378, main_cst_91, main_v379, main_v380, main_v381, main_v382, main_v383, main_v384, main_v385, main_v386, main_cst_92, main_v387, main_v388, main_cst_93, main_v389, main_cst_94, main_v390, main_v391, main_v392, main_cst_95, main_v393, main_v394, main_cst_96, main_v395, main_v396, main_v397, main_v398, main_v399, main_v400, main_v401, main_v402, main_v403, main_v404, main_cst_97, main_v405, main_v406, main_values_98, main_indices_99, main_cst_100, main_v407, main_c_101, main_v408, main_v409, main_c_102, main_v410, main_v411, main_v412, main_v413, main_cst_103, main_v414, main_v415, main_v416, main_v417, main_v418, main_cst_104, main_v419, main_v420, main_v421, main_v422, main_v423, main_v424, main_v425]

/-- Cut 7 writes nothing else. -/
theorem cut7_writes : (cut 436 71 : List (HloOp τ sig (Elt F))).Forall fun op => op.writes ⊆ (cut7_W.map (Proc.devRef (τ := τ) .tc)).toFinset :=
  StableHlo.forall_writes_sub_of_map rfl

/-- Cut 7 leaves every other buffer as it was. -/
theorem cut7_keep (V : Valuation τ sig (Elt F)) (r : Ref sig .tc) (h : r ∉ cut7_W) :
    after (cut 436 71) V (Proc.devRef .tc r) = V (Proc.devRef .tc r) :=
  after_of_writes_sub _ V cut7_writes h

/-- What cut 8 writes. -/
abbrev cut8_W : List (Ref sig .tc) := [main_v426, main_v427, main_v428, main_v429, main_v430, main_v431, main_v432, main_v433, main_v434, main_v435, main_cst_105, main_v436, main_v437, main_v438, main_v439, main_v440, main_v441, main_v442, main_v443, main_cst_106, main_v444, main_v445, main_cst_107, main_v446, main_cst_108, main_v447, main_v448, main_v449, main_cst_109, main_v450, main_v451, main_cst_110, main_v452, main_v453, main_v454, main_v455, main_v456, main_v457, main_v458, main_v459, main_v460, main_v461, main_cst_111, main_v462, main_v463, main_values_112, main_indices_113, main_cst_114, main_v464, main_c_115, main_v465, main_v466, main_c_116, main_v467, main_v468, main_v469, main_v470, main_cst_117, main_v471, main_v472, main_v473, main_v474, main_v475, main_cst_118, main_v476, main_v477, main_v478, main_v479, main_v480, main_v481, main_v482]

/-- Cut 8 writes nothing else. -/
theorem cut8_writes : (cut 507 71 : List (HloOp τ sig (Elt F))).Forall fun op => op.writes ⊆ (cut8_W.map (Proc.devRef (τ := τ) .tc)).toFinset :=
  StableHlo.forall_writes_sub_of_map rfl

/-- Cut 8 leaves every other buffer as it was. -/
theorem cut8_keep (V : Valuation τ sig (Elt F)) (r : Ref sig .tc) (h : r ∉ cut8_W) :
    after (cut 507 71) V (Proc.devRef .tc r) = V (Proc.devRef .tc r) :=
  after_of_writes_sub _ V cut8_writes h

/-- What cut 9 writes. -/
abbrev cut9_W : List (Ref sig .tc) := [main_v483, main_v484, main_v485, main_v486, main_v487, main_v488, main_v489, main_v490, main_v491, main_v492, main_cst_119, main_v493, main_v494, main_v495, main_v496, main_v497, main_v498, main_v499, main_v500, main_cst_120, main_v501, main_v502, main_cst_121, main_v503, main_cst_122, main_v504, main_v505, main_v506, main_cst_123, main_v507, main_v508, main_cst_124, main_v509, main_v510, main_v511, main_v512, main_v513, main_v514, main_v515, main_v516, main_v517, main_v518, main_cst_125, main_v519, main_v520, main_values_126, main_indices_127, main_cst_128, main_v521, main_c_129, main_v522, main_v523, main_c_130, main_v524, main_v525, main_v526, main_v527, main_cst_131, main_v528, main_v529, main_v530, main_v531, main_v532, main_cst_132, main_v533, main_v534, main_v535, main_v536, main_v537, main_v538, main_v539]

/-- Cut 9 writes nothing else. -/
theorem cut9_writes : (cut 578 71 : List (HloOp τ sig (Elt F))).Forall fun op => op.writes ⊆ (cut9_W.map (Proc.devRef (τ := τ) .tc)).toFinset :=
  StableHlo.forall_writes_sub_of_map rfl

/-- Cut 9 leaves every other buffer as it was. -/
theorem cut9_keep (V : Valuation τ sig (Elt F)) (r : Ref sig .tc) (h : r ∉ cut9_W) :
    after (cut 578 71) V (Proc.devRef .tc r) = V (Proc.devRef .tc r) :=
  after_of_writes_sub _ V cut9_writes h

/-- What cut 10 writes. -/
abbrev cut10_W : List (Ref sig .tc) := [main_v540, main_v541, main_v542, main_v543, main_v544, main_v545, main_v546, main_v547, main_v548, main_v549, main_cst_133, main_v550, main_v551, main_v552, main_v553, main_v554, main_v555, main_v556, main_v557, main_cst_134, main_v558, main_v559, main_cst_135, main_v560, main_cst_136, main_v561, main_v562, main_v563, main_cst_137, main_v564, main_v565, main_cst_138, main_v566, main_v567, main_v568, main_v569, main_v570, main_v571, main_v572, main_v573, main_v574, main_v575, main_cst_139, main_v576, main_v577, main_values_140, main_indices_141, main_cst_142, main_v578, main_c_143, main_v579, main_v580, main_c_144, main_v581, main_v582, main_v583, main_v584, main_cst_145, main_v585, main_v586, main_v587, main_cst_146, main_v588, main_cst_147, main_v589, main_v590, main_v591]

/-- Cut 10 writes nothing else. -/
theorem cut10_writes : (cut 649 67 : List (HloOp τ sig (Elt F))).Forall fun op => op.writes ⊆ (cut10_W.map (Proc.devRef (τ := τ) .tc)).toFinset :=
  StableHlo.forall_writes_sub_of_map rfl

/-- Cut 10 leaves every other buffer as it was. -/
theorem cut10_keep (V : Valuation τ sig (Elt F)) (r : Ref sig .tc) (h : r ∉ cut10_W) :
    after (cut 649 67) V (Proc.devRef .tc r) = V (Proc.devRef .tc r) :=
  after_of_writes_sub _ V cut10_writes h

/-- The operations after the loop are the cuts in order. -/
theorem cuts : (hostOps0_1 : List (HloOp τ sig (Elt F))) = cut 0 10 ++ (cut 10 71 ++ (cut 81 71 ++ (cut 152 71 ++ (cut 223 71 ++ (cut 294 71 ++ (cut 365 71 ++ (cut 436 71 ++ (cut 507 71 ++ (cut 578 71 ++ (cut 649 67)))))))))) := rfl

end Cert.ReferenceIdeal.Steps

end
-- ==== Proof.Reference.Reads.lean ====
/- What each cut leaves: one layer's weights and dual variable from those before it. -/
module

public import proofs.«01_k».proof.Proof.Reference.Cuts

@[expose] public section

noncomputable section

namespace Cert.ReferenceIdeal.Steps

open Cert.ReferenceIdeal Cert.ReferenceIdeal.Gen
open Idealize.ShloMosaic Idealize.ShloMosaic.TcCoe Idealize.ShloMosaic.StableHlo

set_option maxRecDepth 9316
set_option maxHeartbeats 4000000

variable {F : FTy → Type} [FloatOps F]

/-- The first cut leaves the column means. -/
theorem cut0_w2 (V : Valuation τ sig (Elt F)) :
    after (cut 0 10) V (Proc.devRef .tc main_v26)
      = w2F (V (Proc.devRef .tc main_arg0)) (V (Proc.devRef .tc main_arg8)) (V (Proc.devRef .tc main_arg9)) := by
  unfold cut hostOps0_1
  simp only [List.drop_zero, List.take_succ_cons, List.take_zero]
  after_reads_simp
  rfl

/-- Layer 1's weights. -/
theorem layer0_z (V : Valuation τ sig (Elt F)) :
    after (cut 10 71) V (Proc.devRef .tc main_v74) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v0)) (V (Proc.devRef .tc main_v1)) := by
  unfold cut hostOps0_1
  simp only [List.drop_zero, List.drop_succ_cons, List.take_succ_cons, List.take_zero]
  after_reads_simp
  rfl

/-- Layer 1's dual variable. -/
theorem layer0_u (V : Valuation τ sig (Elt F)) :
    after (cut 10 71) V (Proc.devRef .tc main_v83)
      = uF (V (Proc.devRef .tc main_arg1)) (V (Proc.devRef .tc main_arg2)) (V (Proc.devRef .tc main_arg4)) (V (Proc.devRef .tc main_arg6)) (V (Proc.devRef .tc main_v18_5)) (V (Proc.devRef .tc main_v0)) (V (Proc.devRef .tc main_v1)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v0)) (V (Proc.devRef .tc main_v1))) := by
  unfold cut hostOps0_1
  simp only [List.drop_zero, List.drop_succ_cons, List.take_succ_cons, List.take_zero]
  after_reads_simp
  rfl

/-- Layer 2's weights. -/
theorem layer1_z (V : Valuation τ sig (Elt F)) :
    after (cut 81 71) V (Proc.devRef .tc main_v131) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v74)) (V (Proc.devRef .tc main_v83)) := by
  unfold cut hostOps0_1
  simp only [List.drop_zero, List.drop_succ_cons, List.take_succ_cons, List.take_zero]
  after_reads_simp
  rfl

/-- Layer 2's dual variable. -/
theorem layer1_u (V : Valuation τ sig (Elt F)) :
    after (cut 81 71) V (Proc.devRef .tc main_v140)
      = uF (V (Proc.devRef .tc main_arg1)) (V (Proc.devRef .tc main_arg2)) (V (Proc.devRef .tc main_arg4)) (V (Proc.devRef .tc main_arg6)) (V (Proc.devRef .tc main_v18_5)) (V (Proc.devRef .tc main_v74)) (V (Proc.devRef .tc main_v83)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v74)) (V (Proc.devRef .tc main_v83))) := by
  unfold cut hostOps0_1
  simp only [List.drop_zero, List.drop_succ_cons, List.take_succ_cons, List.take_zero]
  after_reads_simp
  rfl

/-- Layer 3's weights. -/
theorem layer2_z (V : Valuation τ sig (Elt F)) :
    after (cut 152 71) V (Proc.devRef .tc main_v188) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v131)) (V (Proc.devRef .tc main_v140)) := by
  unfold cut hostOps0_1
  simp only [List.drop_zero, List.drop_succ_cons, List.take_succ_cons, List.take_zero]
  after_reads_simp
  rfl

/-- Layer 3's dual variable. -/
theorem layer2_u (V : Valuation τ sig (Elt F)) :
    after (cut 152 71) V (Proc.devRef .tc main_v197)
      = uF (V (Proc.devRef .tc main_arg1)) (V (Proc.devRef .tc main_arg2)) (V (Proc.devRef .tc main_arg4)) (V (Proc.devRef .tc main_arg6)) (V (Proc.devRef .tc main_v18_5)) (V (Proc.devRef .tc main_v131)) (V (Proc.devRef .tc main_v140)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v131)) (V (Proc.devRef .tc main_v140))) := by
  unfold cut hostOps0_1
  simp only [List.drop_zero, List.drop_succ_cons, List.take_succ_cons, List.take_zero]
  after_reads_simp
  rfl

/-- Layer 4's weights. -/
theorem layer3_z (V : Valuation τ sig (Elt F)) :
    after (cut 223 71) V (Proc.devRef .tc main_v245) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v188)) (V (Proc.devRef .tc main_v197)) := by
  unfold cut hostOps0_1
  simp only [List.drop_zero, List.drop_succ_cons, List.take_succ_cons, List.take_zero]
  after_reads_simp
  rfl

/-- Layer 4's dual variable. -/
theorem layer3_u (V : Valuation τ sig (Elt F)) :
    after (cut 223 71) V (Proc.devRef .tc main_v254)
      = uF (V (Proc.devRef .tc main_arg1)) (V (Proc.devRef .tc main_arg2)) (V (Proc.devRef .tc main_arg4)) (V (Proc.devRef .tc main_arg6)) (V (Proc.devRef .tc main_v18_5)) (V (Proc.devRef .tc main_v188)) (V (Proc.devRef .tc main_v197)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v188)) (V (Proc.devRef .tc main_v197))) := by
  unfold cut hostOps0_1
  simp only [List.drop_zero, List.drop_succ_cons, List.take_succ_cons, List.take_zero]
  after_reads_simp
  rfl

/-- Layer 5's weights. -/
theorem layer4_z (V : Valuation τ sig (Elt F)) :
    after (cut 294 71) V (Proc.devRef .tc main_v302) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v245)) (V (Proc.devRef .tc main_v254)) := by
  unfold cut hostOps0_1
  simp only [List.drop_zero, List.drop_succ_cons, List.take_succ_cons, List.take_zero]
  after_reads_simp
  rfl

/-- Layer 5's dual variable. -/
theorem layer4_u (V : Valuation τ sig (Elt F)) :
    after (cut 294 71) V (Proc.devRef .tc main_v311)
      = uF (V (Proc.devRef .tc main_arg1)) (V (Proc.devRef .tc main_arg2)) (V (Proc.devRef .tc main_arg4)) (V (Proc.devRef .tc main_arg6)) (V (Proc.devRef .tc main_v18_5)) (V (Proc.devRef .tc main_v245)) (V (Proc.devRef .tc main_v254)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v245)) (V (Proc.devRef .tc main_v254))) := by
  unfold cut hostOps0_1
  simp only [List.drop_zero, List.drop_succ_cons, List.take_succ_cons, List.take_zero]
  after_reads_simp
  rfl

/-- Layer 6's weights. -/
theorem layer5_z (V : Valuation τ sig (Elt F)) :
    after (cut 365 71) V (Proc.devRef .tc main_v359) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v302)) (V (Proc.devRef .tc main_v311)) := by
  unfold cut hostOps0_1
  simp only [List.drop_zero, List.drop_succ_cons, List.take_succ_cons, List.take_zero]
  after_reads_simp
  rfl

/-- Layer 6's dual variable. -/
theorem layer5_u (V : Valuation τ sig (Elt F)) :
    after (cut 365 71) V (Proc.devRef .tc main_v368)
      = uF (V (Proc.devRef .tc main_arg1)) (V (Proc.devRef .tc main_arg2)) (V (Proc.devRef .tc main_arg4)) (V (Proc.devRef .tc main_arg6)) (V (Proc.devRef .tc main_v18_5)) (V (Proc.devRef .tc main_v302)) (V (Proc.devRef .tc main_v311)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v302)) (V (Proc.devRef .tc main_v311))) := by
  unfold cut hostOps0_1
  simp only [List.drop_zero, List.drop_succ_cons, List.take_succ_cons, List.take_zero]
  after_reads_simp
  rfl

/-- Layer 7's weights. -/
theorem layer6_z (V : Valuation τ sig (Elt F)) :
    after (cut 436 71) V (Proc.devRef .tc main_v416) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v359)) (V (Proc.devRef .tc main_v368)) := by
  unfold cut hostOps0_1
  simp only [List.drop_zero, List.drop_succ_cons, List.take_succ_cons, List.take_zero]
  after_reads_simp
  rfl

/-- Layer 7's dual variable. -/
theorem layer6_u (V : Valuation τ sig (Elt F)) :
    after (cut 436 71) V (Proc.devRef .tc main_v425)
      = uF (V (Proc.devRef .tc main_arg1)) (V (Proc.devRef .tc main_arg2)) (V (Proc.devRef .tc main_arg4)) (V (Proc.devRef .tc main_arg6)) (V (Proc.devRef .tc main_v18_5)) (V (Proc.devRef .tc main_v359)) (V (Proc.devRef .tc main_v368)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v359)) (V (Proc.devRef .tc main_v368))) := by
  unfold cut hostOps0_1
  simp only [List.drop_zero, List.drop_succ_cons, List.take_succ_cons, List.take_zero]
  after_reads_simp
  rfl

/-- Layer 8's weights. -/
theorem layer7_z (V : Valuation τ sig (Elt F)) :
    after (cut 507 71) V (Proc.devRef .tc main_v473) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v416)) (V (Proc.devRef .tc main_v425)) := by
  unfold cut hostOps0_1
  simp only [List.drop_zero, List.drop_succ_cons, List.take_succ_cons, List.take_zero]
  after_reads_simp
  rfl

/-- Layer 8's dual variable. -/
theorem layer7_u (V : Valuation τ sig (Elt F)) :
    after (cut 507 71) V (Proc.devRef .tc main_v482)
      = uF (V (Proc.devRef .tc main_arg1)) (V (Proc.devRef .tc main_arg2)) (V (Proc.devRef .tc main_arg4)) (V (Proc.devRef .tc main_arg6)) (V (Proc.devRef .tc main_v18_5)) (V (Proc.devRef .tc main_v416)) (V (Proc.devRef .tc main_v425)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v416)) (V (Proc.devRef .tc main_v425))) := by
  unfold cut hostOps0_1
  simp only [List.drop_zero, List.drop_succ_cons, List.take_succ_cons, List.take_zero]
  after_reads_simp
  rfl

/-- Layer 9's weights. -/
theorem layer8_z (V : Valuation τ sig (Elt F)) :
    after (cut 578 71) V (Proc.devRef .tc main_v530) = zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v473)) (V (Proc.devRef .tc main_v482)) := by
  unfold cut hostOps0_1
  simp only [List.drop_zero, List.drop_succ_cons, List.take_succ_cons, List.take_zero]
  after_reads_simp
  rfl

/-- Layer 9's dual variable. -/
theorem layer8_u (V : Valuation τ sig (Elt F)) :
    after (cut 578 71) V (Proc.devRef .tc main_v539)
      = uF (V (Proc.devRef .tc main_arg1)) (V (Proc.devRef .tc main_arg2)) (V (Proc.devRef .tc main_arg4)) (V (Proc.devRef .tc main_arg6)) (V (Proc.devRef .tc main_v18_5)) (V (Proc.devRef .tc main_v473)) (V (Proc.devRef .tc main_v482)) (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v473)) (V (Proc.devRef .tc main_v482))) := by
  unfold cut hostOps0_1
  simp only [List.drop_zero, List.drop_succ_cons, List.take_succ_cons, List.take_zero]
  after_reads_simp
  rfl

/-- The last layer's weights, scaled. -/
theorem last (V : Valuation τ sig (Elt F)) :
    after (cut 649 67) V (Proc.devRef .tc main_v591) = scaleF (zF (V (Proc.devRef .tc main_arg1)) (V (Proc.devRef .tc main_arg2)) (V (Proc.devRef .tc main_v26)) (V (Proc.devRef .tc main_arg4)) (V (Proc.devRef .tc main_arg5)) (V (Proc.devRef .tc main_arg6)) (V (Proc.devRef .tc main_arg7)) (V (Proc.devRef .tc main_v18_5)) (V (Proc.devRef .tc main_v530)) (V (Proc.devRef .tc main_v539))) := by
  unfold cut hostOps0_1
  simp only [List.drop_zero, List.drop_succ_cons, List.take_succ_cons, List.take_nil]
  after_reads_simp
  rfl

end Cert.ReferenceIdeal.Steps

end
-- ==== Proof.Reference.Final.lean ====
/- The reference's result and its arguments at the end. -/
module

public import proofs.«01_k».proof.Proof.Reference.Loop
public import proofs.«01_k».proof.Proof.Reference.Reads

@[expose] public section

noncomputable section

namespace Cert.ReferenceIdeal.Steps

open Cert.ReferenceIdeal Cert.ReferenceIdeal.Gen
open Idealize.ShloMosaic Idealize.ShloMosaic.TcCoe Idealize.ShloMosaic.StableHlo

open Cert.ReferenceIdeal.Value

set_option maxRecDepth 9316

variable {F : FTy → Type} [FloatOps F]

/-- The arguments the layers read. -/
structure Inputs (F : FTy → Type) [FloatOps F] where
  /-- the constraint rows -/
  q : Vec F S64x471 .f32
  /-- the base weights -/
  w : Vec F S471 .f32
  /-- the column means -/
  w2 : Vec F S471 .f32
  /-- the multiplier's factor -/
  al : Vec F S1 .f32
  /-- the penalty's factor -/
  lam : Vec F S1 .f32
  /-- the coupling's factor -/
  rho : Vec F S1 .f32
  /-- the step size -/
  mu : Vec F S1 .f32
  /-- the inverse -/
  inv : Vec F S64x64 .f32

/-- The weights and the dual variable after `k` layers. -/
def layersF (I : Inputs F) : ℕ → Vec F S471 .f32 × Vec F S471 .f32
  | 0 => (broadcastInDim S471 ![] bcast_S_S471 (constant S_ .f32 0x00000000#32),
          broadcastInDim S471 ![] bcast_S_S471 (constant S_ .f32 0x00000000#32))
  | k + 1 =>
    (zF I.q I.w I.w2 I.al I.lam I.rho I.mu I.inv (layersF I k).1 (layersF I k).2,
     uF I.q I.w I.al I.rho I.inv (layersF I k).1 (layersF I k).2
       (zF I.q I.w I.w2 I.al I.lam I.rho I.mu I.inv (layersF I k).1 (layersF I k).2))

/-- The buffers every layer reads hold the given inputs. -/
structure Holds (I : Inputs F) (V : Valuation τ sig (Elt F)) : Prop where
  /-- the buffer of `q` -/
  q : V (Proc.devRef .tc main_arg1) = I.q
  /-- the buffer of `w` -/
  w : V (Proc.devRef .tc main_arg2) = I.w
  /-- the buffer of `al` -/
  al : V (Proc.devRef .tc main_arg4) = I.al
  /-- the buffer of `lam` -/
  lam : V (Proc.devRef .tc main_arg5) = I.lam
  /-- the buffer of `rho` -/
  rho : V (Proc.devRef .tc main_arg6) = I.rho
  /-- the buffer of `mu` -/
  mu : V (Proc.devRef .tc main_arg7) = I.mu
  /-- the buffer of `inv` -/
  inv : V (Proc.devRef .tc main_v18_5) = I.inv
  /-- the buffer of `w2` -/
  w2 : V (Proc.devRef .tc main_v26) = I.w2

/-- Layer 1 leaves the inputs alone. -/
theorem holds0 {I : Inputs F} {V : Valuation τ sig (Elt F)} (h : Holds I V) : Holds I (after (cut 10 71) V) where
  q := (cut1_keep V main_arg1 (by decide)).trans h.q
  w := (cut1_keep V main_arg2 (by decide)).trans h.w
  al := (cut1_keep V main_arg4 (by decide)).trans h.al
  lam := (cut1_keep V main_arg5 (by decide)).trans h.lam
  rho := (cut1_keep V main_arg6 (by decide)).trans h.rho
  mu := (cut1_keep V main_arg7 (by decide)).trans h.mu
  inv := (cut1_keep V main_v18_5 (by decide)).trans h.inv
  w2 := (cut1_keep V main_v26 (by decide)).trans h.w2

/-- Layer 1, from the pair after 0 layers to the pair after 1. -/
theorem pair0 {I : Inputs F} {V : Valuation τ sig (Elt F)} (h : Holds I V)
    (hz : V (Proc.devRef .tc main_v0) = (layersF I 0).1) (hu : V (Proc.devRef .tc main_v1) = (layersF I 0).2) :
    after (cut 10 71) V (Proc.devRef .tc main_v74) = (layersF I 1).1
    ∧ after (cut 10 71) V (Proc.devRef .tc main_v83) = (layersF I 1).2 := by
  rw [layer0_z, layer0_u, h.q, h.w, h.w2, h.al, h.lam, h.rho, h.mu, h.inv, hz, hu]
  exact ⟨rfl, rfl⟩

/-- Layer 2 leaves the inputs alone. -/
theorem holds1 {I : Inputs F} {V : Valuation τ sig (Elt F)} (h : Holds I V) : Holds I (after (cut 81 71) V) where
  q := (cut2_keep V main_arg1 (by decide)).trans h.q
  w := (cut2_keep V main_arg2 (by decide)).trans h.w
  al := (cut2_keep V main_arg4 (by decide)).trans h.al
  lam := (cut2_keep V main_arg5 (by decide)).trans h.lam
  rho := (cut2_keep V main_arg6 (by decide)).trans h.rho
  mu := (cut2_keep V main_arg7 (by decide)).trans h.mu
  inv := (cut2_keep V main_v18_5 (by decide)).trans h.inv
  w2 := (cut2_keep V main_v26 (by decide)).trans h.w2

/-- Layer 2, from the pair after 1 layers to the pair after 2. -/
theorem pair1 {I : Inputs F} {V : Valuation τ sig (Elt F)} (h : Holds I V)
    (hz : V (Proc.devRef .tc main_v74) = (layersF I 1).1) (hu : V (Proc.devRef .tc main_v83) = (layersF I 1).2) :
    after (cut 81 71) V (Proc.devRef .tc main_v131) = (layersF I 2).1
    ∧ after (cut 81 71) V (Proc.devRef .tc main_v140) = (layersF I 2).2 := by
  rw [layer1_z, layer1_u, h.q, h.w, h.w2, h.al, h.lam, h.rho, h.mu, h.inv, hz, hu]
  exact ⟨rfl, rfl⟩

/-- Layer 3 leaves the inputs alone. -/
theorem holds2 {I : Inputs F} {V : Valuation τ sig (Elt F)} (h : Holds I V) : Holds I (after (cut 152 71) V) where
  q := (cut3_keep V main_arg1 (by decide)).trans h.q
  w := (cut3_keep V main_arg2 (by decide)).trans h.w
  al := (cut3_keep V main_arg4 (by decide)).trans h.al
  lam := (cut3_keep V main_arg5 (by decide)).trans h.lam
  rho := (cut3_keep V main_arg6 (by decide)).trans h.rho
  mu := (cut3_keep V main_arg7 (by decide)).trans h.mu
  inv := (cut3_keep V main_v18_5 (by decide)).trans h.inv
  w2 := (cut3_keep V main_v26 (by decide)).trans h.w2

/-- Layer 3, from the pair after 2 layers to the pair after 3. -/
theorem pair2 {I : Inputs F} {V : Valuation τ sig (Elt F)} (h : Holds I V)
    (hz : V (Proc.devRef .tc main_v131) = (layersF I 2).1) (hu : V (Proc.devRef .tc main_v140) = (layersF I 2).2) :
    after (cut 152 71) V (Proc.devRef .tc main_v188) = (layersF I 3).1
    ∧ after (cut 152 71) V (Proc.devRef .tc main_v197) = (layersF I 3).2 := by
  rw [layer2_z, layer2_u, h.q, h.w, h.w2, h.al, h.lam, h.rho, h.mu, h.inv, hz, hu]
  exact ⟨rfl, rfl⟩

/-- Layer 4 leaves the inputs alone. -/
theorem holds3 {I : Inputs F} {V : Valuation τ sig (Elt F)} (h : Holds I V) : Holds I (after (cut 223 71) V) where
  q := (cut4_keep V main_arg1 (by decide)).trans h.q
  w := (cut4_keep V main_arg2 (by decide)).trans h.w
  al := (cut4_keep V main_arg4 (by decide)).trans h.al
  lam := (cut4_keep V main_arg5 (by decide)).trans h.lam
  rho := (cut4_keep V main_arg6 (by decide)).trans h.rho
  mu := (cut4_keep V main_arg7 (by decide)).trans h.mu
  inv := (cut4_keep V main_v18_5 (by decide)).trans h.inv
  w2 := (cut4_keep V main_v26 (by decide)).trans h.w2

/-- Layer 4, from the pair after 3 layers to the pair after 4. -/
theorem pair3 {I : Inputs F} {V : Valuation τ sig (Elt F)} (h : Holds I V)
    (hz : V (Proc.devRef .tc main_v188) = (layersF I 3).1) (hu : V (Proc.devRef .tc main_v197) = (layersF I 3).2) :
    after (cut 223 71) V (Proc.devRef .tc main_v245) = (layersF I 4).1
    ∧ after (cut 223 71) V (Proc.devRef .tc main_v254) = (layersF I 4).2 := by
  rw [layer3_z, layer3_u, h.q, h.w, h.w2, h.al, h.lam, h.rho, h.mu, h.inv, hz, hu]
  exact ⟨rfl, rfl⟩

/-- Layer 5 leaves the inputs alone. -/
theorem holds4 {I : Inputs F} {V : Valuation τ sig (Elt F)} (h : Holds I V) : Holds I (after (cut 294 71) V) where
  q := (cut5_keep V main_arg1 (by decide)).trans h.q
  w := (cut5_keep V main_arg2 (by decide)).trans h.w
  al := (cut5_keep V main_arg4 (by decide)).trans h.al
  lam := (cut5_keep V main_arg5 (by decide)).trans h.lam
  rho := (cut5_keep V main_arg6 (by decide)).trans h.rho
  mu := (cut5_keep V main_arg7 (by decide)).trans h.mu
  inv := (cut5_keep V main_v18_5 (by decide)).trans h.inv
  w2 := (cut5_keep V main_v26 (by decide)).trans h.w2

/-- Layer 5, from the pair after 4 layers to the pair after 5. -/
theorem pair4 {I : Inputs F} {V : Valuation τ sig (Elt F)} (h : Holds I V)
    (hz : V (Proc.devRef .tc main_v245) = (layersF I 4).1) (hu : V (Proc.devRef .tc main_v254) = (layersF I 4).2) :
    after (cut 294 71) V (Proc.devRef .tc main_v302) = (layersF I 5).1
    ∧ after (cut 294 71) V (Proc.devRef .tc main_v311) = (layersF I 5).2 := by
  rw [layer4_z, layer4_u, h.q, h.w, h.w2, h.al, h.lam, h.rho, h.mu, h.inv, hz, hu]
  exact ⟨rfl, rfl⟩

/-- Layer 6 leaves the inputs alone. -/
theorem holds5 {I : Inputs F} {V : Valuation τ sig (Elt F)} (h : Holds I V) : Holds I (after (cut 365 71) V) where
  q := (cut6_keep V main_arg1 (by decide)).trans h.q
  w := (cut6_keep V main_arg2 (by decide)).trans h.w
  al := (cut6_keep V main_arg4 (by decide)).trans h.al
  lam := (cut6_keep V main_arg5 (by decide)).trans h.lam
  rho := (cut6_keep V main_arg6 (by decide)).trans h.rho
  mu := (cut6_keep V main_arg7 (by decide)).trans h.mu
  inv := (cut6_keep V main_v18_5 (by decide)).trans h.inv
  w2 := (cut6_keep V main_v26 (by decide)).trans h.w2

/-- Layer 6, from the pair after 5 layers to the pair after 6. -/
theorem pair5 {I : Inputs F} {V : Valuation τ sig (Elt F)} (h : Holds I V)
    (hz : V (Proc.devRef .tc main_v302) = (layersF I 5).1) (hu : V (Proc.devRef .tc main_v311) = (layersF I 5).2) :
    after (cut 365 71) V (Proc.devRef .tc main_v359) = (layersF I 6).1
    ∧ after (cut 365 71) V (Proc.devRef .tc main_v368) = (layersF I 6).2 := by
  rw [layer5_z, layer5_u, h.q, h.w, h.w2, h.al, h.lam, h.rho, h.mu, h.inv, hz, hu]
  exact ⟨rfl, rfl⟩

/-- Layer 7 leaves the inputs alone. -/
theorem holds6 {I : Inputs F} {V : Valuation τ sig (Elt F)} (h : Holds I V) : Holds I (after (cut 436 71) V) where
  q := (cut7_keep V main_arg1 (by decide)).trans h.q
  w := (cut7_keep V main_arg2 (by decide)).trans h.w
  al := (cut7_keep V main_arg4 (by decide)).trans h.al
  lam := (cut7_keep V main_arg5 (by decide)).trans h.lam
  rho := (cut7_keep V main_arg6 (by decide)).trans h.rho
  mu := (cut7_keep V main_arg7 (by decide)).trans h.mu
  inv := (cut7_keep V main_v18_5 (by decide)).trans h.inv
  w2 := (cut7_keep V main_v26 (by decide)).trans h.w2

/-- Layer 7, from the pair after 6 layers to the pair after 7. -/
theorem pair6 {I : Inputs F} {V : Valuation τ sig (Elt F)} (h : Holds I V)
    (hz : V (Proc.devRef .tc main_v359) = (layersF I 6).1) (hu : V (Proc.devRef .tc main_v368) = (layersF I 6).2) :
    after (cut 436 71) V (Proc.devRef .tc main_v416) = (layersF I 7).1
    ∧ after (cut 436 71) V (Proc.devRef .tc main_v425) = (layersF I 7).2 := by
  rw [layer6_z, layer6_u, h.q, h.w, h.w2, h.al, h.lam, h.rho, h.mu, h.inv, hz, hu]
  exact ⟨rfl, rfl⟩

/-- Layer 8 leaves the inputs alone. -/
theorem holds7 {I : Inputs F} {V : Valuation τ sig (Elt F)} (h : Holds I V) : Holds I (after (cut 507 71) V) where
  q := (cut8_keep V main_arg1 (by decide)).trans h.q
  w := (cut8_keep V main_arg2 (by decide)).trans h.w
  al := (cut8_keep V main_arg4 (by decide)).trans h.al
  lam := (cut8_keep V main_arg5 (by decide)).trans h.lam
  rho := (cut8_keep V main_arg6 (by decide)).trans h.rho
  mu := (cut8_keep V main_arg7 (by decide)).trans h.mu
  inv := (cut8_keep V main_v18_5 (by decide)).trans h.inv
  w2 := (cut8_keep V main_v26 (by decide)).trans h.w2

/-- Layer 8, from the pair after 7 layers to the pair after 8. -/
theorem pair7 {I : Inputs F} {V : Valuation τ sig (Elt F)} (h : Holds I V)
    (hz : V (Proc.devRef .tc main_v416) = (layersF I 7).1) (hu : V (Proc.devRef .tc main_v425) = (layersF I 7).2) :
    after (cut 507 71) V (Proc.devRef .tc main_v473) = (layersF I 8).1
    ∧ after (cut 507 71) V (Proc.devRef .tc main_v482) = (layersF I 8).2 := by
  rw [layer7_z, layer7_u, h.q, h.w, h.w2, h.al, h.lam, h.rho, h.mu, h.inv, hz, hu]
  exact ⟨rfl, rfl⟩

/-- Layer 9 leaves the inputs alone. -/
theorem holds8 {I : Inputs F} {V : Valuation τ sig (Elt F)} (h : Holds I V) : Holds I (after (cut 578 71) V) where
  q := (cut9_keep V main_arg1 (by decide)).trans h.q
  w := (cut9_keep V main_arg2 (by decide)).trans h.w
  al := (cut9_keep V main_arg4 (by decide)).trans h.al
  lam := (cut9_keep V main_arg5 (by decide)).trans h.lam
  rho := (cut9_keep V main_arg6 (by decide)).trans h.rho
  mu := (cut9_keep V main_arg7 (by decide)).trans h.mu
  inv := (cut9_keep V main_v18_5 (by decide)).trans h.inv
  w2 := (cut9_keep V main_v26 (by decide)).trans h.w2

/-- Layer 9, from the pair after 8 layers to the pair after 9. -/
theorem pair8 {I : Inputs F} {V : Valuation τ sig (Elt F)} (h : Holds I V)
    (hz : V (Proc.devRef .tc main_v473) = (layersF I 8).1) (hu : V (Proc.devRef .tc main_v482) = (layersF I 8).2) :
    after (cut 578 71) V (Proc.devRef .tc main_v530) = (layersF I 9).1
    ∧ after (cut 578 71) V (Proc.devRef .tc main_v539) = (layersF I 9).2 := by
  rw [layer8_z, layer8_u, h.q, h.w, h.w2, h.al, h.lam, h.rho, h.mu, h.inv, hz, hu]
  exact ⟨rfl, rfl⟩

/-- The result after the cuts, from any contents holding the inputs and the zero start. -/
theorem result_of_cuts {I : Inputs F} {V : Valuation τ sig (Elt F)} (h : Holds I V)
    (hz : V (Proc.devRef .tc main_v0) = (layersF I 0).1) (hu : V (Proc.devRef .tc main_v1) = (layersF I 0).2) :
    after (cut 649 67) (after (cut 578 71) (after (cut 507 71) (after (cut 436 71) (after (cut 365 71) (after (cut 294 71) (after (cut 223 71) (after (cut 152 71) (after (cut 81 71) (after (cut 10 71) (V)))))))))) (Proc.devRef .tc main_v591)
      = scaleF (layersF I 10).1 := by
  have h0 := h
  have p0 := And.intro hz hu
  have h1 := holds0 h0
  have p1 := pair0 h0 p0.1 p0.2
  have h2 := holds1 h1
  have p2 := pair1 h1 p1.1 p1.2
  have h3 := holds2 h2
  have p3 := pair2 h2 p2.1 p2.2
  have h4 := holds3 h3
  have p4 := pair3 h3 p3.1 p3.2
  have h5 := holds4 h4
  have p5 := pair4 h4 p4.1 p4.2
  have h6 := holds5 h5
  have p6 := pair5 h5 p5.1 p5.2
  have h7 := holds6 h6
  have p7 := pair6 h6 p6.1 p6.2
  have h8 := holds7 h7
  have p8 := pair7 h7 p7.1 p7.2
  have h9 := holds8 h8
  have p9 := pair8 h8 p8.1 p8.2
  rw [last, h9.q, h9.w, h9.w2, h9.al, h9.lam, h9.rho, h9.mu, h9.inv, p9.1, p9.2]
  rfl

variable (m : (ℓ : Loc nD τ sig) → Buf (Elt F) ℓ) (c : Dev nD)

/-- The inputs of the layers, from the arguments. -/
def inputs : Inputs F where
  q := launchContents m c (Proc.devRef .tc main_arg1)
  w := launchContents m c (Proc.devRef .tc main_arg2)
  w2 := w2F (launchContents m c (Proc.devRef .tc main_arg0)) (launchContents m c (Proc.devRef .tc main_arg8)) (launchContents m c (Proc.devRef .tc main_arg9))
  al := launchContents m c (Proc.devRef .tc main_arg4)
  lam := launchContents m c (Proc.devRef .tc main_arg5)
  rho := launchContents m c (Proc.devRef .tc main_arg6)
  mu := launchContents m c (Proc.devRef .tc main_arg7)
  inv := seriesF (gramF (launchContents m c (Proc.devRef .tc main_arg1))) 65536

/-- A buffer written neither before the loop nor in it holds its launch contents after it. -/
theorem exit_launch (r : Ref sig .tc) (h : r ∉ hostOps0_W) (h' : r ∉ while0Ops0_W) (h'' : r ∉ condOps_W) :
    exitContents m c (Proc.devRef .tc r) = launchContents m c (Proc.devRef .tc r) :=
  (exit_keep m c r h' h'').trans (entry_keep m c r h)

/-- After the preparation the layers' buffers hold the inputs. -/
theorem holds_start : Holds (inputs m c) (after (cut 0 10) (exitContents m c)) where
  q := (cut0_keep _ main_arg1 (by decide)).trans (exit_launch m c main_arg1 (by decide) (by decide) (by decide))
  w := (cut0_keep _ main_arg2 (by decide)).trans (exit_launch m c main_arg2 (by decide) (by decide) (by decide))
  al := (cut0_keep _ main_arg4 (by decide)).trans (exit_launch m c main_arg4 (by decide) (by decide) (by decide))
  lam := (cut0_keep _ main_arg5 (by decide)).trans (exit_launch m c main_arg5 (by decide) (by decide) (by decide))
  rho := (cut0_keep _ main_arg6 (by decide)).trans (exit_launch m c main_arg6 (by decide) (by decide) (by decide))
  mu := (cut0_keep _ main_arg7 (by decide)).trans (exit_launch m c main_arg7 (by decide) (by decide) (by decide))
  inv := (cut0_keep _ main_v18_5 (by decide)).trans (exit_p m c)
  w2 := by
    rw [cut0_w2, exit_launch m c main_arg0 (by decide) (by decide) (by decide), exit_launch m c main_arg8 (by decide) (by decide) (by decide),
      exit_launch m c main_arg9 (by decide) (by decide) (by decide)]
    rfl

/-- The result buffer at the end. -/
theorem final_result : finalContents condOps preI bodyI postI 65536 m c (Proc.devRef .tc main_v591)
    = scaleF (layersF (inputs m c) 10).1 := by
  show after hostOps0_1 (exitContents m c) (Proc.devRef .tc main_v591) = _
  rw [cuts]
  simp only [after_append]
  exact result_of_cuts (holds_start m c)
    ((cut0_keep _ main_v0 (by decide)).trans ((exit_keep m c main_v0 (by decide) (by decide)).trans (entry_z m c)))
    ((cut0_keep _ main_v1 (by decide)).trans ((exit_keep m c main_v1 (by decide) (by decide)).trans (entry_u m c)))

/-- A buffer nothing writes holds its launch contents at the end. -/
theorem final_keep (r : Ref sig .tc) (h : r ∉ hostOps0_W) (h' : r ∉ while0Ops0_W) (h'' : r ∉ condOps_W)
    (h0 : r ∉ cut0_W)
    (h1 : r ∉ cut1_W)
    (h2 : r ∉ cut2_W)
    (h3 : r ∉ cut3_W)
    (h4 : r ∉ cut4_W)
    (h5 : r ∉ cut5_W)
    (h6 : r ∉ cut6_W)
    (h7 : r ∉ cut7_W)
    (h8 : r ∉ cut8_W)
    (h9 : r ∉ cut9_W)
    (h10 : r ∉ cut10_W) :
    finalContents condOps preI bodyI postI 65536 m c (Proc.devRef .tc r) = launchContents m c (Proc.devRef .tc r) := by
  show after hostOps0_1 (exitContents m c) (Proc.devRef .tc r) = _
  rw [cuts]
  simp only [after_append]
  rw [cut10_keep _ r h10, cut9_keep _ r h9, cut8_keep _ r h8, cut7_keep _ r h7, cut6_keep _ r h6, cut5_keep _ r h5, cut4_keep _ r h4, cut3_keep _ r h3, cut2_keep _ r h2, cut1_keep _ r h1, cut0_keep _ r h0, exit_launch m c r h h' h'']

/-- Every run of the reference ends with the result and with the arguments unchanged. -/
theorem run (ρ : Dev nD → PrngReg) : θ_run (defs (F := F)) (onTc (τ := τ) (main (F := F))) ⟨m, fun _ => 0, ρ⟩
    (fun r => ∀ c : Dev nD, r.2.mem ((c.tc : Thread nD τ).loc main_v591) = scaleF (layersF (inputs m c) 10).1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun _ h c => ⟨(h c main_v591 rfl).trans (final_result m c),
    (h c main_arg0 rfl).trans (final_keep m c main_arg0 (by decide) (by decide) (by decide) (by decide) (by decide) (by decide) (by decide) (by decide) (by decide) (by decide) (by decide) (by decide) (by decide) (by decide)),
    (h c main_arg1 rfl).trans (final_keep m c main_arg1 (by decide) (by decide) (by decide) (by decide) (by decide) (by decide) (by decide) (by decide) (by decide) (by decide) (by decide) (by decide) (by decide) (by decide)),
    (h c main_arg2 rfl).trans (final_keep m c main_arg2 (by decide) (by decide) (by decide) (by decide) (by decide) (by decide) (by decide) (by decide) (by decide) (by decide) (by decide) (by decide) (by decide) (by decide)),
    (h c main_arg3 rfl).trans (final_keep m c main_arg3 (by decide) (by decide) (by decide) (by decide) (by decide) (by decide) (by decide) (by decide) (by decide) (by decide) (by decide) (by decide) (by decide) (by decide)),
    (h c main_arg4 rfl).trans (final_keep m c main_arg4 (by decide) (by decide) (by decide) (by decide) (by decide) (by decide) (by decide) (by decide) (by decide) (by decide) (by decide) (by decide) (by decide) (by decide)),
    (h c main_arg5 rfl).trans (final_keep m c main_arg5 (by decide) (by decide) (by decide) (by decide) (by decide) (by decide) (by decide) (by decide) (by decide) (by decide) (by decide) (by decide) (by decide) (by decide)),
    (h c main_arg6 rfl).trans (final_keep m c main_arg6 (by decide) (by decide) (by decide) (by decide) (by decide) (by decide) (by decide) (by decide) (by decide) (by decide) (by decide) (by decide) (by decide) (by decide)),
    (h c main_arg7 rfl).trans (final_keep m c main_arg7 (by decide) (by decide) (by decide) (by decide) (by decide) (by decide) (by decide) (by decide) (by decide) (by decide) (by decide) (by decide) (by decide) (by decide)),
    (h c main_arg8 rfl).trans (final_keep m c main_arg8 (by decide) (by decide) (by decide) (by decide) (by decide) (by decide) (by decide) (by decide) (by decide) (by decide) (by decide) (by decide) (by decide) (by decide)),
    (h c main_arg9 rfl).trans (final_keep m c main_arg9 (by decide) (by decide) (by decide) (by decide) (by decide) (by decide) (by decide) (by decide) (by decide) (by decide) (by decide) (by decide) (by decide) (by decide))⟩) (run_fold m ρ)

/-- The reference's frame. -/
theorem frame (ρ : Dev nD → PrngReg) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨fun c => (h c).2, sem_eq_zero_of_no_sems (by decide) r.2⟩) (run m ρ)

end Cert.ReferenceIdeal.Steps

end
-- ==== Proof.Pre.Facts.lean ====
/- The side conditions of the precondition's operations. -/
module

public import proofs.«01_k».proof.Pre_finite_and_untied

@[expose] public section

namespace Cert.Pre_finite_and_untied.Sides

open Cert.Pre_finite_and_untied Idealize.ShloMosaic

/-- Each is a check of small shapes. -/
instance facts : Cert.Pre_finite_and_untied.Facts where
  transposes_S64x471_S471x64_1_0 := by decide
  reducesTo_S64x64_S64_d1 := by decide
  h_S_ := by decide
  reducesTo_S64_S_d0 := by decide
  bcast_S_S64x64 := by decide
  transposes_S471x471_S471x471_1_0 := by decide
  bcast_S471_S1x471_1 := by decide
  bcast_S1x471_S4096x471_0_1 := by decide
  reducesTo_S4096x471_S471_d0 := by decide
  bcast_S_S471 := by decide
  bcast_S1_S471_0 := by decide
  bcast_S1_S64_0 := by decide
  bcast_S_S1 := by decide
  reducesTo_S471_S_d0 := by decide
  sliceFits_S471_S51 := by decide
  slices_S51_S1_49 := by decide
  shapeCasts_S1_S_ := by decide
  slices_S51_S1_50 := by decide
  sliceFits_S471_S50 := by decide
  bcast_S_S50 := by decide
  bcast_S50_S50x1_0 := by decide
  bcast_S_S4096x471 := by decide
  bcast_S_S64x471 := by decide
  bcast_S_S471x471 := by decide
  dot_S64x471_S471x64_S64x64_1_0_0_1_n_n_wf := by decide
  dot_S64x64_S64x64_S64x64_1_0_0_1_n_n_wf := by decide
  dot_S4096x471_S471x471_S4096x471_1_0_0_1_n_n_wf := by decide
  dot_S64x471_S471_S64_1_0_0_n_n_n_wf := by decide
  dot_S64x64_S64_S64_1_0_0_n_n_n_wf := by decide
  dot_S471x64_S64_S471_1_0_0_n_n_n_wf := by decide
  scatter_S471_S50x1_S50_n_0_0_1_wf := by decide

end Cert.Pre_finite_and_untied.Sides

end
-- ==== Proof.Value.Sort.lean ====
/- The order in which the reference's top-k lists the entries of a vector. -/
module

public import proofs.«01_k».proof.Proof.Reference.Layer
public import Idealize.ShloMosaic.Lib.SortFacts
public import Idealize.ShloMosaic.Lib.Pointwise
public import Idealize.ShloMosaic.PureOps.Ideal.Laws

@[expose] public section

noncomputable section

namespace Cert.Value

open Cert.ReferenceIdeal Cert.ReferenceIdeal.Gen Cert.ReferenceIdeal.Steps
open Idealize.ShloMosaic Idealize.ShloMosaic.StableHlo

/-- The sort's comparison of two positions: whether the first holds the larger entry. -/
def before (x : Vec Ideal S471 .f32) (k k' : Fin 471) : Bool :=
  FloatOps.cmpfTotal (F := Ideal) (φ := .f32) .gt (x (ix1 k)) (x (ix1 k')) == 1#1

/-- The position of the `k`-th entry, largest first. -/
def order (x : Vec Ideal S471 .f32) : Fin 471 → Fin 471 := sortedFrom (before x)

theorem before_iff (x : Vec Ideal S471 .f32) (k k' : Fin 471) :
    before x k k' = true ↔ x (ix1 k') < x (ix1 k) := by
  unfold before
  rw [Ideal.cmpfTotal_def]
  show (BitVec.ofBool (decide (_ > _)) == 1#1) = true ↔ _
  by_cases h : x (ix1 k') < x (ix1 k)
  · simp [h]
  · simp [h]

theorem order_injective (x : Vec Ideal S471 .f32) : Function.Injective (order x) :=
  sortedFrom_injective _

theorem order_surjective (x : Vec Ideal S471 .f32) : Function.Surjective (order x) :=
  sortedFrom_surjective _

/-- Entries in the listed order do not increase. -/
theorem order_antitone (x : Vec Ideal S471 .f32) (i j : Fin 471) (h : i ≤ j) :
    x (ix1 (order x j)) ≤ x (ix1 (order x i)) := by
  rcases h.eq_or_lt with rfl | h
  · exact le_refl _
  have key := sortedFrom_noInversion (before x) (before x)
    (fun a b hab => by
      rw [Bool.eq_false_iff, ne_eq, before_iff]
      exact not_lt.2 (le_of_lt ((before_iff x a b).1 hab)))
    (fun _ _ h => h)
    (fun a b c hab hbc => by
      rw [Bool.eq_false_iff, ne_eq, before_iff] at hab hbc ⊢
      exact not_lt.2 ((not_lt.1 hab).trans (not_lt.1 hbc))) i j h
  rw [Bool.eq_false_iff, ne_eq, before_iff] at key
  exact not_lt.1 key

/-- Moving along the one axis of a vector reaches any of its indices. -/
theorem along_vector {n : Nat} (j : (⟨1, ![n]⟩ : Shape).Idx) (k : Fin n) :
    Shape.Idx.along (s := ⟨1, ![n]⟩) j 0 k = ix1 k := by
  funext d
  match d with
  | ⟨0, _⟩ => exact Function.update_self ..

/-- A vector's sort with a second operand carried, at an index. -/
theorem sort2_apply {α β : Type} {n : Nat} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j
        = x (ix1 (sortedFrom (fun a b => cmp (x (ix1 a), y (ix1 a)) (x (ix1 b), y (ix1 b)) == 1#1) (j 0)))
      ∧ (Host.sort2 ⟨1, ![n]⟩ 0 cmp x y).2 j
        = y (ix1 (sortedFrom (fun a b => cmp (x (ix1 a), y (ix1 a)) (x (ix1 b), y (ix1 b)) == 1#1) (j 0))) := by
  unfold Host.sort2
  rw [dif_pos (show 0 < (⟨1, ![n]⟩ : Shape).rank from Nat.one_pos)]
  have e : (fun (a : Fin n) (b : Fin n) => cmp (x (ix1 a), y (ix1 a)) (x (ix1 b), y (ix1 b)) == 1#1)
      = fun a b => cmp (x (Shape.Idx.along (s := ⟨1, ![n]⟩) j 0 a), y (Shape.Idx.along (s := ⟨1, ![n]⟩) j 0 a))
        (x (Shape.Idx.along (s := ⟨1, ![n]⟩) j 0 b), y (Shape.Idx.along (s := ⟨1, ![n]⟩) j 0 b)) == 1#1 := by
    funext a b
    rw [along_vector, along_vector]
  rw [e]
  exact ⟨congrArg x (along_vector j _), congrArg y (along_vector j _)⟩

/-- The values and indices that a vector's top-k lists, by the sort's permutation. -/
theorem topK_apply {α : Type} {n k : Nat} (gt : α → α → BitVec 1) (x : (⟨1, ![n]⟩ : Shape).Idx → α)
    (h : (⟨1, ![n]⟩ : Shape).Slices (fun _ => 0) ⟨1, ![k]⟩) (i : Fin k) (hi : i.val < n) :
    (Host.topK ⟨1, ![k]⟩ 0 gt x h).1 (ix1 i)
        = x (ix1 (sortedFrom (fun a b => gt (x (ix1 a)) (x (ix1 b)) == 1#1) ⟨i.val, hi⟩))
      ∧ (Host.topK ⟨1, ![k]⟩ 0 gt x h).2 (ix1 i)
        = BitVec.ofNat 32 (sortedFrom (fun a b => gt (x (ix1 a)) (x (ix1 b)) == 1#1) ⟨i.val, hi⟩).val := by
  have hj : ∀ p, (⟨0 + i.val, p⟩ : Fin n) = ⟨i.val, hi⟩ := fun p => Fin.ext (Nat.zero_add _)
  have key := sort2_apply (fun l r : α × BitVec 32 => gt l.1 r.1) x
    (fun i => if hd : 0 < (⟨1, ![n]⟩ : Shape).rank then iotaInDim ⟨1, ![n]⟩ 32 ⟨0, hd⟩ i else 0#32)
    (fun a => ⟨0 + ((ix1 i : (⟨1, ![k]⟩ : Shape).Idx) (a.cast h.1.symm)).val,
      Nat.lt_of_lt_of_le (Nat.add_lt_add_left (Fin.isLt _) _) (h.2 a)⟩)
  constructor
  · refine key.1.trans ?_
    exact congrArg (fun v => x (ix1 (sortedFrom (fun a b => gt (x (ix1 a)) (x (ix1 b)) == 1#1) v))) (hj _)
  · refine key.2.trans ?_
    exact congrArg (fun v => BitVec.ofNat 32 (sortedFrom (fun a b => gt (x (ix1 a)) (x (ix1 b)) == 1#1) v).val) (hj _)

/-- The `k`-th listed index is the word of the `k`-th position. -/
theorem topF_apply (x : Vec Ideal S471 .f32) (k : Fin 50) :
    topF x (ix1 k) = BitVec.ofNat 32 (order x ⟨k.val, k.isLt.trans (by decide)⟩).val :=
  (topK_apply _ x sliceFits_S471_S50 k _).2

end Cert.Value
-- ==== Proof.Value.Mask.lean ====
/- The reference's mask: a one at each of the fifty listed positions. -/
module

public import proofs.«01_k».proof.Proof.Value.Sort
public import Idealize.ShloMosaic.Lib.Routing.OpsPair
public import Idealize.ShloMosaic.Lib.Routing.OpsSet

@[expose] public section

noncomputable section

namespace Cert.Value

open Cert.ReferenceIdeal Cert.ReferenceIdeal.Gen Cert.ReferenceIdeal.Steps
open Idealize.ShloMosaic Idealize.ShloMosaic.StableHlo

/-- The word of a small number, read with a sign, is the number; and it is not negative. -/
theorem small_word (n : Nat) (h : n < 471) :
    (BitVec.ofNat 32 n).toInt = (n : Int) ∧ IntOp.cmpi .slt (BitVec.ofNat 32 n) 0#32 = 0#1 := by
  have e : (BitVec.ofNat 32 n).toInt = (n : Int) := by
    rw [BitVec.toInt_eq_toNat_of_lt] <;> rw [BitVec.toNat_ofNat] <;> omega
  refine ⟨e, ?_⟩
  show BitVec.ofBool (BitVec.slt _ _) = 0#1
  have : BitVec.slt (BitVec.ofNat 32 n) 0#32 = false := by
    rw [BitVec.slt_eq_decide, e]
    simp
  rw [this]
  rfl

/-- The start of the `k`-th update of the mask's scatter: the `k`-th index word, read with a sign. -/
theorem scatter_start (idx : IVec S50x1 32) (k : Fin 50) (a : Fin 1) :
    scatter_S471_S50x1_S50_n_0_0_1.start (ix1 k) idx a
        + (scatter_S471_S50x1_S50_n_0_0_1.window (ix1 k) a : Int)
      = (idx (ix2 k 0)).toInt := by
  obtain rfl : a = 0 := Subsingleton.elim _ _
  have hm : (0 : Fin 1) ∈ scatter_S471_S50x1_S50_n_0_0_1.scatterDimsToOperandDims := List.mem_singleton.2 rfl
  have hw : scatter_S471_S50x1_S50_n_0_0_1.window (ix1 k) 0 = 0 := rfl
  have hs : scatter_S471_S50x1_S50_n_0_0_1.start (ix1 k) idx 0
      = (idx (scatter_S471_S50x1_S50_n_0_0_1.siIdx (ix1 k) ⟨0, Nat.one_pos⟩)).toInt := rfl
  have hi : scatter_S471_S50x1_S50_n_0_0_1.siIdx (ix1 k) ⟨0, Nat.one_pos⟩ = ix2 k 0 := by
    funext d
    match d with
    | ⟨0, _⟩ => exact Fin.ext rfl
    | ⟨1, _⟩ => exact Fin.ext rfl
  rw [hw, hs, hi]
  exact Int.add_zero _

/-- The scatter's index words are the listed positions. -/
theorem index_words (x : Vec Ideal S471 .f32) (k : Fin 50) :
    broadcastInDim S50x1 ![0] bcast_S50_S50x1_0
        (select (cmpi .slt (topF x) (broadcastInDim S50 ![] bcast_S_S50 (constantI S_ 32 0#32)))
          (addi (topF x) (broadcastInDim S50 ![] bcast_S_S50 (constantI S_ 32 471#32))) (topF x)) (ix2 k 0)
      = BitVec.ofNat 32 (order x ⟨k.val, k.isLt.trans (by decide)⟩).val := by
  pointwise
  rw [topF_apply, (small_word _ (Fin.isLt _)).2]
  rfl

/-- The mask is one at the positions listed among the first fifty, and zero elsewhere. -/
theorem maskF_apply (x : Vec Ideal S471 .f32) (k : Fin 471) :
    maskF (topF x) (ix1 (order x k)) = if k.val < 50 then (1 : EReal) else 0 := by
  have hit : ∀ i : S50.Idx, ∀ j : Fin 471, scatter_S471_S50x1_S50_n_0_0_1.resultIdx? i
      (broadcastInDim S50x1 ![0] bcast_S50_S50x1_0
        (select (cmpi .slt (topF x) (broadcastInDim S50 ![] bcast_S_S50 (constantI S_ 32 0#32)))
          (addi (topF x) (broadcastInDim S50 ![] bcast_S_S50 (constantI S_ 32 471#32))) (topF x))) = some (ix1 j)
        ↔ order x ⟨(i 0).val, (i 0).isLt.trans (by decide)⟩ = j := by
    intro i j
    obtain ⟨i, rfl⟩ : ∃ i' : Fin 50, i = ix1 i' := ⟨i 0, by funext d; match d with | ⟨0, _⟩ => rfl⟩
    rw [Routing.resultIdx?_eq_some]
    constructor
    · intro h
      have := h 0
      rw [scatter_start, index_words, (small_word _ (Fin.isLt _)).1] at this
      exact Fin.ext (Int.ofNat.inj this)
    · rintro rfl a
      rw [scatter_start, index_words, (small_word _ (Fin.isLt _)).1]
      match a with
      | ⟨0, _⟩ => rfl
  unfold maskF
  split
  · rename_i h
    refine (Routing.scatter_set_hit _ _ _ _ _ 1 (fun _ _ => ?_) (ix1 ⟨k.val, h⟩) ((hit _ _).2 rfl)).trans rfl
    pointwise
  · rename_i h
    refine (Routing.scatter_set_miss _ _ _ _ _ fun i hi => h ?_).trans ?_
    · have := order_injective x ((hit _ _).1 hi)
      rw [← this]
      exact (i 0).isLt
    · pointwise

end Cert.Value
-- ==== Proof.Pre.Ties.lean ====
/- The precondition's layers are the reference's, over the inverse taken in doublings. -/
module

public import proofs.«01_k».proof.Proof.Pre.Facts
public import proofs.«01_k».proof.Proof.Reference.Final
public import Idealize.ShloMosaic.Lib.Pipeline.Regions

@[expose] public section

noncomputable section

namespace Cert.Pre_finite_and_untied.Sides

open Idealize.ShloMosaic Cert.ReferenceIdeal Cert.ReferenceIdeal.Gen Cert.ReferenceIdeal.Steps

variable {F : FTy → Type} [FloatOps F]

/-- The inverse and the remainder after `k` doublings. -/
def doublingsF (q : Vec F S64x471 .f32) : ℕ → Vec F S64x64 .f32 × Vec F S64x64 .f32
  | 0 => (scaledF (gramF q), subf eyeF (dotF (gramF q) (scaledF (gramF q))))
  | k + 1 => (addf (doublingsF q k).1 (dotF (doublingsF q k).1 (doublingsF q k).2), dotF (doublingsF q k).2 (doublingsF q k).2)

/-- A layer's weights before the cut. -/
def wideF (I : Inputs F) (k : ℕ) : Vec F S471 .f32 :=
  coreF I.w2 (bF I.q I.w (thetaF I.q I.w I.al I.rho I.inv (layersF I k).1 (layersF I k).2)) I.lam I.rho I.mu
    (layersF I k).1 (layersF I k).2

/-- The test of a layer: its 50th largest entry is above its 51st, or that one is not above zero. -/
def untiedF (z : Vec F S471 .f32) : IVec Cert.ReferenceIdeal.S_ 1 :=
  ori (cmpf .ogt
      (shapeCast Cert.ReferenceIdeal.S_ (extractStridedSlice Cert.ReferenceIdeal.S1 ![49] (Host.topK Cert.Pre_finite_and_untied.S51 0 (FloatOps.cmpfTotal .gt) z facts.sliceFits_S471_S51).1 facts.slices_S51_S1_49) facts.shapeCasts_S1_S_)
      (shapeCast Cert.ReferenceIdeal.S_ (extractStridedSlice Cert.ReferenceIdeal.S1 ![50] (Host.topK Cert.Pre_finite_and_untied.S51 0 (FloatOps.cmpfTotal .gt) z facts.sliceFits_S471_S51).1 facts.slices_S51_S1_50) facts.shapeCasts_S1_S_))
    (cmpf .ole
      (shapeCast Cert.ReferenceIdeal.S_ (extractStridedSlice Cert.ReferenceIdeal.S1 ![50] (Host.topK Cert.Pre_finite_and_untied.S51 0 (FloatOps.cmpfTotal .gt) z facts.sliceFits_S471_S51).1 facts.slices_S51_S1_50) facts.shapeCasts_S1_S_)
      (constant Cert.ReferenceIdeal.S_ .f32 0x00000000#32))

/-- The test of an argument: below infinity in size. -/
def boundedF {s : Shape} (h : Cert.ReferenceIdeal.S_.BroadcastsInDim s (![] : Fin 0 → Fin s.rank)) (x : Vec F s .f32) : IVec s 1 :=
  cmpf .olt (Host.absf x) (broadcastInDim s ![] h (constant Cert.ReferenceIdeal.S_ .f32 0x7F800000#32))

/-- The inputs of the precondition's layers. -/
def given (x : Vec F S4096x471 .f32) (q : Vec F S64x471 .f32) (w : Vec F S471 .f32) (al lam rho mu : Vec F S1 .f32)
    (lw : Vec F S471x471 .f32) (lb : Vec F S471 .f32) : Inputs F :=
  ⟨q, w, w2F x lw lb, al, lam, rho, mu, (doublingsF q 16).1⟩

/-- The precondition, opened: nine tests of arguments and ten of layers. -/
theorem fn_eq (x : Vec F S4096x471 .f32) (q : Vec F S64x471 .f32) (w b1 : Vec F S471 .f32) (al lam rho mu : Vec F S1 .f32)
    (lw : Vec F S471x471 .f32) (lb : Vec F S471 .f32) :
    Cert.Pre_finite_and_untied.fn (F := F) x q w b1 al lam rho mu lw lb =
      (boundedF facts.bcast_S_S4096x471 x, boundedF facts.bcast_S_S64x471 q, boundedF facts.bcast_S_S471 w,
        boundedF facts.bcast_S_S1 al, boundedF facts.bcast_S_S1 lam, boundedF facts.bcast_S_S1 rho, boundedF facts.bcast_S_S1 mu,
        boundedF facts.bcast_S_S471x471 lw, boundedF facts.bcast_S_S471 lb,
        untiedF (wideF (given x q w al lam rho mu lw lb) 0), untiedF (wideF (given x q w al lam rho mu lw lb) 1),
        untiedF (wideF (given x q w al lam rho mu lw lb) 2), untiedF (wideF (given x q w al lam rho mu lw lb) 3),
        untiedF (wideF (given x q w al lam rho mu lw lb) 4), untiedF (wideF (given x q w al lam rho mu lw lb) 5),
        untiedF (wideF (given x q w al lam rho mu lw lb) 6), untiedF (wideF (given x q w al lam rho mu lw lb) 7),
        untiedF (wideF (given x q w al lam rho mu lw lb) 8), untiedF (wideF (given x q w al lam rho mu lw lb) 9)) := by
  chain_rfl

end Cert.Pre_finite_and_untied.Sides

end
-- ==== Proof.Value.Keep.lean ====
/- Keeping the fifty largest entries: the reference's mask keeps what counting larger entries keeps. -/
module

public import proofs.«01_k».proof.Proof.Value.Mask
public import proofs.«01_k».proof.Proof.Pre.Ties

@[expose] public section

noncomputable section

namespace Cert.Value

open Cert.ReferenceIdeal Cert.ReferenceIdeal.Gen Cert.ReferenceIdeal.Steps
open Cert.Pre_finite_and_untied.Sides
open Idealize.ShloMosaic Idealize.ShloMosaic.StableHlo

/-- The number of entries larger than the `j`-th. -/
def larger (c : Fin 471 → EReal) (j : Fin 471) : ℕ := (Finset.univ.filter fun i => c j < c i).card

/-- An entry that fewer than fifty entries exceed stays; any other becomes zero. -/
def keep (c : Fin 471 → EReal) (j : Fin 471) : EReal := if larger c j < 50 then c j else 0

/-- One entry of the fifty-one listed values, taken out as a scalar. -/
theorem picked (v : Vec Ideal Cert.Pre_finite_and_untied.S51 .f32) (a : Fin 51)
    (h : Cert.Pre_finite_and_untied.S51.Slices ![a.val] S1) (h' : S1.ShapeCasts S_) (i : S_.Idx) :
    shapeCast S_ (extractStridedSlice S1 ![a.val] v h) h' i = v (ix1 a) := by
  have e : ∀ j : S1.Idx, extractStridedSlice S1 ![a.val] v h j = v (ix1 a) := fun j => by
    refine congrArg v (funext fun d => ?_)
    match d with
    | ⟨0, _⟩ =>
      have := (j 0).isLt
      exact Fin.ext (by show a.val + (j 0).val = a.val; change (j 0).val < 1 at this; omega)
  exact e _

/-- The precondition's test of two numbers. -/
theorem either (a b : EReal) (h : IntOp.ori (FloatOps.cmpf (F := Ideal) (φ := .f32) .ogt a b)
    (FloatOps.cmpf (F := Ideal) (φ := .f32) .ole b (Ideal.ofBits .f32 0x00000000#32)) = 1#1) : b < a ∨ b ≤ 0 := by
  rw [Ideal.ofBits_zero_f32] at h
  by_contra hn
  rw [not_or] at hn
  have h1 : FloatOps.cmpf (F := Ideal) (φ := .f32) .ogt a b = 0#1 := by
    show BitVec.ofBool (decide (a > b)) = 0#1
    simp [hn.1]
  have h2 : FloatOps.cmpf (F := Ideal) (φ := .f32) .ole b 0 = 0#1 := by
    show BitVec.ofBool (decide (b ≤ 0)) = 0#1
    simp [hn.2]
  rw [h1, h2] at h
  exact absurd h (by decide)

/-- What the precondition says of a vector: the fiftieth entry exceeds the next, or the next is not positive. -/
theorem untied_iff (x : Vec Ideal S471 .f32) (h : untiedF x = fun _ => 1#1) :
    x (ix1 (order x 50)) < x (ix1 (order x 49)) ∨ x (ix1 (order x 50)) ≤ 0 := by
  have e := congrFun h (fun a => a.elim0)
  unfold untiedF at e
  have e49 := (topK_apply (FloatOps.cmpfTotal (F := Ideal) (φ := .f32) .gt) x Cert.Pre_finite_and_untied.Sides.facts.sliceFits_S471_S51 49 (by decide)).1
  have e50 := (topK_apply (FloatOps.cmpfTotal (F := Ideal) (φ := .f32) .gt) x Cert.Pre_finite_and_untied.Sides.facts.sliceFits_S471_S51 50 (by decide)).1
  have p49 := (picked _ 49 Cert.Pre_finite_and_untied.Sides.facts.slices_S51_S1_49 Cert.Pre_finite_and_untied.Sides.facts.shapeCasts_S1_S_ (fun a => a.elim0)).trans e49
  have p50 := (picked _ 50 Cert.Pre_finite_and_untied.Sides.facts.slices_S51_S1_50 Cert.Pre_finite_and_untied.Sides.facts.shapeCasts_S1_S_ (fun a => a.elim0)).trans e50
  rcases either _ _ e with h | h
  · exact .inl (p50.symm.trans_lt (h.trans_eq p49))
  · exact .inr (p50.symm.trans_le h)

/-- A listed position's entry is exceeded only by entries listed before it. -/
theorem larger_le (x : Vec Ideal S471 .f32) (k : Fin 471) : larger (fun i => x (ix1 i)) (order x k) ≤ k.val := by
  have h : (Finset.univ.filter fun i => x (ix1 (order x k)) < x (ix1 i))
      ⊆ (Finset.Iio k).image (order x) := by
    intro i hi
    obtain ⟨a, rfl⟩ := order_surjective x i
    refine Finset.mem_image_of_mem _ (Finset.mem_Iio.2 ?_)
    by_contra hk
    exact absurd (Finset.mem_filter.1 hi).2 (not_lt.2 (order_antitone x k a (not_lt.1 hk)))
  refine (Finset.card_le_card h).trans (Finset.card_image_le.trans ?_)
  rw [Fin.card_Iio]

/-- An entry below the fiftieth is exceeded by fifty entries. -/
theorem larger_ge (x : Vec Ideal S471 .f32) (j : Fin 471) (h : x (ix1 j) < x (ix1 (order x 49))) :
    50 ≤ larger (fun i => x (ix1 i)) j := by
  have hs : (Finset.Iio (50 : Fin 471)).image (order x)
      ⊆ Finset.univ.filter fun i => x (ix1 j) < x (ix1 i) := by
    intro i hi
    obtain ⟨a, ha, rfl⟩ := Finset.mem_image.1 hi
    refine Finset.mem_filter.2 ⟨Finset.mem_univ _, h.trans_le (order_antitone x a 49 ?_)⟩
    have := Finset.mem_Iio.1 ha
    exact Fin.le_def.2 (Nat.le_of_lt_succ (Fin.lt_def.1 this))
  have hc := Finset.card_le_card hs
  rw [Finset.card_image_of_injective _ (order_injective x), Fin.card_Iio] at hc
  exact hc

/-- The reference's fifty largest of a vector with no negative entry, where the precondition holds. -/
theorem keepF_apply (x : Vec Ideal S471 .f32) (hx : ∀ j, 0 ≤ x (ix1 j)) (h : untiedF x = fun _ => 1#1) (j : Fin 471) :
    keepF x (ix1 j) = keep (fun i => x (ix1 i)) j := by
  obtain ⟨k, rfl⟩ := order_surjective x j
  have e : keepF x (ix1 (order x k)) = x (ix1 (order x k)) * maskF (topF x) (ix1 (order x k)) := rfl
  rw [e, maskF_apply]
  unfold keep
  by_cases hk : k.val < 50
  · rw [if_pos hk, if_pos ((larger_le x k).trans_lt hk)]
    exact mul_one _
  · rw [if_neg hk]
    have hle : x (ix1 (order x k)) ≤ x (ix1 (order x 50)) := order_antitone x 50 k (Fin.le_def.2 (not_lt.1 hk))
    refine (mul_zero _).trans ?_
    rcases untied_iff x h with hlt | hz
    · rw [if_neg (not_lt.2 (larger_ge x _ (hle.trans_lt hlt)))]
    · have : x (ix1 (order x k)) = 0 := le_antisymm (hle.trans hz) (hx _)
      simp only [this, ite_self]

end Cert.Value
-- ==== Proof.Value.Consts.lean ====
/- The programs' constants as numbers, and sums of real numbers among the extended reals. -/
module

public import proofs.«01_k».proof.Proof.Value.Keep

@[expose] public section

noncomputable section

namespace Cert.Value

open Idealize.ShloMosaic

/-- The word of two. -/
theorem word_two : Ideal.ofBits .f32 1073741824#32 = ((2 : ℝ) : EReal) := by
  simp [Ideal.ofBits, Ideal.ieee, -EReal.coe_mul]; norm_num

/-- The word of fifty. -/
theorem word_fifty : Ideal.ofBits .f32 1112014848#32 = ((50 : ℝ) : EReal) := by
  simp [Ideal.ofBits, Ideal.ieee, -EReal.coe_mul]; norm_num

/-- The word of 4096. -/
theorem word_rows : Ideal.ofBits .f32 1166016512#32 = ((4096 : ℝ) : EReal) := by
  simp [Ideal.ofBits, Ideal.ieee, -EReal.coe_mul]; norm_num

/-- The word of one 4096th. -/
theorem word_row : Ideal.ofBits .f32 964689920#32 = ((1 / 4096 : ℝ) : EReal) := by
  simp [Ideal.ofBits, Ideal.ieee, -EReal.coe_mul]; norm_num

/-- The number that both programs hold for one 471st. -/
def kappa : ℝ := (Ideal.ofBits .f32 990585963#32).toReal

/-- The word of one 471st holds a real number. -/
theorem word_kappa : Ideal.ofBits .f32 990585963#32 = (kappa : EReal) := by
  refine (EReal.coe_toReal ?_ ?_).symm <;> simp [Ideal.ofBits, Ideal.ieee, -EReal.coe_mul]

/-- The word of minus infinity. -/
theorem word_bot : Ideal.ofBits .f32 4286578688#32 = ⊥ := by
  simp [Ideal.ofBits, Ideal.ieee]

/-- The word of infinity. -/
theorem word_top : Ideal.ofBits .f32 2139095040#32 = ⊤ := by
  simp [Ideal.ofBits, Ideal.ieee]

/-- A sum of real numbers, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers, among the extended reals. -/
theorem coe_max (a b : ℝ) : ((max a b : ℝ) : EReal) = max (a : EReal) (b : EReal) :=
  (Monotone.map_max (fun _ _ h => EReal.coe_le_coe_iff.2 h))

/-- The smaller of two real numbers, among the extended reals. -/
theorem coe_min (a b : ℝ) : ((min a b : ℝ) : EReal) = min (a : EReal) (b : EReal) :=
  (Monotone.map_min (fun _ _ h => EReal.coe_le_coe_iff.2 h))

/-- The kernel's count of larger entries, as a sum of converted comparisons. -/
theorem count_eq (c : Fin 471 → EReal) (j : Fin 471) :
    ∑ x, FloatOps.sitofp (F := Ideal) .f32 (BitVec.setWidth 32 (BitVec.ofBool (decide (c j < c x))))
      = ((larger c j : ℝ) : EReal) := by
  have h : ∀ x, FloatOps.sitofp (F := Ideal) .f32 (BitVec.setWidth 32 (BitVec.ofBool (decide (c j < c x))))
      = (((if c j < c x then 1 else 0 : ℝ)) : EReal) := by
    intro x
    show (((BitVec.setWidth 32 (BitVec.ofBool (decide (c j < c x)))).toInt : ℝ) : EReal) = _
    by_cases hx : c j < c x
    · simp [hx]
    · simp [hx]
  rw [Finset.sum_congr rfl fun x _ => h x, ← coe_sum]
  unfold larger
  rw [Finset.card_filter]
  push_cast
  rfl

/-- The kernel's choice by the count is the choice of entries that fewer than fifty exceed. -/
theorem count_keep (c : Fin 471 → EReal) (j : Fin 471) :
    (if ∑ x, FloatOps.sitofp (F := Ideal) .f32 (BitVec.setWidth 32 (BitVec.ofBool (decide (c j < c x))))
      < Ideal.ofBits .f32 1112014848#32 then c j else 0) = keep c j := by
  rw [count_eq, word_fifty]
  unfold keep
  refine if_congr ?_ rfl rfl
  rw [EReal.coe_lt_coe_iff]
  exact_mod_cast Iff.rfl

end Cert.Value
-- ==== Proof.Value.Layer.lean ====
/- One layer over the real numbers, and the tensors that hold real numbers. -/
module

public import proofs.«01_k».proof.Proof.Value.Consts

@[expose] public section

noncomputable section

namespace Cert.Value

open Idealize.ShloMosaic

/-- A vector of real numbers. -/
def vecE {n : ℕ} (f : Fin n → ℝ) : (⟨1, ![n]⟩ : Shape).Idx → EReal := fun i => (f (i 0) : EReal)

/-- A matrix of real numbers. -/
def matE {m n : ℕ} (f : Fin m → Fin n → ℝ) : (⟨2, ![m, n]⟩ : Shape).Idx → EReal := fun i => (f (i 0) (i 1) : EReal)

/-- A row of real numbers. -/
def rowE {n : ℕ} (f : Fin n → ℝ) : (⟨2, ![1, n]⟩ : Shape).Idx → EReal := fun i => (f (i 1) : EReal)

theorem vecE_apply {n : ℕ} (f : Fin n → ℝ) (i : Fin n) : vecE f (ix1 i) = (f i : EReal) := rfl

theorem matE_apply {m n : ℕ} (f : Fin m → Fin n → ℝ) (i : Fin m) (j : Fin n) : matE f (ix2 i j) = (f i j : EReal) := rfl

theorem rowE_apply {n : ℕ} (f : Fin n → ℝ) (a : Fin 1) (i : Fin n) : rowE f (ix2 a i) = (f i : EReal) := rfl

/-- A vector is its entries. -/
theorem vec_ext {n : ℕ} {f g : (⟨1, ![n]⟩ : Shape).Idx → EReal} (h : ∀ i, f (ix1 i) = g (ix1 i)) : f = g := by
  funext i
  have e : i = ix1 (i 0) := by funext d; match d with | ⟨0, _⟩ => rfl
  rw [e]
  exact h _

/-- A matrix is its entries. -/
theorem mat_ext {m n : ℕ} {f g : (⟨2, ![m, n]⟩ : Shape).Idx → EReal} (h : ∀ i j, f (ix2 i j) = g (ix2 i j)) : f = g := by
  funext i
  have e : i = ix2 (i 0) (i 1) := by funext d; match d with | ⟨0, _⟩ => rfl | ⟨1, _⟩ => rfl
  rw [e]
  exact h _ _

/-- A row is its entries. -/
theorem row_ext {n : ℕ} {f g : (⟨2, ![1, n]⟩ : Shape).Idx → EReal} (h : ∀ i, f (ix2 0 i) = g (ix2 0 i)) : f = g :=
  mat_ext fun a i => by
    obtain rfl : a = 0 := Subsingleton.elim _ _
    exact h i

/-- What the layers read, as real numbers. -/
structure Reals where
  /-- the constraint rows -/
  q : Fin 64 → Fin 471 → ℝ
  /-- the base weights -/
  w : Fin 471 → ℝ
  /-- the column means -/
  w2 : Fin 471 → ℝ
  /-- the multiplier's factor -/
  al : ℝ
  /-- the penalty's factor -/
  lam : ℝ
  /-- the coupling's factor -/
  rho : ℝ
  /-- the step size -/
  mu : ℝ
  /-- the inverse -/
  inv : Fin 64 → Fin 64 → ℝ

variable (R : Reals)

/-- The multiplier. -/
def thR (z u : Fin 471 → ℝ) (i : Fin 64) : ℝ :=
  R.al * ∑ a, R.inv i a * ∑ j, R.q a j * (u j - R.rho * (z j - R.w j))

/-- The corrected weights. -/
def bR (z u : Fin 471 → ℝ) (j : Fin 471) : ℝ := R.w j + kappa * ∑ i, R.q i j * thR R z u i

/-- The weights before the cut. -/
def coreR (z u : Fin 471 → ℝ) (j : Fin 471) : ℝ :=
  max (z j - R.mu * (R.w2 j + R.rho * (z j - bR R z u j) + u j + 2 * R.lam * (∑ k, z k - 1)
    + 2 * R.lam * min 0 (z j))) 0

/-- The cut to the entries that fewer than fifty exceed. -/
def keepR (c : Fin 471 → ℝ) (j : Fin 471) : ℝ := if larger (fun i => (c i : EReal)) j < 50 then c j else 0

/-- One layer. -/
def stepR (s : (Fin 471 → ℝ) × (Fin 471 → ℝ)) : (Fin 471 → ℝ) × (Fin 471 → ℝ) :=
  (keepR (coreR R s.1 s.2), fun j => s.2 j + R.rho * (keepR (coreR R s.1 s.2) j - bR R s.1 s.2 j))

/-- The cut of real numbers, among the extended reals. -/
theorem keep_coe (c : Fin 471 → ℝ) (j : Fin 471) : keep (fun i => (c i : EReal)) j = (keepR c j : EReal) := by
  unfold keep keepR
  split <;> rfl

end Cert.Value
-- ==== Proof.Value.RefLayer.lean ====
/- The reference's layer on tensors of real numbers. -/
module

public import proofs.«01_k».proof.Proof.Value.Layer

@[expose] public section

noncomputable section

namespace Cert.Value

open Cert.ReferenceIdeal Cert.ReferenceIdeal.Gen Cert.ReferenceIdeal.Steps
open Cert.Pre_finite_and_untied.Sides
open Idealize.ShloMosaic Idealize.ShloMosaic.StableHlo

/-- The reference's inputs that hold real numbers. -/
def holding (R : Reals) : Inputs Ideal :=
  ⟨matE R.q, vecE R.w, vecE R.w2, vecE fun _ => R.al, vecE fun _ => R.lam, vecE fun _ => R.rho, vecE fun _ => R.mu, matE R.inv⟩

variable (R : Reals) (z u : Fin 471 → ℝ)

/-- The reference's multiplier. -/
theorem thetaF_real : thetaF (F := Ideal) (matE R.q) (vecE R.w) (vecE fun _ => R.al) (vecE fun _ => R.rho) (matE R.inv) (vecE z) (vecE u)
    = vecE (thR R z u) := by
  refine vec_ext fun i => ?_
  unfold thetaF
  pointwise
  simp only [vecE_apply, matE_apply, thR, EReal.coe_mul, EReal.coe_sub, coe_sum]

/-- The reference's corrected weights. -/
theorem bF_real : bF (F := Ideal) (matE R.q) (vecE R.w) (vecE (thR R z u)) = vecE (bR R z u) := by
  refine vec_ext fun i => ?_
  unfold bF
  pointwise
  simp only [word_kappa, vecE_apply, matE_apply, bR, EReal.coe_mul, EReal.coe_add, coe_sum]

/-- The reference's weights before the cut. -/
theorem coreF_real : coreF (F := Ideal) (vecE R.w2) (vecE (bR R z u)) (vecE fun _ => R.lam) (vecE fun _ => R.rho) (vecE fun _ => R.mu)
    (vecE z) (vecE u) = vecE (coreR R z u) := by
  refine vec_ext fun i => ?_
  unfold coreF
  pointwise
  simp only [word_two, vecE_apply, coreR, EReal.coe_mul, EReal.coe_add, EReal.coe_sub, coe_sum, coe_max, coe_min,
    EReal.coe_zero, EReal.coe_one]

/-- The reference's cut, where the precondition holds. -/
theorem keepF_real (h : untiedF (F := Ideal) (vecE (coreR R z u)) = fun _ => 1#1) :
    keepF (F := Ideal) (vecE (coreR R z u)) = vecE (keepR (coreR R z u)) := by
  refine vec_ext fun i => ?_
  rw [keepF_apply _ (fun j => ?_) h]
  · exact keep_coe _ _
  · exact EReal.coe_nonneg.2 (le_max_right _ _)

/-- The reference's layers are the layers over the real numbers, where the precondition holds of each. -/
theorem layersF_real : ∀ k, (∀ i < k, untiedF (wideF (holding R) i) = fun _ => 1#1) →
    layersF (holding R) k = (vecE ((stepR R)^[k] (fun _ => 0, fun _ => 0)).1, vecE ((stepR R)^[k] (fun _ => 0, fun _ => 0)).2)
  | 0, _ => by
    refine Prod.ext ?_ ?_
    all_goals
      refine vec_ext fun i => ?_
      unfold layersF
      pointwise
      rfl
  | k + 1, h => by
    have ih := layersF_real k fun i hi => h i (hi.trans k.lt_succ_self)
    have hk := h k k.lt_succ_self
    unfold wideF at hk
    unfold layersF zF uF
    rw [ih] at hk ⊢
    rw [Function.iterate_succ_apply']
    generalize (stepR R)^[k] (fun _ => 0, fun _ => 0) = s at hk ⊢
    simp only [holding] at hk ⊢
    rw [thetaF_real, bF_real, coreF_real] at hk ⊢
    rw [keepF_real R _ _ hk]
    refine Prod.ext rfl (vec_ext fun i => ?_)
    pointwise
    simp only [vecE_apply, stepR, EReal.coe_mul, EReal.coe_add, EReal.coe_sub]

end Cert.Value
-- ==== Proof.KernelIdeal.Value.lean ====
/- What the kernel's body leaves at each grid point, as values. -/
module

public import proofs.«01_k».proof.Proof.KernelIdeal.Frame
public import Idealize.ShloMosaic.Lib.ValueIdxCore

@[expose] public section

set_option maxRecDepth 8192

noncomputable section

namespace Cert.KernelIdeal.Body

open Cert.KernelIdeal Cert.KernelIdeal.Gen
open Idealize.ShloMosaic Idealize.ShloMosaic.TcCoe Idealize.ShloMosaic.Tactic Idealize.ShloMosaic.ValueIdx

variable {F : FTy → Type} [FloatOps F]

/-- The zero offsets of a load. -/
theorem hz : (![0, 0] : Fin 2 → Nat) = fun _ => 0 := funext fun a => by fin_cases a <;> rfl

variable (c : Dev nD) (i : grid0.Coords) (arg1 : Memref sig .tc .vmem S512x471 .f32) (harg1 : arg1.IsWhole) (arg2 : Memref sig .tc .vmem S64x471 .f32) (harg2 : arg2.IsWhole) (arg3 : Memref sig .tc .vmem S1x471 .f32) (harg3 : arg3.IsWhole) (arg4 : Memref sig .tc .vmem S471x471 .f32) (harg4 : arg4.IsWhole) (arg5 : Memref sig .tc .vmem S1x471 .f32) (harg5 : arg5.IsWhole) (arg6 : Memref sig .tc .vmem S1x4 .f32) (harg6 : arg6.IsWhole) (arg7 : Memref sig .tc .vmem S1x471 .f32) (harg7 : arg7.IsWhole) (arg8 : Memref sig .tc .vmem S1x471 .f32) (harg8 : arg8.IsWhole)

/-- The first point leaves the block's column sums on top of zero. -/
theorem sout_A (hc0 : cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) :
    sout0_A_0 c i arg1 harg1 arg2 harg2 arg3 harg3 arg4 harg4 arg5 harg5 arg6 harg6 arg7 harg7 arg8 harg8 hc0 hc1 x0 x1 x2 x3 x4 x5 = k0_pay2 k0_pay1 x0 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_cons_unit_zero (S := S1x471) hz, View.readCov_unit_zero (S := S1x471) _ hz]
  simp only [View.readAt_eq_ld, harg1.read_unread, View.ld_unit_zero (S := S512x471) hz]

/-- A middle point adds the block's column sums. -/
theorem sout_B (hc0 : ¬cond0_0 i) (hc1 : ¬cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) :
    sout0_B_0 c i arg1 harg1 arg2 harg2 arg3 harg3 arg4 harg4 arg5 harg5 arg6 harg6 arg7 harg7 arg8 harg8 hc0 hc1 x0 x1 x2 x3 x4 x5 xs0 = k0_pay2 xs0 x0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 x5 xs0)]
  unfold kernelRun0_B
  dsimp only
  rw [View.canon_unit_zero hz]
  simp only [View.readAt_eq_ld, harg1.read_unread, harg8.read_unread, View.ld_unit_zero (S := S512x471) hz, View.ld_unit_zero (S := S1x471) hz]

/-- A loop whose trips all apply one function is its iterate. -/
theorem fold_iterate {σ : Type} {n : ℕ} (f : σ → σ) (s : σ) : Scf.fold (n := n) (fun _ t => f t) s = f^[n] s := by
  have h : ∀ (l : List (Fin n)) (t : σ), l.foldl (fun a _ => f a) t = f^[l.length] t := by
    intro l
    induction l with
    | nil => intro t; rfl
    | cons a l ih => intro t; exact (ih (f t))
  rw [Scf.fold_eq, h, List.length_finRange]

/-- The pair after ten rounds. -/
def roundsK (lam rho mu : F .f32) (w : FVec F S1x471 .f32) (q : Vec F S64x471 .f32) (w2 : FVec F S1x471 .f32)
    (p : FVec F S64x471 .f32) : FVec F S1x471 .f32 × FVec F S1x471 .f32 :=
  (kstep lam rho mu w q w2 p)^[10] (k0_pay5, k0_pay5)

/-- The iterated inverse. -/
def newtonK (q : Vec F S64x471 .f32) : FVec F S64x64 .f32 := (k0_pay18 q)^[16] (k0_pay17 q)

/-- The word of the parameter row at column `k`. -/
def word (x5 : Vec F S1x4 .f32) (k : Fin 4) : F .f32 := x5 (ix2 0 k)

/-- What the last point stores, from the operands and the total of the column sums. -/
def outK (x1 : Vec F S64x471 .f32) (x2 : Vec F S1x471 .f32) (x3 : Vec F S471x471 .f32) (x4 : Vec F S1x471 .f32) (x5 : Vec F S1x4 .f32) (s : Vec F S1x471 .f32) : Vec F S1x471 .f32 :=
  k0_pay7 (roundsK (word x5 1) (word x5 2) (word x5 3) x2 x1 (k0_pay15 s x3 x4)
    (k0_pay3 (word x5 0) x1 (newtonK x1) (constant S64x471 .f32 0x00000000#32))).1

set_option maxHeartbeats 4000000 in
/-- The last point adds its block and stores the result. -/
theorem out_C (hc0 : ¬cond0_0 i) (hc1 : cond0_1 i)
    (x0 : Vec F S512x471 .f32) (x1 : Vec F S64x471 .f32) (x2 : Vec F S1x471 .f32) (x3 : Vec F S471x471 .f32) (x4 : Vec F S1x471 .f32) (x5 : Vec F S1x4 .f32) (xs0 : Vec F S1x471 .f32) :
    out0_C_6 c i arg1 harg1 arg2 harg2 arg3 harg3 arg4 harg4 arg5 harg5 arg6 harg6 arg7 harg7 arg8 harg8 hc0 hc1 x0 x1 x2 x3 x4 x5 xs0 = outK x1 x2 x3 x4 x5 (k0_pay2 xs0 x0) := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz]
  have e1 : View.readAt (Elt F) arg2.view (Rect.unit ![0, 0] S64x471.size inb_S64x471_S64x471_0_0).toLoadRect (harg2.unread x1) = x1 := by
    simp only [View.readAt_eq_ld, harg2.read_unread, View.ld_unit_zero (S := S64x471) hz]
  have e2 : View.readAt (Elt F) arg3.view (Rect.unit ![0, 0] S1x471.size inb_S1x471_S1x471_0_0).toLoadRect (harg3.unread x2) = x2 := by
    simp only [View.readAt_eq_ld, harg3.read_unread, View.ld_unit_zero (S := S1x471) hz]
  have e3 : View.readAt (Elt F) arg4.view (Rect.unit ![0, 0] S471x471.size inb_S471x471_S471x471_0_0).toLoadRect (harg4.unread x3) = x3 := by
    simp only [View.readAt_eq_ld, harg4.read_unread, View.ld_unit_zero (S := S471x471) hz]
  have e4 : View.readAt (Elt F) arg5.view (Rect.unit ![0, 0] S1x471.size inb_S1x471_S1x471_0_0).toLoadRect (harg5.unread x4) = x4 := by
    simp only [View.readAt_eq_ld, harg5.read_unread, View.ld_unit_zero (S := S1x471) hz]
  have e0 : View.readAt (Elt F) arg1.view (Rect.unit ![0, 0] ![512, 471] inb_S512x471_S512x471_0_0).toLoadRect (harg1.unread x0) = x0 := by
    simp only [View.readAt_eq_ld, harg1.read_unread]
    exact View.ld_unit_zero (S := S512x471) hz _ _
  have es : View.readAt (Elt F) arg8.view (Rect.unit ![0, 0] ![1, 471] inb_S1x471_S1x471_0_0).toLoadRect (harg8.unread xs0) = xs0 := by
    simp only [View.readAt_eq_ld, harg8.read_unread]
    exact View.ld_unit_zero (S := S1x471) hz _ _
  have w0 : k0_pay10 (View.readAt (Elt F) arg6.view (Rect.unit (s := S1x4) ![0, 0] S1x1.size inb_S1x4_S1x1_0_0).toLoadRect (harg6.unread x5)) = word x5 0 := by
    rw [View.readAt_eq_ld, harg6.read_unread]
    exact congrArg x5 (funext fun a => by fin_cases a <;> rfl)
  have w1 : k0_pay11 (View.readAt (Elt F) arg6.view (Rect.unit (s := S1x4) ![0, 1] S1x1.size inb_S1x4_S1x1_0_1).toLoadRect (harg6.unread x5)) = word x5 1 := by
    rw [View.readAt_eq_ld, harg6.read_unread]
    exact congrArg x5 (funext fun a => by fin_cases a <;> rfl)
  have w2 : k0_pay12 (View.readAt (Elt F) arg6.view (Rect.unit (s := S1x4) ![0, 2] S1x1.size inb_S1x4_S1x1_0_2).toLoadRect (harg6.unread x5)) = word x5 2 := by
    rw [View.readAt_eq_ld, harg6.read_unread]
    exact congrArg x5 (funext fun a => by fin_cases a <;> rfl)
  have w3 : k0_pay13 (View.readAt (Elt F) arg6.view (Rect.unit (s := S1x4) ![0, 3] S1x1.size inb_S1x4_S1x1_0_3).toLoadRect (harg6.unread x5)) = word x5 3 := by
    rw [View.readAt_eq_ld, harg6.read_unread]
    exact congrArg x5 (funext fun a => by fin_cases a <;> rfl)
  have hp : k0_pay14 x2 = x2 := by unfold k0_pay14; exact shapeCast_self ..
  have en : k0_t1_loop.trips = 16 := by decide
  have em : k0_t2_loop.trips = 10 := by decide
  rw [View.readCov_unit_zero (S := S1x471) _ hz, e0, e1, e2, e3, e4, es, w0, w1, w2, w3, hp, fold_iterate, fold_iterate, en, em]
  rfl

variable (m : (ℓ : Loc nD τ sig) → Buf (Elt F) ℓ)

/-- The running column sums after point `n`. -/
def sumsK (c : Dev nD) : (n : ℕ) → n < cfg0.N → Vec F S1x471 .f32
  | 0, h => k0_pay2 k0_pay1 (iblk m c 0 ⟨0, h⟩)
  | n + 1, h => k0_pay2 (sumsK c n (Nat.lt_of_succ_lt h)) (iblk m c 0 ⟨n + 1, h⟩)

/-- After the first point the accumulator holds that block's column sums. -/
theorem sums_A (c : Dev nD) (t : Fin cfg0.N) (h0 : t.val % 8 = 0) (h1 : ¬t.val % 8 = 7) :
    (outsAt0 m c t.val t.isLt).2 = k0_pay2 k0_pay1 (iblk m c 0 t) := by
  rw [outsAt0_A m c t h0 h1]
  dsimp only
  exact sout_A ..

/-- After a middle point it has added the block's column sums. -/
theorem sums_B (c : Dev nD) (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (iblk m c 0 t) := by
  rw [outsAt0_B m c t h0 h1]
  dsimp only
  exact sout_B ..

/-- The output buffer after the last point. -/
theorem outs_C (c : Dev nD) (t : Fin cfg0.N) (h0 : ¬t.val % 8 = 0) (h1 : t.val % 8 = 7) :
    (outsAt0 m c t.val t.isLt).1 = outK (iblk m c 1 t) (iblk m c 2 t) (iblk m c 3 t) (iblk m c 4 t) (iblk m c 5 t)
      (k0_pay2 (outsAt0 m c (t.val - 1) (Nat.lt_of_le_of_lt (Nat.sub_le _ _) t.isLt)).2 (iblk m c 0 t)) := by
  rw [outsAt0_C m c t h0 h1]
  dsimp only
  exact out_C ..

/-- The running sums are what the accumulator holds after every point but the last. -/
theorem outsAt_eq (c : Dev nD) : ∀ (n : ℕ) (h : n < cfg0.N), n ≠ 7 → (outsAt0 m c n h).2 = sumsK m c n h
  | 0, h, _ => sums_A m c ⟨0, h⟩ rfl (by simp)
  | n + 1, h, h7 => by
    have hN : cfg0.N = 8 := N_0
    have h0 : ¬(⟨n + 1, h⟩ : Fin cfg0.N).val % 8 = 0 := by dsimp only; omega
    have h1 : ¬(⟨n + 1, h⟩ : Fin cfg0.N).val % 8 = 7 := by dsimp only; omega
    refine (sums_B m c ⟨n + 1, h⟩ h0 h1).trans ?_
    show k0_pay2 (outsAt0 m c n _).2 _ = k0_pay2 (sumsK m c n _) _
    rw [outsAt_eq c n _ (by omega)]

/-- The last point of the grid. -/
def tlast : Fin cfg0.N := ⟨7, by rw [show cfg0.N = 8 from N_0]; decide⟩

/-- The array the kernel leaves. -/
def result (c : Dev nD) : Vec F S1x471 .f32 :=
  outK (iblk m c 1 tlast) (iblk m c 2 tlast) (iblk m c 3 tlast) (iblk m c 4 tlast) (iblk m c 5 tlast) (sumsK m c 7 tlast.isLt)

/-- The output buffer holds it after the last point. -/
theorem outsAt_last (c : Dev nD) : (outsAt0 m c 7 tlast.isLt).1 = result m c := by
  refine (outs_C m c tlast (by decide) (by decide)).trans ?_
  exact congrArg (fun s => outK (iblk m c 1 tlast) (iblk m c 2 tlast) (iblk m c 3 tlast) (iblk m c 4 tlast) (iblk m c 5 tlast)
    (k0_pay2 s (iblk m c 0 tlast))) (outsAt_eq m c 6 (by rw [show cfg0.N = 8 from N_0]; decide) (by decide))

end Cert.KernelIdeal.Body

end
-- ==== Proof.Value.KerLayer.lean ====
/- The kernel's round on rows of real numbers. -/
module

public import proofs.«01_k».proof.Proof.Value.Layer
public import proofs.«01_k».proof.Proof.KernelIdeal.Value

@[expose] public section

noncomputable section

namespace Cert.Value

open Cert.KernelIdeal Cert.KernelIdeal.Gen Cert.KernelIdeal.Body
open Idealize.ShloMosaic

variable (R : Reals) (z u : Fin 471 → ℝ)

/-- The kernel's projection: the multiplier's factor times the inverse times the constraint rows. -/
def projR (a : Fin 64) (i : Fin 471) : ℝ := R.al * ∑ x, R.inv a x * R.q x i

/-- The kernel multiplies by the projection where the multiplier is a product of three. -/
theorem sum_projR (v : Fin 471 → ℝ) (i : Fin 64) :
    ∑ j, v j * projR R i j = R.al * ∑ a, R.inv i a * ∑ j, R.q a j * v j := by
  unfold projR
  simp only [Finset.mul_sum]
  rw [Finset.sum_comm]
  refine Finset.sum_congr rfl fun a _ => Finset.sum_congr rfl fun j _ => ?_
  ring

/-- The kernel's projection from its inverse. -/
theorem pay3_real : k0_pay3 (F := Ideal) (R.al : EReal) (matE R.q) (matE R.inv) (constant S64x471 .f32 0x00000000#32) = matE (projR R) := by
  refine mat_ext fun a i => ?_
  unfold k0_pay3
  pointwise
  simp only [matE_apply, projR, EReal.coe_mul, coe_sum]

/-- The kernel's corrected weights. -/
theorem pay8_real : k0_pay8 (F := Ideal) (R.rho : EReal) (rowE R.w) (matE R.q) (matE (projR R)) (rowE z) (rowE u) = rowE (bR R z u) := by
  refine row_ext fun i => ?_
  unfold k0_pay8
  pointwise
  simp only [word_kappa, rowE_apply, matE_apply]
  rw [bR]
  have h : ∀ x, thR R z u x = ∑ j, (u j - R.rho * (z j - R.w j)) * projR R x j := fun x => (sum_projR R _ x).symm
  simp only [h, EReal.coe_mul, EReal.coe_add, EReal.coe_sub, coe_sum]
  refine congrArg (fun t => (R.w i : EReal) + (kappa : EReal) * t) (Finset.sum_congr rfl fun x _ => mul_comm _ _)

/-- The kernel's weights after the cut. -/
theorem pay9_real : k0_pay9 (F := Ideal) (R.lam : EReal) (R.rho : EReal) (R.mu : EReal) (rowE R.w) (matE R.q) (rowE R.w2) (matE (projR R)) k0_pay4
    (rowE z) (rowE u) = rowE (keepR (coreR R z u)) := by
  refine row_ext fun i => ?_
  unfold k0_pay9 k0_pay4
  rw [pay8_real]
  pointwise
  have h : ∀ x, max ((z x : EReal) - (R.mu : EReal) * ((R.w2 x : EReal) + (R.rho : EReal) * ((z x : EReal) - (bR R z u x : EReal)) + (u x : EReal)
      + ((2 : ℝ) : EReal) * (R.lam : EReal) * (∑ k, (z k : EReal) - 1) + ((2 : ℝ) : EReal) * (R.lam : EReal) * min 0 (z x : EReal))) 0
      = (coreR R z u x : EReal) := fun x => by
    simp only [coreR, EReal.coe_mul, EReal.coe_add, EReal.coe_sub, coe_sum, coe_max, coe_min, EReal.coe_zero, EReal.coe_one]
  simp only [word_two, rowE_apply, Fin.sum_univ_one, h]
  exact (count_keep (fun x => (coreR R z u x : EReal)) i).trans (keep_coe _ i)

/-- The kernel's round. -/
theorem kstep_real (s : (Fin 471 → ℝ) × (Fin 471 → ℝ)) :
    kstep (F := Ideal) (R.lam : EReal) (R.rho : EReal) (R.mu : EReal) (rowE R.w) (matE R.q) (rowE R.w2) (matE (projR R)) (rowE s.1, rowE s.2)
      = (rowE (stepR R s).1, rowE (stepR R s).2) := by
  unfold kstep
  dsimp only
  rw [pay9_real, pay8_real]
  refine Prod.ext rfl (row_ext fun i => ?_)
  unfold k0_pay6
  pointwise
  simp only [rowE_apply, stepR, EReal.coe_mul, EReal.coe_add, EReal.coe_sub]

/-- The kernel's rounds. -/
theorem rounds_real : roundsK (F := Ideal) (R.lam : EReal) (R.rho : EReal) (R.mu : EReal) (rowE R.w) (matE R.q) (rowE R.w2) (matE (projR R))
    = (rowE ((stepR R)^[10] (fun _ => 0, fun _ => 0)).1, rowE ((stepR R)^[10] (fun _ => 0, fun _ => 0)).2) := by
  have h0 : ((k0_pay5 (F := Ideal), k0_pay5 (F := Ideal)) : FVec Ideal S1x471 .f32 × FVec Ideal S1x471 .f32)
      = (rowE fun _ => 0, rowE fun _ => 0) := by
    have : k0_pay5 (F := Ideal) = rowE fun _ => 0 := by
      refine row_ext fun i => ?_
      unfold k0_pay5
      pointwise
      rfl
    rw [this]
  unfold roundsK
  rw [h0]
  induction 10 with
  | zero => rfl
  | succ k ih => rw [Function.iterate_succ_apply', Function.iterate_succ_apply', ih, kstep_real]

/-- The kernel's last scaling is the reference's. -/
theorem pay7_real (i : Fin 471) : k0_pay7 (F := Ideal) (rowE z) (ix2 0 i)
    = Cert.ReferenceIdeal.Steps.scaleF (F := Ideal) (vecE z) (ix1 i) := by
  unfold k0_pay7 Cert.ReferenceIdeal.Steps.scaleF
  pointwise
  simp only [rowE_apply, vecE_apply, Fin.sum_univ_one]

end Cert.Value
-- ==== Proof.Value.Inverse.lean ====
/- The truncated power series, its doublings and the Newton iteration give one matrix. -/
module

public import proofs.«01_k».proof.Proof.Value.RefLayer
public import proofs.«01_k».proof.Proof.Value.KerLayer

@[expose] public section

noncomputable section

namespace Cert.Value

open Cert.ReferenceIdeal.Steps Cert.Pre_finite_and_untied.Sides
open Cert.KernelIdeal Cert.KernelIdeal.Gen Cert.KernelIdeal.Body
open Idealize.ShloMosaic

/-- The square matrices of the constraint rows. -/
abbrev Sq := Matrix (Fin 64) (Fin 64) ℝ

/-! ### Over the real numbers -/

/-- The remainder of the first term. -/
def remR (g c : Sq) : Sq := 1 - g * c

/-- The sum of the first `n` powers of the remainder. -/
def powersR (g c : Sq) (n : ℕ) : Sq := ∑ i ∈ Finset.range n, remR g c ^ i

/-- The truncated series leaves a power of the remainder. -/
theorem rem_powers (g c : Sq) (n : ℕ) : 1 - g * (c * powersR g c n) = remR g c ^ n := by
  have h := mul_neg_geom_sum (remR g c) n
  have e : 1 - remR g c = g * c := by unfold remR; abel
  rw [e] at h
  unfold powersR
  rw [← Matrix.mul_assoc, h]
  abel

/-- One more step of the series. -/
theorem series_step (g c : Sq) (n : ℕ) :
    c * powersR g c n + c * (1 - g * (c * powersR g c n)) = c * powersR g c (n + 1) := by
  rw [rem_powers, ← Matrix.mul_add]
  unfold powersR
  rw [Finset.sum_range_succ]

/-- Twice as many powers. -/
theorem powers_double (g c : Sq) (n : ℕ) : powersR g c n + powersR g c n * remR g c ^ n = powersR g c (2 * n) := by
  unfold powersR
  rw [two_mul, Finset.sum_range_add, Finset.sum_mul]
  refine congrArg _ (Finset.sum_congr rfl fun i _ => ?_)
  rw [← pow_add, Nat.add_comm]

/-- One more doubling. -/
theorem double_step (g c : Sq) (n : ℕ) :
    c * powersR g c n + c * powersR g c n * remR g c ^ n = c * powersR g c (2 * n) := by
  rw [Matrix.mul_assoc, ← Matrix.mul_add, powers_double]

/-- One more Newton step. -/
theorem newton_step (g c : Sq) (n : ℕ) :
    (2 : ℝ) • (c * powersR g c n) - c * powersR g c n * (g * (c * powersR g c n)) = c * powersR g c (2 * n) := by
  rw [← double_step, ← rem_powers, Matrix.mul_sub, Matrix.mul_one, two_smul]
  abel

/-! ### On tensors of real numbers -/

/-- A matrix among the tensors. -/
abbrev sqE (m : Sq) : (⟨2, ![64, 64]⟩ : Shape).Idx → EReal := matE fun i j => m i j

/-- The matrix of inner products of the constraint rows. -/
def gramR (q : Fin 64 → Fin 471 → ℝ) : Sq := Matrix.of fun i j => ∑ x, q i x * q j x

theorem gramF_real (q : Fin 64 → Fin 471 → ℝ) : gramF (F := Ideal) (matE q) = sqE (gramR q) := by
  refine mat_ext fun i j => ?_
  unfold gramF
  pointwise
  simp only [matE_apply, gramR, Matrix.of_apply, EReal.coe_mul, coe_sum]

theorem dotF_real (a b : Sq) : dotF (F := Ideal) (sqE a) (sqE b) = sqE (a * b) := by
  refine mat_ext fun i j => ?_
  unfold dotF
  pointwise
  simp only [matE_apply, Matrix.mul_apply, EReal.coe_mul, coe_sum]

theorem addf_real (a b : Sq) : addf (F := Ideal) (φ := .f32) (sqE a) (sqE b) = sqE (a + b) := by
  refine mat_ext fun i j => ?_
  pointwise
  simp only [matE_apply, Matrix.add_apply, EReal.coe_add]

theorem subf_real (a b : Sq) : subf (F := Ideal) (φ := .f32) (sqE a) (sqE b) = sqE (a - b) := by
  refine mat_ext fun i j => ?_
  pointwise
  simp only [matE_apply, Matrix.sub_apply, EReal.coe_sub]

theorem eyeF_real : eyeF (F := Ideal) = sqE 1 := by
  refine mat_ext fun i j => ?_
  unfold eyeF
  pointwise
  refine Eq.trans ?_ (congrArg (fun t : ℝ => (t : EReal)) (Matrix.one_apply (i := i) (j := j)).symm)
  have e : IntOp.cmpi .eq (IntOp.addi (BitVec.ofNat 32 ↑i) 0#32) (BitVec.ofNat 32 ↑j) = if i = j then 1#1 else 0#1 := by
    revert i j
    decide +kernel
  rw [e]
  show ((BitVec.toNat _ : ℝ) : EReal) = _
  split <;> simp

/-- The size that both programs scale by: the largest row sum of absolute values. -/
def sizeE (g : Vec Ideal S64x64 .f32) : EReal :=
  Finset.fold max (Ideal.ofBits .f32 4286578688#32)
    (fun x => ∑ x_1, FloatOps.absf (F := Ideal) (φ := .f32) (g (ix2 x x_1))) Finset.univ

/-- The size of a real matrix is a real number, and zero only for the zero matrix. -/
theorem norm_real (g : Sq) : ∃ r : ℝ, sizeE (sqE g) = (r : EReal) ∧ (r = 0 → g = 0) := by
  have hf : ∀ x, ∑ x_1, FloatOps.absf (F := Ideal) (φ := .f32) (sqE g (ix2 x x_1)) = ((∑ y, |g x y| : ℝ) : EReal) := fun x => by
    rw [coe_sum]
    refine Finset.sum_congr rfl fun y _ => ?_
    show max ((g x y : ℝ) : EReal) (-((g x y : ℝ) : EReal)) = _
    rw [← EReal.coe_neg, ← coe_max]
    rfl
  have hs : sizeE (sqE g) = Finset.univ.sup fun x : Fin 64 => ((∑ y, |g x y| : ℝ) : EReal) := by
    unfold sizeE
    simp only [hf, word_bot]
    rfl
  obtain ⟨a, -, ha⟩ := Finset.exists_mem_eq_sup Finset.univ Finset.univ_nonempty fun x : Fin 64 => ((∑ y, |g x y| : ℝ) : EReal)
  refine ⟨_, hs.trans ha, fun h0 => Matrix.ext fun i j => ?_⟩
  have hi : ((∑ y, |g i y| : ℝ) : EReal) ≤ ((∑ y, |g a y| : ℝ) : EReal) := by
    rw [← ha]
    exact Finset.le_sup (f := fun x : Fin 64 => ((∑ y, |g x y| : ℝ) : EReal)) (Finset.mem_univ i)
  rw [EReal.coe_le_coe_iff, h0] at hi
  have hj : |g i j| ≤ ∑ y, |g i y| := Finset.single_le_sum (f := fun y => |g i y|) (fun _ _ => abs_nonneg _) (Finset.mem_univ j)
  exact abs_nonpos_iff.1 (hj.trans hi)

/-- Scaling keeps real entries real: a matrix of size zero is zero, and so are its scaled entries. -/
theorem scaled_real (g : Sq) : ∃ c : Sq, ∀ i j,
    sqE g (ix2 i j) * Ideal.div 1 (sizeE (sqE g) * sizeE (sqE g)) = sqE c (ix2 i j) := by
  obtain ⟨r, hr, hz⟩ := norm_real g
  rw [hr]
  by_cases h : r = 0
  · refine ⟨0, fun i j => ?_⟩
    rw [hz h]
    exact (zero_mul _).trans rfl
  · refine ⟨fun i j => g i j * (1 / (r * r)), fun i j => ?_⟩
    have : Ideal.div 1 ((r : EReal) * (r : EReal)) = ((1 / (r * r) : ℝ) : EReal) := by
      rw [← EReal.coe_mul, Ideal.div_coe (mul_ne_zero h h), one_mul]
    rw [this]
    exact (EReal.coe_mul _ _).symm

/-- The reference's first term at an index. -/
theorem scaledF_apply (g : Vec Ideal S64x64 .f32) (i j : Fin 64) :
    scaledF (F := Ideal) g (ix2 i j) = g (ix2 i j) * Ideal.div 1 (sizeE g * sizeE g) := by
  unfold scaledF normF sizeE
  pointwise

/-- The kernel's inner products at an index. -/
theorem pay16_apply (q : Vec Ideal S64x471 .f32) (i j : Fin 64) :
    k0_pay16 (F := Ideal) q (ix2 i j) = ∑ x, q (ix2 i x) * q (ix2 j x) := by
  unfold k0_pay16
  pointwise

/-- The kernel's first term at an index. -/
theorem pay17_apply (q : Vec Ideal S64x471 .f32) (i j : Fin 64) :
    k0_pay17 (F := Ideal) q (ix2 i j)
      = k0_pay16 (F := Ideal) q (ix2 i j) * Ideal.div 1 (sizeE (k0_pay16 (F := Ideal) q) * sizeE (k0_pay16 (F := Ideal) q)) := by
  unfold k0_pay17 sizeE
  generalize k0_pay16 (F := Ideal) q = g
  pointwise

/-- The kernel's Newton step at an index. -/
theorem pay18_apply (q : Vec Ideal S64x471 .f32) (y : Vec Ideal S64x64 .f32) (i j : Fin 64) :
    k0_pay18 (F := Ideal) q y (ix2 i j) = Ideal.ofBits .f32 1073741824#32 * y (ix2 i j)
      - ∑ x, y (ix2 i x) * ∑ x_1, k0_pay16 (F := Ideal) q (ix2 x x_1) * y (ix2 x_1 j) := by
  unfold k0_pay18
  generalize k0_pay16 (F := Ideal) q = g
  pointwise

/-- The kernel's inner products on real entries. -/
theorem pay16_real (q : Fin 64 → Fin 471 → ℝ) : k0_pay16 (F := Ideal) (matE q) = sqE (gramR q) := by
  refine mat_ext fun i j => ?_
  rw [pay16_apply]
  simp only [matE_apply, gramR, Matrix.of_apply, EReal.coe_mul, coe_sum]

/-- The reference's and the kernel's first terms are one real matrix. -/
theorem first_real (q : Fin 64 → Fin 471 → ℝ) : ∃ c : Sq, scaledF (F := Ideal) (sqE (gramR q)) = sqE c
    ∧ k0_pay17 (F := Ideal) (matE q) = sqE c := by
  obtain ⟨c, hc⟩ := scaled_real (gramR q)
  refine ⟨c, mat_ext fun i j => ?_, mat_ext fun i j => ?_⟩
  · rw [scaledF_apply]
    exact hc i j
  · rw [pay17_apply, pay16_real]
    exact hc i j

/-- The Newton step on real entries. -/
theorem pay18_real (q : Fin 64 → Fin 471 → ℝ) (x : Sq) :
    k0_pay18 (F := Ideal) (matE q) (sqE x) = sqE ((2 : ℝ) • x - x * (gramR q * x)) := by
  refine mat_ext fun i j => ?_
  rw [pay18_apply, pay16_real]
  simp only [word_two, matE_apply, Matrix.sub_apply, Matrix.smul_apply, smul_eq_mul, Matrix.mul_apply,
    EReal.coe_mul, EReal.coe_sub, coe_sum]

/-- The series after `k` steps. -/
theorem seriesF_real (g c : Sq) (hc : scaledF (F := Ideal) (sqE g) = sqE c) :
    ∀ k, seriesF (F := Ideal) (sqE g) k = sqE (c * powersR g c k)
  | 0 => by
    refine mat_ext fun i j => ?_
    unfold seriesF
    pointwise
    simp [matE_apply, powersR]
  | k + 1 => by
    unfold seriesF stepF
    rw [seriesF_real g c hc k, hc, dotF_real, eyeF_real, subf_real, dotF_real, addf_real, series_step]

/-- The inverse and the remainder after `k` doublings. -/
theorem doublingsF_real (q : Fin 64 → Fin 471 → ℝ) (c : Sq) (hc : scaledF (F := Ideal) (sqE (gramR q)) = sqE c) :
    ∀ k, doublingsF (F := Ideal) (matE q) k = (sqE (c * powersR (gramR q) c (2 ^ k)), sqE (remR (gramR q) c ^ 2 ^ k))
  | 0 => by
    unfold doublingsF
    rw [gramF_real, hc, eyeF_real, dotF_real, subf_real]
    simp [powersR, remR]
  | k + 1 => by
    unfold doublingsF
    rw [doublingsF_real q c hc k]
    dsimp only
    rw [dotF_real, dotF_real, addf_real, double_step, ← pow_add, ← two_mul, ← pow_succ']

/-- The Newton iteration after `k` steps. -/
theorem newton_real (q : Fin 64 → Fin 471 → ℝ) (c : Sq) (hc : k0_pay17 (F := Ideal) (matE q) = sqE c) :
    ∀ k, (k0_pay18 (F := Ideal) (matE q))^[k] (k0_pay17 (matE q)) = sqE (c * powersR (gramR q) c (2 ^ k))
  | 0 => by
    rw [Function.iterate_zero_apply, hc]
    simp [powersR]
  | k + 1 => by
    rw [Function.iterate_succ_apply', newton_real q c hc k, pay18_real, newton_step, ← pow_succ']

/-- The three inverses are one real matrix. -/
theorem inverse_real (q : Fin 64 → Fin 471 → ℝ) : ∃ p : Sq, seriesF (F := Ideal) (gramF (matE q)) 65536 = sqE p
    ∧ (doublingsF (F := Ideal) (matE q) 16).1 = sqE p ∧ newtonK (F := Ideal) (matE q) = sqE p := by
  obtain ⟨c, h1, h2⟩ := first_real q
  refine ⟨c * powersR (gramR q) c (2 ^ 16), ?_, ?_, newton_real q c h2 16⟩
  · rw [gramF_real, seriesF_real _ c h1]
    norm_num
  · rw [doublingsF_real q c h1]

end Cert.Value
-- ==== Proof.KernelIdeal.Result.lean ====
/- The kernel's run, read: what its result holds, from the arrays it is given. -/
module

public import proofs.«01_k».proof.Proof.KernelIdeal.Value
public import Idealize.ShloMosaic.Lib.Pipeline.Value
public import Idealize.ShloMosaic.Lib.Pipeline.FrameSuffix
public import Idealize.ShloMosaic.Lib.StableHlo.RunRead

@[expose] public section

set_option maxRecDepth 8192

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL.Sem

variable {F : FTy → Type} [FloatOps F]
variable (m : (ℓ : Loc nD τ sig) → Buf (Elt F) ℓ) (ρ : Dev nD → PrngReg)

/-- The one write-back, at the last point, writes the result: its block is the whole array. -/
theorem flushed_eq (c : Dev nD) (t : Fin cfg0.N) (hf : (cfg0.win 6).flush t = true) :
    (dats m 0 c).flushed 6 t = ((cfg0.win 6).blk t).view.read (Elt F) (result m c) := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6]
  have e := outsAt_last m c
  have hz' : (fun a => win0_6.index t0_7 a * main_v4.ty.shape.size a) = fun _ => 0 := funext fun a => by fin_cases a <;> decide
  exact (congrArg _ e).trans (Memref.read_access_unit_zero (Elt F) main_v4 hz' (fun a => by rw [congrFun hz' a]; simp) (result m c)).symm

/-- So the output array ends holding it. -/
theorem final_o (c : Dev nD) : (dats m 0 c).arrAt 6 cfg0.N = result m c :=
  (dats m 0 c).arrAt_eq_of_cover 6 (result m c) (flushed_eq m c) fun i =>
    ⟨t0_7, (flush0_6 t0_7).mpr rfl, by
      show i ∈ ((View.whole main_v4).slice (win0_6.rect t0_7)).set
      rw [View.set_slice_whole, Rect.mem_set_unit]
      intro a
      have h0 : (i 0 : Nat) < 1 := (i 0).isLt
      have h1 : (i 1 : Nat) < 471 := (i 1).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 471 from by decide +kernel]; omega⟩

/-- The result, a row turned into a vector. -/
abbrev answer (c : Dev nD) : Vec F S471 .f32 := shapeCast S471 (result m c) shapeCasts_S1x471_S471

/-- The host's last line makes a vector of the row. -/
theorem tail_eq (c : Dev nD) : Pipeline.afterTail₀ cfgs (dats m) 0 (V0 m) [hostOps1] c main_v5 = answer m c := by
  unfold Pipeline.afterTail₀
  have e : Pipeline.withArrays spec0 c (V0 m c) (fun w => (dats m 0 c).arrAt w cfg0.N) (Proc.devRef .tc main_v4) = result m c :=
    (Pipeline.withArrays_arr spec0 launch0.win.arr_inj c (V0 m c) _ 6).trans (final_o m c)
  show StableHlo.after hostOps1 _ (Proc.devRef .tc main_v5) = _
  after_reads_simp
  exact congrArg (fun x => shapeCast S471 x shapeCasts_S1x471_S471) e

/-- The run: the result in place, the arguments unchanged. -/
theorem run : θ_run defs (onTc (τ := τ) (main (F := F))) ⟨m, fun _ => 0, ρ⟩ (fun r => ∀ c : Dev nD,
      r.2.mem ((c.tc : Thread nD τ).loc main_v5) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h.1 c).trans (tail_eq m c), h.2 c⟩)
    (θ_run_and ((θ_run defs _ _).mono (fun _ h c => (h c).2 main_v5 (Pipeline.mem_restRefs_of main_v5 (by decide) (by decide))) (run_main m ρ))
      (unchanged m ρ))

/-- The windows that never move read their whole arrays. -/
theorem iblk_1 (c : Dev nD) : (iblk m c 1 tlast : Vec F S64x471 .f32) = m ((c.tc : Thread nD τ).loc main_arg1) := by
  have hz' : (fun a => win0_1.index tlast a * main_arg1.ty.shape.size a) = fun _ => 0 := funext fun a => by fin_cases a <;> decide
  exact (Memref.read_access_unit_zero (Elt F) main_arg1 hz' (fun a => by rw [congrFun hz' a]; simp) (V m c main_arg1)).trans (V_main_arg1 m c)

/-- The weights' matrix. -/
theorem iblk_3 (c : Dev nD) : (iblk m c 3 tlast : Vec F S471x471 .f32) = m ((c.tc : Thread nD τ).loc main_arg8) := by
  have hz' : (fun a => win0_3.index tlast a * main_arg8.ty.shape.size a) = fun _ => 0 := funext fun a => by fin_cases a <;> decide
  exact (Memref.read_access_unit_zero (Elt F) main_arg8 hz' (fun a => by rw [congrFun hz' a]; simp) (V m c main_arg8)).trans (V_main_arg8 m c)

/-- The starting weights, as a row. -/
theorem iblk_2 (c : Dev nD) : (iblk m c 2 tlast : Vec F S1x471 .f32)
    = shapeCast S1x471 (m ((c.tc : Thread nD τ).loc main_arg2)) shapeCasts_S471_S1x471 := by
  have hz' : (fun a => win0_2.index tlast a * main_v0.ty.shape.size a) = fun _ => 0 := funext fun a => by fin_cases a <;> decide
  refine (Memref.read_access_unit_zero (Elt F) main_v0 hz' (fun a => by rw [congrFun hz' a]; simp) (V m c main_v0)).trans ?_
  show StableHlo.after hostOps0 _ (Proc.devRef .tc main_v0) = _
  after_reads_simp
  rfl

/-- The linear layer's offset, as a row. -/
theorem iblk_4 (c : Dev nD) : (iblk m c 4 tlast : Vec F S1x471 .f32)
    = shapeCast S1x471 (m ((c.tc : Thread nD τ).loc main_arg9)) shapeCasts_S471_S1x471 := by
  have hz' : (fun a => win0_4.index tlast a * main_v1.ty.shape.size a) = fun _ => 0 := funext fun a => by fin_cases a <;> decide
  refine (Memref.read_access_unit_zero (Elt F) main_v1 hz' (fun a => by rw [congrFun hz' a]; simp) (V m c main_v1)).trans ?_
  show StableHlo.after hostOps0 _ (Proc.devRef .tc main_v1) = _
  after_reads_simp
  rfl

/-- The four scalars, side by side. -/
theorem iblk_5 (c : Dev nD) : (iblk m c 5 tlast : Vec F S1x4 .f32)
    = shapeCast S1x4 (concatenate S4 0 [⟨S1, (m ((c.tc : Thread nD τ).loc main_arg4) : Vec F S1 .f32)⟩,
        ⟨S1, (m ((c.tc : Thread nD τ).loc main_arg5) : Vec F S1 .f32)⟩, ⟨S1, (m ((c.tc : Thread nD τ).loc main_arg6) : Vec F S1 .f32)⟩,
        ⟨S1, (m ((c.tc : Thread nD τ).loc main_arg7) : Vec F S1 .f32)⟩] concatenates_S1_S1_S1_S1_S4_d0) shapeCasts_S4_S1x4 := by
  have hz' : (fun a => win0_5.index tlast a * main_v3.ty.shape.size a) = fun _ => 0 := funext fun a => by fin_cases a <;> decide
  refine (Memref.read_access_unit_zero (Elt F) main_v3 hz' (fun a => by rw [congrFun hz' a]; simp) (V m c main_v3)).trans ?_
  show StableHlo.after hostOps0 _ (Proc.devRef .tc main_v3) = _
  after_reads_simp
  rfl

/-- Four numbers side by side, read. -/
theorem cat_apply (a b c d : Vec F S1 .f32) (k : Fin 4) :
    concatenate S4 0 [⟨S1, a⟩, ⟨S1, b⟩, ⟨S1, c⟩, ⟨S1, d⟩] concatenates_S1_S1_S1_S1_S4_d0 (ix1 k) = (![a, b, c, d] : Fin 4 → Vec F S1 .f32) k (ix1 0) := by
  fin_cases k
  · exact concatenate_apply_piece (0 : Fin S4.rank) [⟨S1, a⟩, ⟨S1, b⟩, ⟨S1, c⟩, ⟨S1, d⟩] concatenates_S1_S1_S1_S1_S4_d0 (ix1 0) 0
      (show 0 < 4 by decide) S1 a (by rfl) (by rfl) 0 (by rfl) (ix1 0) (fun _ hb => absurd (Subsingleton.elim _ _) hb) (by rfl)
  · exact concatenate_apply_piece (0 : Fin S4.rank) [⟨S1, a⟩, ⟨S1, b⟩, ⟨S1, c⟩, ⟨S1, d⟩] concatenates_S1_S1_S1_S1_S4_d0 (ix1 1) 1
      (show 1 < 4 by decide) S1 b (by rfl) (by rfl) 1 (by rfl) (ix1 0) (fun _ hb => absurd (Subsingleton.elim _ _) hb) (by rfl)
  · exact concatenate_apply_piece (0 : Fin S4.rank) [⟨S1, a⟩, ⟨S1, b⟩, ⟨S1, c⟩, ⟨S1, d⟩] concatenates_S1_S1_S1_S1_S4_d0 (ix1 2) 2
      (show 2 < 4 by decide) S1 c (by rfl) (by rfl) 2 (by rfl) (ix1 0) (fun _ hb => absurd (Subsingleton.elim _ _) hb) (by rfl)
  · exact concatenate_apply_piece (0 : Fin S4.rank) [⟨S1, a⟩, ⟨S1, b⟩, ⟨S1, c⟩, ⟨S1, d⟩] concatenates_S1_S1_S1_S1_S4_d0 (ix1 3) 3
      (show 3 < 4 by decide) S1 d (by rfl) (by rfl) 3 (by rfl) (ix1 0) (fun _ hb => absurd (Subsingleton.elim _ _) hb) (by rfl)

/-- Word 0 of the fifth operand is `α`. -/
theorem word_0 (c : Dev nD) : word (iblk m c 5 tlast : Vec F S1x4 .f32) 0
    = (m ((c.tc : Thread nD τ).loc main_arg4) : Vec F S1 .f32) (ix1 0) := by
  rw [iblk_5]
  unfold word
  rw [shapeCast_apply _ _ (ix2 0 0) (ix1 0) (by decide)]
  exact cat_apply _ _ _ _ 0

/-- Word 1 of the fifth operand is `λ`. -/
theorem word_1 (c : Dev nD) : word (iblk m c 5 tlast : Vec F S1x4 .f32) 1
    = (m ((c.tc : Thread nD τ).loc main_arg5) : Vec F S1 .f32) (ix1 0) := by
  rw [iblk_5]
  unfold word
  rw [shapeCast_apply _ _ (ix2 0 1) (ix1 1) (by decide)]
  exact cat_apply _ _ _ _ 1

/-- Word 2 of the fifth operand is `ρ`. -/
theorem word_2 (c : Dev nD) : word (iblk m c 5 tlast : Vec F S1x4 .f32) 2
    = (m ((c.tc : Thread nD τ).loc main_arg6) : Vec F S1 .f32) (ix1 0) := by
  rw [iblk_5]
  unfold word
  rw [shapeCast_apply _ _ (ix2 0 2) (ix1 2) (by decide)]
  exact cat_apply _ _ _ _ 2

/-- Word 3 of the fifth operand is `μ`. -/
theorem word_3 (c : Dev nD) : word (iblk m c 5 tlast : Vec F S1x4 .f32) 3
    = (m ((c.tc : Thread nD τ).loc main_arg7) : Vec F S1 .f32) (ix1 0) := by
  rw [iblk_5]
  unfold word
  rw [shapeCast_apply _ _ (ix2 0 3) (ix1 3) (by decide)]
  exact cat_apply _ _ _ _ 3

end Cert.KernelIdeal.Body

end
-- ==== Proof.Value.Block.lean ====
/- The kernel's blocks of rows. -/
module

public import proofs.«01_k».proof.Proof.KernelIdeal.Result
public import Idealize.ShloMosaic.Lib.Pointwise

@[expose] public section

set_option maxRecDepth 8192

noncomputable section

namespace Cert.Value

open Cert.KernelIdeal Cert.KernelIdeal.Gen Cert.KernelIdeal.Body
open Idealize.ShloMosaic Idealize.ShloMosaic.TcCoe

variable {F : FTy → Type} [FloatOps F]
variable (m : (ℓ : Loc nD τ sig) → Buf (Elt F) ℓ)

/-- The first window's block at point `t` is the `t`-th group of 512 rows. -/
theorem index_0 (t : Fin cfg0.N) : win0_0.index t 0 = t.val ∧ win0_0.index t 1 = 0 := by
  rcases fin_N0 t with rfl | rfl | rfl | rfl | rfl | rfl | rfl | rfl <;> decide

/-- Row `r` of the block of point `t` is row `512 t + r` of the array. -/
theorem iblk_0 (c : Dev nD) (t : Fin cfg0.N) (r : Fin 512) (j : Fin 471) (h : 512 * t.val + r.val < 4096) :
    (iblk m c 0 t : Vec F S512x471 .f32) (ix2 r j)
      = (m ((c.tc : Thread nD τ).loc main_arg0) : Vec F S4096x471 .f32) (ix2 ⟨512 * t.val + r.val, h⟩ j) := by
  unfold iblk
  rw [View.read_apply]
  show V m c main_arg0 _ = _
  rw [V_main_arg0]
  refine congrArg _ (funext fun a => Fin.ext ?_)
  match a with
  | ⟨0, _⟩ =>
    refine (Pipeline.Window.rect_emb_val win0_0 t (ix2 r j) 0).trans ?_
    rw [(index_0 t).1]
    show t.val * 512 + r.val = 512 * t.val + r.val
    omega
  | ⟨1, _⟩ => exact Pipeline.Window.rect_emb_val_of_index_zero win0_0 t 1 (index_0 t).2 (ix2 r j)

end Cert.Value
-- ==== Proof.Value.Means.lean ====
/- The column means: the kernel's blockwise sums and the reference's mean of all rows. -/
module

public import proofs.«01_k».proof.Proof.Value.Block
public import proofs.«01_k».proof.Proof.Value.Layer

@[expose] public section

set_option maxRecDepth 8192

noncomputable section

namespace Cert.Value

open Cert.KernelIdeal Cert.KernelIdeal.Gen Cert.KernelIdeal.Body
open Idealize.ShloMosaic Idealize.ShloMosaic.TcCoe

/-- One more block of rows, added at an index. -/
theorem pay2_apply (s : Vec Ideal S1x471 .f32) (x : Vec Ideal S512x471 .f32) (j : Fin 471) :
    k0_pay2 (F := Ideal) s x (ix2 0 j) = s (ix2 0 j) + ∑ r, x (ix2 r j) := by
  unfold k0_pay2
  pointwise

/-- The kernel's means at an index. -/
theorem pay15_apply (s : Vec Ideal S1x471 .f32) (lw : Vec Ideal S471x471 .f32) (lb : Vec Ideal S1x471 .f32) (i : Fin 471) :
    k0_pay15 (F := Ideal) s lw lb (ix2 0 i)
      = ∑ x, s (ix2 0 x) * Ideal.ofBits .f32 964689920#32 * lw (ix2 i x) + lb (ix2 0 i) := by
  unfold k0_pay15
  pointwise

/-- The reference's means at an index. -/
theorem w2F_apply (x : Vec Ideal S4096x471 .f32) (lw : Vec Ideal S471x471 .f32) (lb : Vec Ideal S471 .f32) (i : Fin 471) :
    Cert.ReferenceIdeal.Steps.w2F (F := Ideal) x lw lb (ix1 i)
      = Ideal.div (∑ r, (∑ k, x (ix2 r k) * lw (ix2 i k) + lb (ix1 i))) (Ideal.ofBits .f32 1166016512#32) := by
  unfold Cert.ReferenceIdeal.Steps.w2F
  pointwise

/-- The entry of column `j` at row `k`, zero past the last row. -/
def entryR (x : Fin 4096 → Fin 471 → ℝ) (j : Fin 471) (k : ℕ) : ℝ := if h : k < 4096 then x ⟨k, h⟩ j else 0

/-- The column sums. -/
def colR (x : Fin 4096 → Fin 471 → ℝ) (j : Fin 471) : ℝ := ∑ r, x r j

theorem colR_eq (x : Fin 4096 → Fin 471 → ℝ) (j : Fin 471) : ∑ k ∈ Finset.range 4096, entryR x j k = colR x j := by
  rw [Finset.sum_range]
  refine Finset.sum_congr rfl fun r _ => ?_
  unfold entryR
  rw [dif_pos r.isLt]

/-- The block of rows of point `t`. -/
def rows (m : (ℓ : Loc nD τ sig) → Buf (Elt Ideal) ℓ) (c : Dev nD) (t : Fin cfg0.N) : Vec Ideal S512x471 .f32 := iblk m c 0 t

variable (m : (ℓ : Loc nD τ sig) → Buf (Elt Ideal) ℓ) (c : Dev nD) (x : Fin 4096 → Fin 471 → ℝ)

/-- The column sums of the block of point `t`. -/
theorem block_sum (hx : (m ((c.tc : Thread nD τ).loc main_arg0) : Vec Ideal S4096x471 .f32) = matE x) (t : Fin cfg0.N) (j : Fin 471) :
    ∑ r, rows m c t (ix2 r j)
      = ((∑ k ∈ Finset.range 512, entryR x j (512 * t.val + k) : ℝ) : EReal) := by
  have ht : t.val < 8 := t.isLt
  rw [Finset.sum_range, coe_sum]
  refine Finset.sum_congr rfl fun r _ => ?_
  have hr : 512 * t.val + r.val < 4096 := by have := r.isLt; omega
  refine (iblk_0 m c t r j hr).trans ?_
  rw [hx, matE_apply, entryR, dif_pos hr]

/-- The running column sums after point `n`. -/
theorem sumsK_real (hx : (m ((c.tc : Thread nD τ).loc main_arg0) : Vec Ideal S4096x471 .f32) = matE x) :
    ∀ (n : ℕ) (h : n < cfg0.N), sumsK m c n h = rowE fun j => ∑ k ∈ Finset.range (512 * (n + 1)), entryR x j k
  | 0, h => by
    refine row_ext fun j => ?_
    refine (pay2_apply (k0_pay1 (F := Ideal)) (rows m c ⟨0, h⟩) j).trans ?_
    rw [block_sum m c x hx]
    have h0 : k0_pay1 (F := Ideal) (ix2 0 j) = 0 := by
      unfold k0_pay1
      pointwise
    rw [h0, zero_add, rowE_apply]
    simp
  | n + 1, h => by
    refine row_ext fun j => ?_
    refine (pay2_apply (sumsK m c n (Nat.lt_of_succ_lt h)) (rows m c ⟨n + 1, h⟩) j).trans ?_
    rw [block_sum m c x hx, sumsK_real hx n, rowE_apply, rowE_apply, ← EReal.coe_add]
    refine congrArg (fun v : ℝ => (v : EReal)) ?_
    rw [Nat.mul_succ 512 (n + 1), Finset.sum_range_add]

/-- The total of the column sums. -/
theorem total_real (hx : (m ((c.tc : Thread nD τ).loc main_arg0) : Vec Ideal S4096x471 .f32) = matE x) :
    sumsK m c 7 tlast.isLt = rowE (colR x) := by
  refine (sumsK_real m c x hx 7 tlast.isLt).trans ?_
  exact congrArg rowE (funext fun j => colR_eq x j)

/-- The means. -/
def meanR (x : Fin 4096 → Fin 471 → ℝ) (lw : Fin 471 → Fin 471 → ℝ) (lb : Fin 471 → ℝ) (i : Fin 471) : ℝ :=
  (∑ r, (∑ k, x r k * lw i k + lb i)) * (1 / 4096)

/-- The mean of the rows' images is the image of the rows' mean. -/
theorem meanR_eq (lw : Fin 471 → Fin 471 → ℝ) (lb : Fin 471 → ℝ) (i : Fin 471) :
    ∑ k, colR x k * (1 / 4096) * lw i k + lb i = meanR x lw lb i := by
  unfold meanR colR
  rw [Finset.sum_add_distrib, Finset.sum_const, Finset.card_univ, Fintype.card_fin, Finset.sum_comm, add_mul, Finset.sum_mul]
  congr 1
  · refine Finset.sum_congr rfl fun k _ => ?_
    rw [← Finset.sum_mul]
    ring
  · rw [nsmul_eq_mul]
    push_cast
    ring

/-- The kernel's means. -/
theorem pay15_real (lw : Fin 471 → Fin 471 → ℝ) (lb : Fin 471 → ℝ) :
    k0_pay15 (F := Ideal) (rowE (colR x)) (matE lw) (rowE lb) = rowE (meanR x lw lb) := by
  refine row_ext fun i => ?_
  rw [pay15_apply, rowE_apply, rowE_apply, ← meanR_eq]
  simp only [word_row, rowE_apply, matE_apply, EReal.coe_mul, EReal.coe_add, coe_sum]

/-- The reference's means. -/
theorem w2F_real (lw : Fin 471 → Fin 471 → ℝ) (lb : Fin 471 → ℝ) :
    Cert.ReferenceIdeal.Steps.w2F (F := Ideal) (matE x) (matE lw) (vecE lb) = vecE (meanR x lw lb) := by
  refine vec_ext fun i => ?_
  rw [w2F_apply, word_rows, Ideal.div_coe (by norm_num), vecE_apply]
  unfold meanR
  simp only [vecE_apply, matE_apply, EReal.coe_mul, EReal.coe_add, coe_sum]

end Cert.Value
-- ==== Proof.Value.Finite.lean ====
/- Arguments that pass the precondition's test hold real numbers. -/
module

public import proofs.«01_k».proof.Proof.Value.Layer

@[expose] public section

noncomputable section

namespace Cert.Value

open Cert.Pre_finite_and_untied.Sides
open Idealize.ShloMosaic Idealize.ShloMosaic.StableHlo

/-- An extended real of size below infinity is a real number. -/
theorem real_of_lt (a : EReal) (h : FloatOps.cmpf (F := Ideal) (φ := .f32) .olt (max a (-a)) (Ideal.ofBits .f32 2139095040#32) = 1#1) :
    ((a.toReal : ℝ) : EReal) = a := by
  have h' : max a (-a) < ⊤ := by
    by_contra hn
    have : FloatOps.cmpf (F := Ideal) (φ := .f32) .olt (max a (-a)) (Ideal.ofBits .f32 2139095040#32) = 0#1 := by
      rw [word_top]
      show BitVec.ofBool (decide (_ < _)) = 0#1
      simp only [hn, decide_false]
      rfl
    rw [this] at h
    exact absurd h (by decide)
  refine EReal.coe_toReal ?_ ?_
  · rintro rfl
    simp at h'
  · rintro rfl
    simp at h'

/-- Every entry of an array that passes the test is a real number. -/
theorem real_of_bounded {s : Shape} (h : Cert.ReferenceIdeal.S_.BroadcastsInDim s (![] : Fin 0 → Fin s.rank)) (x : Vec Ideal s .f32)
    (hx : boundedF (F := Ideal) h x = fun _ => 1#1) (i : s.Idx) : ((EReal.toReal (x i) : ℝ) : EReal) = x i :=
  real_of_lt _ (congrFun hx i)

/-- A vector that passes the test. -/
theorem vec_real {n : ℕ} (h : Cert.ReferenceIdeal.S_.BroadcastsInDim ⟨1, ![n]⟩ (![] : Fin 0 → Fin 1)) (x : Vec Ideal ⟨1, ![n]⟩ .f32)
    (hx : boundedF (F := Ideal) h x = fun _ => 1#1) : ∃ f : Fin n → ℝ, x = vecE f :=
  ⟨fun i => EReal.toReal (x (ix1 i)), vec_ext fun i => (real_of_bounded h x hx (ix1 i)).symm⟩

/-- A matrix that passes the test. -/
theorem mat_real {k n : ℕ} (h : Cert.ReferenceIdeal.S_.BroadcastsInDim ⟨2, ![k, n]⟩ (![] : Fin 0 → Fin 2)) (x : Vec Ideal ⟨2, ![k, n]⟩ .f32)
    (hx : boundedF (F := Ideal) h x = fun _ => 1#1) : ∃ f : Fin k → Fin n → ℝ, x = matE f :=
  ⟨fun i j => EReal.toReal (x (ix2 i j)), mat_ext fun i j => (real_of_bounded h x hx (ix2 i j)).symm⟩

/-- A vector of one number that passes the test. -/
theorem one_real (h : Cert.ReferenceIdeal.S_.BroadcastsInDim ⟨1, ![1]⟩ (![] : Fin 0 → Fin 1)) (x : Vec Ideal ⟨1, ![1]⟩ .f32)
    (hx : boundedF (F := Ideal) h x = fun _ => 1#1) : ∃ a : ℝ, x = vecE fun _ => a := by
  obtain ⟨f, rfl⟩ := vec_real h x hx
  refine ⟨f 0, congrArg vecE (funext fun i => congrArg f (Subsingleton.elim _ _))⟩

end Cert.Value
-- ==== Proof.Value.Answer.lean ====
/- On real arguments the kernel's answer is the reference's. -/
module

public import proofs.«01_k».proof.Proof.Value.Inverse
public import proofs.«01_k».proof.Proof.Value.Means
public import proofs.«01_k».proof.Proof.Value.Finite

@[expose] public section

set_option maxRecDepth 8192

noncomputable section

namespace Cert.Value

open Cert.ReferenceIdeal.Steps Cert.Pre_finite_and_untied.Sides
open Cert.KernelIdeal Cert.KernelIdeal.Gen Cert.KernelIdeal.Body
open Idealize.ShloMosaic Idealize.ShloMosaic.TcCoe

/-- A vector laid out as a row. -/
theorem row_of_vec (f : Fin 471 → ℝ) (h : S471.ShapeCasts S1x471) : shapeCast S1x471 (vecE f) h = rowE f := by
  refine row_ext fun i => ?_
  pointwise
  rfl

variable (m : (ℓ : Loc nD τ sig) → Buf (Elt Ideal) ℓ) (c : Dev nD)

/-- The kernel's answer on real arguments: the scaled weights after ten layers over the real numbers. -/
theorem answer_real (x : Fin 4096 → Fin 471 → ℝ) (lw : Fin 471 → Fin 471 → ℝ) (lb : Fin 471 → ℝ) (R : Reals)
    (h2 : R.w2 = meanR x lw lb) (hi : newtonK (F := Ideal) (matE R.q) = matE R.inv)
    (e0 : (m ((c.tc : Thread nD τ).loc main_arg0) : Vec Ideal S4096x471 .f32) = matE x)
    (e1 : (m ((c.tc : Thread nD τ).loc main_arg1) : Vec Ideal S64x471 .f32) = matE R.q)
    (e2 : (m ((c.tc : Thread nD τ).loc main_arg2) : Vec Ideal S471 .f32) = vecE R.w)
    (e4 : (m ((c.tc : Thread nD τ).loc main_arg4) : Vec Ideal S1 .f32) = vecE fun _ => R.al)
    (e5 : (m ((c.tc : Thread nD τ).loc main_arg5) : Vec Ideal S1 .f32) = vecE fun _ => R.lam)
    (e6 : (m ((c.tc : Thread nD τ).loc main_arg6) : Vec Ideal S1 .f32) = vecE fun _ => R.rho)
    (e7 : (m ((c.tc : Thread nD τ).loc main_arg7) : Vec Ideal S1 .f32) = vecE fun _ => R.mu)
    (e8 : (m ((c.tc : Thread nD τ).loc main_arg8) : Vec Ideal S471x471 .f32) = matE lw)
    (e9 : (m ((c.tc : Thread nD τ).loc main_arg9) : Vec Ideal S471 .f32) = vecE lb) :
    answer m c = scaleF (F := Ideal) (vecE ((stepR R)^[10] (fun _ => 0, fun _ => 0)).1) := by
  have w0 : word (F := Ideal) (iblk m c 5 tlast : Vec Ideal S1x4 .f32) 0 = (R.al : EReal) := (word_0 m c).trans (congrFun e4 _)
  have w1 : word (F := Ideal) (iblk m c 5 tlast : Vec Ideal S1x4 .f32) 1 = (R.lam : EReal) := (word_1 m c).trans (congrFun e5 _)
  have w2 : word (F := Ideal) (iblk m c 5 tlast : Vec Ideal S1x4 .f32) 2 = (R.rho : EReal) := (word_2 m c).trans (congrFun e6 _)
  have w3 : word (F := Ideal) (iblk m c 5 tlast : Vec Ideal S1x4 .f32) 3 = (R.mu : EReal) := (word_3 m c).trans (congrFun e7 _)
  have b1 := (iblk_1 m c).trans e1
  have b2 := ((iblk_2 m c).trans (congrArg (fun v => shapeCast S1x471 v shapeCasts_S471_S1x471) e2)).trans (row_of_vec _ _)
  have b3 := (iblk_3 m c).trans e8
  have b4 := ((iblk_4 m c).trans (congrArg (fun v => shapeCast S1x471 v shapeCasts_S471_S1x471) e9)).trans (row_of_vec _ _)
  have hr : result m c = k0_pay7 (F := Ideal) (rowE ((stepR R)^[10] (fun _ => 0, fun _ => 0)).1) := by
    unfold result
    rw [b1, b2, b3, b4, total_real m c x e0]
    unfold outK
    rw [w0, w1, w2, w3, hi, pay15_real, ← h2, pay3_real, rounds_real]
  refine vec_ext fun i => ?_
  unfold answer
  rw [hr]
  refine Eq.trans ?_ (pay7_real _ i)
  generalize k0_pay7 (F := Ideal) _ = v
  pointwise

end Cert.Value
-- ==== Proof.Value.Algebraic.lean ====
/- The kernel and the reference compute the same weights, where the precondition holds. -/
module

public import proofs.«01_k».proof.Defs
public import proofs.«01_k».proof.Proof.Value.Answer

@[expose] public section

set_option maxRecDepth 8192

noncomputable section

namespace Cert.Value

open Cert.ReferenceIdeal.Steps Cert.Pre_finite_and_untied.Sides
open Idealize.ShloMosaic Idealize.ShloMosaic.TcCoe

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The precondition, opened on one device: real arguments, and no layer with a tie at the cut. -/
theorem opened (x : Vec Ideal Cert.ReferenceIdeal.S4096x471 .f32) (q : Vec Ideal Cert.ReferenceIdeal.S64x471 .f32)
    (w b1 : Vec Ideal Cert.ReferenceIdeal.S471 .f32) (al lam rho mu : Vec Ideal Cert.ReferenceIdeal.S1 .f32)
    (lw : Vec Ideal Cert.ReferenceIdeal.S471x471 .f32) (lb : Vec Ideal Cert.ReferenceIdeal.S471 .f32)
    (h : (Cert.Pre_finite_and_untied.fn (F := Ideal) x q w b1 al lam rho mu lw lb).1 = (fun _ => 1#1)
      ∧ (Cert.Pre_finite_and_untied.fn (F := Ideal) x q w b1 al lam rho mu lw lb).2.1 = (fun _ => 1#1)
      ∧ (Cert.Pre_finite_and_untied.fn (F := Ideal) x q w b1 al lam rho mu lw lb).2.2.1 = (fun _ => 1#1)
      ∧ (Cert.Pre_finite_and_untied.fn (F := Ideal) x q w b1 al lam rho mu lw lb).2.2.2.1 = (fun _ => 1#1)
      ∧ (Cert.Pre_finite_and_untied.fn (F := Ideal) x q w b1 al lam rho mu lw lb).2.2.2.2.1 = (fun _ => 1#1)
      ∧ (Cert.Pre_finite_and_untied.fn (F := Ideal) x q w b1 al lam rho mu lw lb).2.2.2.2.2.1 = (fun _ => 1#1)
      ∧ (Cert.Pre_finite_and_untied.fn (F := Ideal) x q w b1 al lam rho mu lw lb).2.2.2.2.2.2.1 = (fun _ => 1#1)
      ∧ (Cert.Pre_finite_and_untied.fn (F := Ideal) x q w b1 al lam rho mu lw lb).2.2.2.2.2.2.2.1 = (fun _ => 1#1)
      ∧ (Cert.Pre_finite_and_untied.fn (F := Ideal) x q w b1 al lam rho mu lw lb).2.2.2.2.2.2.2.2.1 = (fun _ => 1#1)
      ∧ (Cert.Pre_finite_and_untied.fn (F := Ideal) x q w b1 al lam rho mu lw lb).2.2.2.2.2.2.2.2.2.1 = (fun _ => 1#1)
      ∧ (Cert.Pre_finite_and_untied.fn (F := Ideal) x q w b1 al lam rho mu lw lb).2.2.2.2.2.2.2.2.2.2.1 = (fun _ => 1#1)
      ∧ (Cert.Pre_finite_and_untied.fn (F := Ideal) x q w b1 al lam rho mu lw lb).2.2.2.2.2.2.2.2.2.2.2.1 = (fun _ => 1#1)
      ∧ (Cert.Pre_finite_and_untied.fn (F := Ideal) x q w b1 al lam rho mu lw lb).2.2.2.2.2.2.2.2.2.2.2.2.1 = (fun _ => 1#1)
      ∧ (Cert.Pre_finite_and_untied.fn (F := Ideal) x q w b1 al lam rho mu lw lb).2.2.2.2.2.2.2.2.2.2.2.2.2.1 = (fun _ => 1#1)
      ∧ (Cert.Pre_finite_and_untied.fn (F := Ideal) x q w b1 al lam rho mu lw lb).2.2.2.2.2.2.2.2.2.2.2.2.2.2.1 = (fun _ => 1#1)
      ∧ (Cert.Pre_finite_and_untied.fn (F := Ideal) x q w b1 al lam rho mu lw lb).2.2.2.2.2.2.2.2.2.2.2.2.2.2.2.1 = (fun _ => 1#1)
      ∧ (Cert.Pre_finite_and_untied.fn (F := Ideal) x q w b1 al lam rho mu lw lb).2.2.2.2.2.2.2.2.2.2.2.2.2.2.2.2.1 = (fun _ => 1#1)
      ∧ (Cert.Pre_finite_and_untied.fn (F := Ideal) x q w b1 al lam rho mu lw lb).2.2.2.2.2.2.2.2.2.2.2.2.2.2.2.2.2.1 = (fun _ => 1#1)
      ∧ (Cert.Pre_finite_and_untied.fn (F := Ideal) x q w b1 al lam rho mu lw lb).2.2.2.2.2.2.2.2.2.2.2.2.2.2.2.2.2.2 = (fun _ => 1#1)) :
    ∃ (xR : Fin 4096 → Fin 471 → ℝ) (lwR : Fin 471 → Fin 471 → ℝ) (lbR : Fin 471 → ℝ) (R : Reals),
      x = matE xR ∧ q = matE R.q ∧ w = vecE R.w ∧ al = (vecE fun _ => R.al) ∧ lam = (vecE fun _ => R.lam)
      ∧ rho = (vecE fun _ => R.rho) ∧ mu = (vecE fun _ => R.mu) ∧ lw = matE lwR ∧ lb = vecE lbR
      ∧ R.w2 = meanR xR lwR lbR ∧ Cert.KernelIdeal.Body.newtonK (F := Ideal) (matE R.q) = matE R.inv
      ∧ seriesF (F := Ideal) (gramF (matE R.q)) 65536 = matE R.inv
      ∧ ∀ i < 10, untiedF (F := Ideal) (wideF (holding R) i) = fun _ => 1#1 := by
  rw [fn_eq] at h
  obtain ⟨hx, hq, hw, hal, hlam, hrho, hmu, hlw, hlb, t0, t1, t2, t3, t4, t5, t6, t7, t8, t9⟩ := h
  obtain ⟨xR, rfl⟩ := mat_real _ x hx
  obtain ⟨qR, rfl⟩ := mat_real _ q hq
  obtain ⟨wR, rfl⟩ := vec_real _ w hw
  obtain ⟨alR, rfl⟩ := one_real _ al hal
  obtain ⟨lamR, rfl⟩ := one_real _ lam hlam
  obtain ⟨rhoR, rfl⟩ := one_real _ rho hrho
  obtain ⟨muR, rfl⟩ := one_real _ mu hmu
  obtain ⟨lwR, rfl⟩ := mat_real _ lw hlw
  obtain ⟨lbR, rfl⟩ := vec_real _ lb hlb
  obtain ⟨p, hs, hd, hn⟩ := inverse_real qR
  have hg : given (F := Ideal) (matE xR) (matE qR) (vecE wR) (vecE fun _ => alR) (vecE fun _ => lamR) (vecE fun _ => rhoR) (vecE fun _ => muR)
      (matE lwR) (vecE lbR) = holding ⟨qR, wR, meanR xR lwR lbR, alR, lamR, rhoR, muR, fun i j => p i j⟩ := by
    unfold given holding
    rw [w2F_real, hd]
  rw [hg] at t0 t1 t2 t3 t4 t5 t6 t7 t8 t9
  refine ⟨xR, lwR, lbR, ⟨qR, wR, meanR xR lwR lbR, alR, lamR, rhoR, muR, fun i j => p i j⟩, rfl, rfl, rfl, rfl, rfl, rfl, rfl, rfl, rfl,
    rfl, hn, hs, fun i hi => ?_⟩
  match i, hi with
  | 0, _ => exact t0
  | 1, _ => exact t1
  | 2, _ => exact t2
  | 3, _ => exact t3
  | 4, _ => exact t4
  | 5, _ => exact t5
  | 6, _ => exact t6
  | 7, _ => exact t7
  | 8, _ => exact t8
  | 9, _ => exact t9
  | k + 10, h => exact absurd h (by omega)

/-- The kernel's answer is the reference's result. -/
theorem agree (h : Cert.Pre_KernelIdeal_finite_and_untied m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    scaleF (F := Ideal) (layersF (inputs m' c) 10).1 = Cert.KernelIdeal.Body.answer m c := by
  obtain ⟨xR, lwR, lbR, R, h0, h1, h2, h4, h5, h6, h7, h8, h9, hm, hn, hs, hu⟩ := opened _ _ _ _ _ _ _ _ _ _ (h c)
  obtain ⟨e0, e1, e2, -, e4, e5, e6, e7, e8, e9⟩ := e
  have hin : inputs m' c = holding R := by
    show (⟨m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2),
      w2F (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)),
      m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7),
      seriesF (gramF (m' ((c.tc : Thread Cert.ReferenceIdeal.nD Cert.ReferenceIdeal.τ).loc Cert.ReferenceIdeal.main_arg1))) 65536⟩ : Inputs Ideal) = _
    have a0 := e0.trans h0
    have a1 := e1.trans h1
    have a2 := e2.trans h2
    have a4 := e4.trans h4
    have a5 := e5.trans h5
    have a6 := e6.trans h6
    have a7 := e7.trans h7
    have a8 := e8.trans h8
    have a9 := e9.trans h9
    rw [a0, a1, a2, a4, a5, a6, a7, a8, a9, w2F_real, hs, ← hm]
    rfl
  rw [hin, layersF_real R 10 hu]
  exact (answer_real m c xR lwR lbR R hm hn h0 h1 h2 h4 h5 h6 h7 h8 h9).symm

/-- The kernel's weights and the reference's are the same arrays. -/
theorem algebraic : Cert.algebraic_KernelIdeal_ReferenceIdeal_pre_finite_and_untied := by
  intro m g m' g' h e
  refine ⟨fun c => Cert.KernelIdeal.Body.answer m c, Cert.KernelIdeal.Body.run m g, ?_⟩
  refine (θ_run (Cert.ReferenceIdeal.defs (F := Ideal)) _ _).mono (fun r hr c => ?_) (Cert.ReferenceIdeal.Steps.run m' g')
  exact ⟨(hr c).1.trans (agree m m' h c (e c)), (hr c).2⟩

end Cert.Value
-- ==== Proof.lean ====
module

public import proofs.«01_k».proof.Defs
public import proofs.«01_k».proof.Proof.Kernel.Frame
public import proofs.«01_k».proof.Proof.KernelIdeal.Frame
public import proofs.«01_k».proof.Proof.Reference.Final
public import proofs.«01_k».proof.Proof.Pre.Facts
public import proofs.«01_k».proof.Proof.Value.Algebraic

@[expose] public section

/-- Everything the certificate claims. -/
theorem Cert.Proof.claim : Cert.Claim :=
  ⟨Cert.Kernel.Gen.facts, Cert.KernelIdeal.Gen.facts, Cert.ReferenceIdeal.Gen.facts, Cert.Pre_finite_and_untied.Sides.facts,
    fun m g _ => Cert.Kernel.Body.frame m g, fun m g _ => Cert.KernelIdeal.Body.frame m g,
    fun m g _ => Cert.KernelIdeal.Body.frame m g, fun m g _ => Cert.ReferenceIdeal.Steps.frame m g,
    fun m g _ => Cert.ReferenceIdeal.Steps.frame m g, trivial, Cert.Value.algebraic⟩

end
